-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sorted_finite [hPre_sorted_finite : Cert.Pre_sorted_finite.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_finite [hPre_sorted_finite : Cert.Pre_sorted_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_sorted_finite [hKernelIdeal : Cert.KernelIdeal.Facts] [hPre_sorted_finite : Cert.Pre_sorted_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_sorted_finite [hReferenceIdeal : Cert.ReferenceIdeal.Facts] [hPre_sorted_finite : Cert.Pre_sorted_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "step" .f32 0x3C820821#32 ((1 / 63 : ℝ) : EReal)
  ∧ IdealRules.named_const.Statement Cert.KernelIdeal.κ "exp_lo" .f32 0xC2200000#32 ⊥
  ∧ IdealRules.named_const.Statement Cert.KernelIdeal.κ "exp_hi" .f32 0x42200000#32 ⊤

def algebraic_KernelIdeal_ReferenceIdeal_pre_sorted_finite [hKernelIdeal : Cert.KernelIdeal.Facts] [hReferenceIdeal : Cert.ReferenceIdeal.Facts] [hPre_sorted_finite : Cert.Pre_sorted_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v666) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_sorted_finite : Cert.Pre_sorted_finite.Facts),
    quiescent_Kernel (hKernel := hKernel)
    ∧ quiescent_KernelIdeal (hKernelIdeal := hKernelIdeal)
    ∧ quiescent_KernelIdeal_pre_sorted_finite (hKernelIdeal := hKernelIdeal) (hPre_sorted_finite := hPre_sorted_finite)
    ∧ quiescent_ReferenceIdeal (hReferenceIdeal := hReferenceIdeal)
    ∧ quiescent_ReferenceIdeal_pre_sorted_finite (hReferenceIdeal := hReferenceIdeal) (hPre_sorted_finite := hPre_sorted_finite)
    ∧ preserves_Kernel_KernelIdeal
    ∧ algebraic_KernelIdeal_ReferenceIdeal_pre_sorted_finite (hKernelIdeal := hKernelIdeal) (hReferenceIdeal := hReferenceIdeal) (hPre_sorted_finite := hPre_sorted_finite)
-- ==== Pre_sorted_finite.lean ====
abbrev S16384x3 : Shape := ⟨2, ![16384, 3]⟩
abbrev S16384x1 : Shape := ⟨2, ![16384, 1]⟩
abbrev S3x256 : Shape := ⟨2, ![3, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  reducesTo_S16384x1_S_d0_1 : S16384x1.ReducesTo [0, 1] S_
  h_S_ : 0 < S_.numel
  bcast_S_S16384x1 : S_.BroadcastsInDim S16384x1 (![] : Fin 0 → Fin S16384x1.rank)
  bcast_S_S16384x3 : S_.BroadcastsInDim S16384x3 (![] : Fin 0 → Fin S16384x3.rank)
  reducesTo_S16384x3_S_d0_1 : S16384x3.ReducesTo [0, 1] S_
  bcast_S_S3x256 : S_.BroadcastsInDim S3x256 (![] : Fin 0 → Fin S3x256.rank)
  reducesTo_S3x256_S_d0_1 : S3x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v31 : IVec S_ 1) (main_v32 : FVec F S256x1 .f32) (main_v33 : FVec F S256x1 .f32) : IVec S_ 1 :=
  let main_v34 : IVec S256x1 1 := cmpf .olt main_v32 main_v33
  let main_c_12 : IVec S_ 1 := constantI S_ 1 1#1
  let main_v35 : IVec S_ 1 := (fun x v => Host.reduce IntOp.andi x v reducesTo_S256x1_S_d0_1 h_S_) main_v34 main_c_12
  let main_v36 : IVec S_ 1 := andi main_v31 main_v35
  let main_v37 : FVec F S1 .f32 := Host.absf main_arg7
  let main_cst_13 : FVec F S_ .f32 := constant S_ .f32 0x7F800000#32
  let main_v38 : FVec F S1 .f32 := broadcastInDim S1 ![] bcast_S_S1 main_cst_13
  let main_v39 : IVec S1 1 := cmpf .olt main_v37 main_v38
  let main_c_14 : IVec S_ 1 := constantI S_ 1 1#1
  let main_v40 : IVec S_ 1 := (fun x v => Host.reduce IntOp.andi x v reducesTo_S1_S_d0 h_S_) main_v39 main_c_14
  let main_v41 : IVec S_ 1 := andi main_v36 main_v40
  main_v41

def fn_part1 {F : FTy → Type} [FloatOps F] (main_arg3 : FVec F S16384x1 .f32) (main_arg4 : FVec F S3x256 .f32) (main_arg5 : FVec F S256 .f32) (main_arg6 : FVec F S256x1 .f32) (main_arg7 : FVec F S1 .f32) (main_v16 : IVec S_ 1) : IVec S_ 1 :=
  let main_v17 : FVec F S16384x1 .f32 := Host.absf main_arg3
  let main_cst_5 : FVec F S_ .f32 := constant S_ .f32 0x7F800000#32
  let main_v18 : FVec F S16384x1 .f32 := broadcastInDim S16384x1 ![] bcast_S_S16384x1 main_cst_5
  let main_v19 : IVec S16384x1 1 := cmpf .olt main_v17 main_v18
  let main_c_6 : IVec S_ 1 := constantI S_ 1 1#1
  let main_v20 : IVec S_ 1 := (fun x v => Host.reduce IntOp.andi x v reducesTo_S16384x1_S_d0_1 h_S_) main_v19 main_c_6
  let main_v21 : IVec S_ 1 := andi main_v16 main_v20
  let main_v22 : FVec F S3x256 .f32 := Host.absf main_arg4
  let main_cst_7 : FVec F S_ .f32 := constant S_ .f32 0x7F800000#32
  let main_v23 : FVec F S3x256 .f32 := broadcastInDim S3x256 ![] bcast_S_S3x256 main_cst_7
  let main_v24 : IVec S3x256 1 := cmpf .olt main_v22 main_v23
  let main_c_8 : IVec S_ 1 := constantI S_ 1 1#1
  let main_v25 : IVec S_ 1 := (fun x v => Host.reduce IntOp.andi x v reducesTo_S3x256_S_d0_1 h_S_) main_v24 main_c_8
  let main_v26 : IVec S_ 1 := andi main_v21 main_v25
  let main_v27 : FVec F S256 .f32 := Host.absf main_arg5
  let main_cst_9 : FVec F S_ .f32 := constant S_ .f32 0x7F800000#32
  let main_v28 : FVec F S256 .f32 := broadcastInDim S256 ![] bcast_S_S256 main_cst_9
  let main_v29 : IVec S256 1 := cmpf .olt main_v27 main_v28
  let main_c_10 : IVec S_ 1 := constantI S_ 1 1#1
  let main_v30 : IVec S_ 1 := (fun x v => Host.reduce IntOp.andi x v reducesTo_S256_S_d0 h_S_) main_v29 main_c_10
  let main_v31 : IVec S_ 1 := andi main_v26 main_v30
  let main_v32 : FVec F S256x1 .f32 := Host.absf main_arg6
  let main_cst_11 : FVec F S_ .f32 := constant S_ .f32 0x7F800000#32
  let main_v33 : FVec F S256x1 .f32 := broadcastInDim S256x1 ![] bcast_S_S256x1 main_cst_11
  fn_part2 (F := F) main_arg7 main_v31 main_v32 main_v33

def fn {F : FTy → Type} [FloatOps F] (main_arg0 : FVec F S16384x3 .f32) (main_arg1 : FVec F S16384x3 .f32) (main_arg2 : FVec F S16384x1 .f32) (main_arg3 : FVec F S16384x1 .f32) (main_arg4 : FVec F S3x256 .f32) (main_arg5 : FVec F S256 .f32) (main_arg6 : FVec F S256x1 .f32) (main_arg7 : FVec F S1 .f32) : IVec S_ 1 :=
  let main_v0 : IVec S16384x1 1 := cmpf .ole main_arg2 main_arg3
  let main_c : IVec S_ 1 := constantI S_ 1 1#1
  let main_v1 : IVec S_ 1 := (fun x v => Host.reduce IntOp.andi x v reducesTo_S16384x1_S_d0_1 h_S_) main_v0 main_c
  let main_v2 : FVec F S16384x1 .f32 := Host.absf main_arg2
  let main_cst : FVec F S_ .f32 := constant S_ .f32 0x7F800000#32
  let main_v3 : FVec F S16384x1 .f32 := broadcastInDim S16384x1 ![] bcast_S_S16384x1 main_cst
  let main_v4 : IVec S16384x1 1 := cmpf .olt main_v2 main_v3
  let main_c_0 : IVec S_ 1 := constantI S_ 1 1#1
  let main_v5 : IVec S_ 1 := (fun x v => Host.reduce IntOp.andi x v reducesTo_S16384x1_S_d0_1 h_S_) main_v4 main_c_0
  let main_v6 : IVec S_ 1 := andi main_v1 main_v5
  let main_v7 : FVec F S16384x3 .f32 := Host.absf main_arg0
  let main_cst_1 : FVec F S_ .f32 := constant S_ .f32 0x7F800000#32
  let main_v8 : FVec F S16384x3 .f32 := broadcastInDim S16384x3 ![] bcast_S_S16384x3 main_cst_1
  let main_v9 : IVec S16384x3 1 := cmpf .olt main_v7 main_v8
  let main_c_2 : IVec S_ 1 := constantI S_ 1 1#1
  let main_v10 : IVec S_ 1 := (fun x v => Host.reduce IntOp.andi x v reducesTo_S16384x3_S_d0_1 h_S_) main_v9 main_c_2
  let main_v11 : IVec S_ 1 := andi main_v6 main_v10
  let main_v12 : FVec F S16384x3 .f32 := Host.absf main_arg1
  let main_cst_3 : FVec F S_ .f32 := constant S_ .f32 0x7F800000#32
  let main_v13 : FVec F S16384x3 .f32 := broadcastInDim S16384x3 ![] bcast_S_S16384x3 main_cst_3
  let main_v14 : IVec S16384x3 1 := cmpf .olt main_v12 main_v13
  let main_c_4 : IVec S_ 1 := constantI S_ 1 1#1
  let main_v15 : IVec S_ 1 := (fun x v => Host.reduce IntOp.andi x v reducesTo_S16384x3_S_d0_1 h_S_) main_v14 main_c_4
  let main_v16 : IVec S_ 1 := andi main_v11 main_v15
  fn_part1 (F := F) main_arg3 main_arg4 main_arg5 main_arg6 main_arg7 main_v16
-- ==== Kernel.lean ====
abbrev S16384x3 : Shape := ⟨2, ![16384, 3]⟩
abbrev S16384x1 : Shape := ⟨2, ![16384, 1]⟩
abbrev S3x256 : Shape := ⟨2, ![3, 256]⟩
abbrev S256 : Shape := ⟨1, ![256]⟩
abbrev S256x1 : Shape := ⟨2, ![256, 1]⟩
abbrev S1 : Shape := ⟨1, ![1]⟩
abbrev S_ : Shape := ⟨0, ![]⟩
abbrev S16384x5 : Shape := ⟨2, ![16384, 5]⟩
abbrev S16384x8 : Shape := ⟨2, ![16384, 8]⟩
abbrev S16384x6 : Shape := ⟨2, ![16384, 6]⟩
abbrev S5x256 : Shape := ⟨2, ![5, 256]⟩
abbrev S8x256 : Shape := ⟨2, ![8, 256]⟩
abbrev S1x256 : Shape := ⟨2, ![1, 256]⟩
abbrev S1x1 : Shape := ⟨2, ![1, 1]⟩
abbrev S16384x128 : Shape := ⟨2, ![16384, 128]⟩
abbrev S128x8 : Shape := ⟨2, ![128, 8]⟩
abbrev S128x128 : Shape := ⟨2, ![128, 128]⟩
abbrev S128x1 : Shape := ⟨2, ![128, 1]⟩
abbrev S128x256 : Shape := ⟨2, ![128, 256]⟩
abbrev S128 : Shape := ⟨1, ![128]⟩
abbrev S128x1x256 : Shape := ⟨3, ![128, 1, 256]⟩
abbrev S1x1x256 : Shape := ⟨3, ![1, 1, 256]⟩
abbrev S1x64 : Shape := ⟨2, ![1, 64]⟩
abbrev S128x64 : Shape := ⟨2, ![128, 64]⟩
abbrev S128x64x1 : Shape := ⟨3, ![128, 64, 1]⟩
abbrev S128x64x256 : Shape := ⟨3, ![128, 64, 256]⟩
abbrev S128x63 : Shape := ⟨2, ![128, 63]⟩
abbrev S128x62 : Shape := ⟨2, ![128, 62]⟩
abbrev S128x2 : Shape := ⟨2, ![128, 2]⟩
abbrev S128x61 : Shape := ⟨2, ![128, 61]⟩
abbrev S128x4 : Shape := ⟨2, ![128, 4]⟩
abbrev S128x59 : Shape := ⟨2, ![128, 59]⟩
abbrev S128x55 : Shape := ⟨2, ![128, 55]⟩
abbrev S128x16 : Shape := ⟨2, ![128, 16]⟩
abbrev S128x47 : Shape := ⟨2, ![128, 47]⟩
abbrev S128x32 : Shape := ⟨2, ![128, 32]⟩
abbrev S128x31 : Shape := ⟨2, ![128, 31]⟩
abbrev S63x63 : Shape := ⟨2, ![63, 63]⟩
abbrev S1x16x1 : Shape := ⟨3, ![1, 16, 1]⟩
abbrev S128x1x63 : Shape := ⟨3, ![128, 1, 63]⟩
abbrev S128x16x63 : Shape := ⟨3, ![128, 16, 63]⟩
abbrev S1x16 : Shape := ⟨2, ![1, 16]⟩
abbrev S128x16x1 : Shape := ⟨3, ![128, 16, 1]⟩
abbrev S128x16x256 : Shape := ⟨3, ![128, 16, 256]⟩
abbrev S1x80 : Shape := ⟨2, ![1, 80]⟩
abbrev S128x1x64 : Shape := ⟨3, ![128, 1, 64]⟩
abbrev S128x16x64 : Shape := ⟨3, ![128, 16, 64]⟩
abbrev S1x1x80 : Shape := ⟨3, ![1, 1, 80]⟩
abbrev S128x16x80 : Shape := ⟨3, ![128, 16, 80]⟩
abbrev S128x80 : Shape := ⟨2, ![128, 80]⟩
abbrev S80x80 : Shape := ⟨2, ![80, 80]⟩
abbrev S128x79 : Shape := ⟨2, ![128, 79]⟩
abbrev S128x78 : Shape := ⟨2, ![128, 78]⟩
abbrev S128x3 : Shape := ⟨2, ![128, 3]⟩
abbrev S128x77 : Shape := ⟨2, ![128, 77]⟩
abbrev S128x76 : Shape := ⟨2, ![128, 76]⟩
abbrev S128x5 : Shape := ⟨2, ![128, 5]⟩
abbrev S128x75 : Shape := ⟨2, ![128, 75]⟩
abbrev S128x6 : Shape := ⟨2, ![128, 6]⟩
abbrev S128x74 : Shape := ⟨2, ![128, 74]⟩
abbrev S128x7 : Shape := ⟨2, ![128, 7]⟩
abbrev S128x73 : Shape := ⟨2, ![128, 73]⟩
abbrev S128x72 : Shape := ⟨2, ![128, 72]⟩
abbrev S128x9 : Shape := ⟨2, ![128, 9]⟩
abbrev S128x71 : Shape := ⟨2, ![128, 71]⟩
abbrev S128x10 : Shape := ⟨2, ![128, 10]⟩
abbrev S128x70 : Shape := ⟨2, ![128, 70]⟩
abbrev S128x11 : Shape := ⟨2, ![128, 11]⟩
abbrev S128x69 : Shape := ⟨2, ![128, 69]⟩
abbrev S128x12 : Shape := ⟨2, ![128, 12]⟩
abbrev S128x68 : Shape := ⟨2, ![128, 68]⟩
abbrev S128x13 : Shape := ⟨2, ![128, 13]⟩
abbrev S128x67 : Shape := ⟨2, ![128, 67]⟩
abbrev S128x14 : Shape := ⟨2, ![128, 14]⟩
abbrev S128x66 : Shape := ⟨2, ![128, 66]⟩
abbrev S128x15 : Shape := ⟨2, ![128, 15]⟩
abbrev S128x65 : Shape := ⟨2, ![128, 65]⟩
abbrev S79x79 : Shape := ⟨2, ![79, 79]⟩
abbrev S128x1x79 : Shape := ⟨3, ![128, 1, 79]⟩
abbrev S128x16x79 : Shape := ⟨3, ![128, 16, 79]⟩
abbrev S1x96 : Shape := ⟨2, ![1, 96]⟩
abbrev S128x1x80 : Shape := ⟨3, ![128, 1, 80]⟩
abbrev S1x1x96 : Shape := ⟨3, ![1, 1, 96]⟩
abbrev S128x16x96 : Shape := ⟨3, ![128, 16, 96]⟩
abbrev S128x96 : Shape := ⟨2, ![128, 96]⟩
abbrev S96x96 : Shape := ⟨2, ![96, 96]⟩
abbrev S128x95 : Shape := ⟨2, ![128, 95]⟩
abbrev S128x94 : Shape := ⟨2, ![128, 94]⟩
abbrev S128x93 : Shape := ⟨2, ![128, 93]⟩
abbrev S128x92 : Shape := ⟨2, ![128, 92]⟩
abbrev S128x91 : Shape := ⟨2, ![128, 91]⟩
abbrev S128x90 : Shape := ⟨2, ![128, 90]⟩
abbrev S128x89 : Shape := ⟨2, ![128, 89]⟩
abbrev S128x88 : Shape := ⟨2, ![128, 88]⟩
abbrev S128x87 : Shape := ⟨2, ![128, 87]⟩
abbrev S128x86 : Shape := ⟨2, ![128, 86]⟩
abbrev S128x85 : Shape := ⟨2, ![128, 85]⟩
abbrev S128x84 : Shape := ⟨2, ![128, 84]⟩
abbrev S128x83 : Shape := ⟨2, ![128, 83]⟩
abbrev S128x82 : Shape := ⟨2, ![128, 82]⟩
abbrev S128x81 : Shape := ⟨2, ![128, 81]⟩
abbrev S95x95 : Shape := ⟨2, ![95, 95]⟩
abbrev S128x1x95 : Shape := ⟨3, ![128, 1, 95]⟩
abbrev S128x16x95 : Shape := ⟨3, ![128, 16, 95]⟩
abbrev S1x112 : Shape := ⟨2, ![1, 112]⟩
abbrev S128x1x96 : Shape := ⟨3, ![128, 1, 96]⟩
abbrev S1x1x112 : Shape := ⟨3, ![1, 1, 112]⟩
abbrev S128x16x112 : Shape := ⟨3, ![128, 16, 112]⟩
abbrev S128x112 : Shape := ⟨2, ![128, 112]⟩
abbrev S112x112 : Shape := ⟨2, ![112, 112]⟩
abbrev S128x111 : Shape := ⟨2, ![128, 111]⟩
abbrev S128x110 : Shape := ⟨2, ![128, 110]⟩
abbrev S128x109 : Shape := ⟨2, ![128, 109]⟩
abbrev S128x108 : Shape := ⟨2, ![128, 108]⟩
abbrev S128x107 : Shape := ⟨2, ![128, 107]⟩
abbrev S128x106 : Shape := ⟨2, ![128, 106]⟩
abbrev S128x105 : Shape := ⟨2, ![128, 105]⟩
abbrev S128x104 : Shape := ⟨2, ![128, 104]⟩
abbrev S128x103 : Shape := ⟨2, ![128, 103]⟩
abbrev S128x102 : Shape := ⟨2, ![128, 102]⟩
abbrev S128x101 : Shape := ⟨2, ![128, 101]⟩
abbrev S128x100 : Shape := ⟨2, ![128, 100]⟩
abbrev S128x99 : Shape := ⟨2, ![128, 99]⟩
abbrev S128x98 : Shape := ⟨2, ![128, 98]⟩
abbrev S128x97 : Shape := ⟨2, ![128, 97]⟩
abbrev S111x111 : Shape := ⟨2, ![111, 111]⟩
abbrev S128x1x111 : Shape := ⟨3, ![128, 1, 111]⟩
abbrev S128x16x111 : Shape := ⟨3, ![128, 16, 111]⟩
abbrev S1x128 : Shape := ⟨2, ![1, 128]⟩
abbrev S128x1x112 : Shape := ⟨3, ![128, 1, 112]⟩
abbrev S1x1x128 : Shape := ⟨3, ![1, 1, 128]⟩
abbrev S128x16x128 : Shape := ⟨3, ![128, 16, 128]⟩
abbrev S128x127 : Shape := ⟨2, ![128, 127]⟩
abbrev S128x126 : Shape := ⟨2, ![128, 126]⟩
abbrev S128x125 : Shape := ⟨2, ![128, 125]⟩
abbrev S128x124 : Shape := ⟨2, ![128, 124]⟩
abbrev S128x123 : Shape := ⟨2, ![128, 123]⟩
abbrev S128x122 : Shape := ⟨2, ![128, 122]⟩
abbrev S128x121 : Shape := ⟨2, ![128, 121]⟩
abbrev S128x120 : Shape := ⟨2, ![128, 120]⟩
abbrev S128x119 : Shape := ⟨2, ![128, 119]⟩
abbrev S128x118 : Shape := ⟨2, ![128, 118]⟩
abbrev S128x117 : Shape := ⟨2, ![128, 117]⟩
abbrev S128x116 : Shape := ⟨2, ![128, 116]⟩
abbrev S128x115 : Shape := ⟨2, ![128, 115]⟩
abbrev S128x114 : Shape := ⟨2, ![128, 114]⟩
abbrev S128x113 : Shape := ⟨2, ![128, 113]⟩

abbrev nBuf : Space → Nat
  | .hbm => 24
  | .vmem => 11
  | .smem => 1
  | _ => 0

abbrev bufTy : (tb : Table) → Fin (tcTables nBuf tb) → BufTy
  | .hbm, ⟨0, _⟩ => ⟨S16384x3, .f32⟩
  | .hbm, ⟨1, _⟩ => ⟨S16384x3, .f32⟩
  | .hbm, ⟨2, _⟩ => ⟨S16384x1, .f32⟩
  | .hbm, ⟨3, _⟩ => ⟨S16384x1, .f32⟩
  | .hbm, ⟨4, _⟩ => ⟨S3x256, .f32⟩
  | .hbm, ⟨5, _⟩ => ⟨S256, .f32⟩
  | .hbm, ⟨6, _⟩ => ⟨S256x1, .f32⟩
  | .hbm, ⟨7, _⟩ => ⟨S1, .f32⟩
  | .hbm, ⟨8, _⟩ => ⟨S_, .f32⟩
  | .hbm, ⟨9, _⟩ => ⟨S16384x5, .f32⟩
  | .hbm, ⟨10, _⟩ => ⟨S16384x8, .f32⟩
  | .hbm, ⟨11, _⟩ => ⟨S_, .f32⟩
  | .hbm, ⟨12, _⟩ => ⟨S16384x5, .f32⟩
  | .hbm, ⟨13, _⟩ => ⟨S16384x8, .f32⟩
  | .hbm, ⟨14, _⟩ => ⟨S_, .f32⟩
  | .hbm, ⟨15, _⟩ => ⟨S16384x6, .f32⟩
  | .hbm, ⟨16, _⟩ => ⟨S16384x8, .f32⟩
  | .hbm, ⟨17, _⟩ => ⟨S_, .f32⟩
  | .hbm, ⟨18, _⟩ => ⟨S5x256, .f32⟩
  | .hbm, ⟨19, _⟩ => ⟨S8x256, .f32⟩
  | .hbm, ⟨20, _⟩ => ⟨S1x256, .f32⟩
  | .hbm, ⟨21, _⟩ => ⟨S1x256, .f32⟩
  | .hbm, ⟨22, _⟩ => ⟨S1x1, .f32⟩
  | .hbm, ⟨23, _⟩ => ⟨S16384x128, .f32⟩
  | .local _ .vmem, ⟨0, _⟩ => ⟨S128x8, .f32⟩
  | .local _ .vmem, ⟨1, _⟩ => ⟨S128x8, .f32⟩
  | .local _ .vmem, ⟨2, _⟩ => ⟨S128x8, .f32⟩
  | .local _ .vmem, ⟨3, _⟩ => ⟨S128x8, .f32⟩
  | .local _ .vmem, ⟨4, _⟩ => ⟨S128x8, .f32⟩
  | .local _ .vmem, ⟨5, _⟩ => ⟨S128x8, .f32⟩
  | .local _ .vmem, ⟨6, _⟩ => ⟨S8x256, .f32⟩
  | .local _ .vmem, ⟨7, _⟩ => ⟨S1x256, .f32⟩
  | .local _ .vmem, ⟨8, _⟩ => ⟨S1x256, .f32⟩
  | .local _ .vmem, ⟨9, _⟩ => ⟨S128x128, .f32⟩
  | .local _ .vmem, ⟨10, _⟩ => ⟨S128x128, .f32⟩
  | .local _ .smem, ⟨0, _⟩ => ⟨S1x1, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg6_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "exp_hi" => some ⊤
  | "exp_lo" => some ⊥
  | "step" => some ((1 / 63 : ℝ) : EReal)
  | _ => none
-- ==== ReferenceIdeal.lean ====
abbrev S16384x3 : Shape := ⟨2, ![16384, 3]⟩
abbrev S16384x1 : Shape := ⟨2, ![16384, 1]⟩
abbrev S3x256 : Shape := ⟨2, ![3, 256]⟩
abbrev S256 : Shape := ⟨1, ![256]⟩
abbrev S256x1 : Shape := ⟨2, ![256, 1]⟩
abbrev S1 : Shape := ⟨1, ![1]⟩
abbrev S_ : Shape := ⟨0, ![]⟩
abbrev S63 : Shape := ⟨1, ![63]⟩
abbrev S64 : Shape := ⟨1, ![64]⟩
abbrev S1x64 : Shape := ⟨2, ![1, 64]⟩
abbrev S16384x64 : Shape := ⟨2, ![16384, 64]⟩
abbrev S16384x1x3 : Shape := ⟨3, ![16384, 1, 3]⟩
abbrev S16384x64x1 : Shape := ⟨3, ![16384, 64, 1]⟩
abbrev S16384x64x3 : Shape := ⟨3, ![16384, 64, 3]⟩
abbrev S16384x64x256 : Shape := ⟨3, ![16384, 64, 256]⟩
abbrev S1x1x256 : Shape := ⟨3, ![1, 1, 256]⟩
abbrev S1x1 : Shape := ⟨2, ![1, 1]⟩
abbrev S16384x63 : Shape := ⟨2, ![16384, 63]⟩
abbrev S16384x62 : Shape := ⟨2, ![16384, 62]⟩
abbrev S16384 : Shape := ⟨1, ![16384]⟩
abbrev S15 : Shape := ⟨1, ![15]⟩
abbrev S16 : Shape := ⟨1, ![16]⟩
abbrev S16384x1x64 : Shape := ⟨3, ![16384, 1, 64]⟩
abbrev S1x16x1 : Shape := ⟨3, ![1, 16, 1]⟩
abbrev S16384x16x64 : Shape := ⟨3, ![16384, 16, 64]⟩
abbrev S16384x16 : Shape := ⟨2, ![16384, 16]⟩
abbrev S1x1x64 : Shape := ⟨3, ![1, 1, 64]⟩
abbrev S16384x16x1 : Shape := ⟨3, ![16384, 16, 1]⟩
abbrev S1x16 : Shape := ⟨2, ![1, 16]⟩
abbrev S16384x80 : Shape := ⟨2, ![16384, 80]⟩
abbrev S16384x16x3 : Shape := ⟨3, ![16384, 16, 3]⟩
abbrev S16384x16x256 : Shape := ⟨3, ![16384, 16, 256]⟩
abbrev S16384x80x1 : Shape := ⟨3, ![16384, 80, 1]⟩
abbrev S16384x80x3 : Shape := ⟨3, ![16384, 80, 3]⟩
abbrev S16384x79 : Shape := ⟨2, ![16384, 79]⟩
abbrev S16384x78 : Shape := ⟨2, ![16384, 78]⟩
abbrev S16384x1x80 : Shape := ⟨3, ![16384, 1, 80]⟩
abbrev S16384x16x80 : Shape := ⟨3, ![16384, 16, 80]⟩
abbrev S1x1x80 : Shape := ⟨3, ![1, 1, 80]⟩
abbrev S16384x96 : Shape := ⟨2, ![16384, 96]⟩
abbrev S16384x96x1 : Shape := ⟨3, ![16384, 96, 1]⟩
abbrev S16384x96x3 : Shape := ⟨3, ![16384, 96, 3]⟩
abbrev S16384x95 : Shape := ⟨2, ![16384, 95]⟩
abbrev S16384x94 : Shape := ⟨2, ![16384, 94]⟩
abbrev S16384x1x96 : Shape := ⟨3, ![16384, 1, 96]⟩
abbrev S16384x16x96 : Shape := ⟨3, ![16384, 16, 96]⟩
abbrev S1x1x96 : Shape := ⟨3, ![1, 1, 96]⟩
abbrev S16384x112 : Shape := ⟨2, ![16384, 112]⟩
abbrev S16384x112x1 : Shape := ⟨3, ![16384, 112, 1]⟩
abbrev S16384x112x3 : Shape := ⟨3, ![16384, 112, 3]⟩
abbrev S16384x111 : Shape := ⟨2, ![16384, 111]⟩
abbrev S16384x110 : Shape := ⟨2, ![16384, 110]⟩
abbrev S16384x1x112 : Shape := ⟨3, ![16384, 1, 112]⟩
abbrev S16384x16x112 : Shape := ⟨3, ![16384, 16, 112]⟩
abbrev S1x1x112 : Shape := ⟨3, ![1, 1, 112]⟩
abbrev S16384x128 : Shape := ⟨2, ![16384, 128]⟩

abbrev nBuf : Space → Nat
  | .hbm => 1085
  | .vmem => 0
  | .smem => 0
  | _ => 0

abbrev hbmTy0_0 (i : Nat) : BufTy := match i % 128 with
  | 0 => ⟨S16384x3, .f32⟩
  | 1 => ⟨S16384x3, .f32⟩
  | 2 => ⟨S16384x1, .f32⟩
  | 3 => ⟨S16384x1, .f32⟩
  | 4 => ⟨S3x256, .f32⟩
  | 5 => ⟨S256, .f32⟩
  | 6 => ⟨S256x1, .f32⟩
  | 7 => ⟨S1, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S63, .f32⟩
  | 16 => ⟨S_, .f32⟩
  | 17 => ⟨S63, .f32⟩
  | 18 => ⟨S63, .f32⟩
  | 19 => ⟨S1, .f32⟩
  | 20 => ⟨S_, .f32⟩
  | 21 => ⟨S63, .f32⟩
  | 22 => ⟨S63, .f32⟩
  | 23 => ⟨S63, .f32⟩
  | 24 => ⟨S63, .f32⟩
  | 25 => ⟨S1, .f32⟩
  | 26 => ⟨S63, .f32⟩
  | 27 => ⟨S63, .f32⟩
  | 28 => ⟨S63, .f32⟩
  | 29 => ⟨S1, .f32⟩
  | 30 => ⟨S64, .f32⟩
  | 31 => ⟨S1x64, .f32⟩
  | 32 => ⟨S_, .f32⟩
  | 33 => ⟨S1x64, .f32⟩
  | 34 => ⟨S1x64, .f32⟩
  | 35 => ⟨S16384x64, .f32⟩
  | 36 => ⟨S16384x64, .f32⟩
  | 37 => ⟨S16384x64, .f32⟩
  | 38 => ⟨S1x64, .f32⟩
  | 39 => ⟨S16384x64, .f32⟩
  | 40 => ⟨S16384x64, .f32⟩
  | 41 => ⟨S16384x64, .f32⟩
  | 42 => ⟨S16384x64, .f32⟩
  | 43 => ⟨S16384x1x3, .f32⟩
  | 44 => ⟨S16384x1x3, .f32⟩
  | 45 => ⟨S16384x64x1, .f32⟩
  | 46 => ⟨S16384x64x3, .f32⟩
  | 47 => ⟨S16384x64x3, .f32⟩
  | 48 => ⟨S16384x64x3, .f32⟩
  | 49 => ⟨S16384x64x3, .f32⟩
  | 50 => ⟨S16384x64x3, .f32⟩
  | 51 => ⟨S16384x64x256, .f32⟩
  | 52 => ⟨S1x1x256, .f32⟩
  | 53 => ⟨S16384x64x256, .f32⟩
  | 54 => ⟨S16384x64x256, .f32⟩
  | 55 => ⟨S_, .f32⟩
  | 56 => ⟨S16384x64x256, .f32⟩
  | 57 => ⟨S16384x64x256, .f32⟩
  | 58 => ⟨S16384x64x256, .f32⟩
  | 59 => ⟨S16384x64x256, .f32⟩
  | 60 => ⟨S16384x64x256, .i1⟩
  | 61 => ⟨S16384x64x256, .f32⟩
  | 62 => ⟨S16384x64x256, .f32⟩
  | 63 => ⟨S16384x64x256, .f32⟩
  | 64 => ⟨S16384x64x256, .f32⟩
  | 65 => ⟨S16384x64x256, .f32⟩
  | 66 => ⟨S16384x64x256, .f32⟩
  | 67 => ⟨S16384x64x256, .f32⟩
  | 68 => ⟨S16384x64x256, .f32⟩
  | 69 => ⟨S16384x64x1, .f32⟩
  | 70 => ⟨S16384x64, .f32⟩
  | 71 => ⟨S1x1, .f32⟩
  | 72 => ⟨S16384x64, .f32⟩
  | 73 => ⟨S16384x64, .f32⟩
  | 74 => ⟨S16384x1x3, .f32⟩
  | 75 => ⟨S16384x1x3, .f32⟩
  | 76 => ⟨S16384x64x1, .f32⟩
  | 77 => ⟨S16384x64x3, .f32⟩
  | 78 => ⟨S16384x64x3, .f32⟩
  | 79 => ⟨S16384x64x3, .f32⟩
  | 80 => ⟨S16384x64x3, .f32⟩
  | 81 => ⟨S16384x64x3, .f32⟩
  | 82 => ⟨S16384x64x3, .f32⟩
  | 83 => ⟨S_, .f32⟩
  | 84 => ⟨S16384x64, .f32⟩
  | 85 => ⟨S16384x64, .f32⟩
  | 86 => ⟨S16384x63, .f32⟩
  | 87 => ⟨S_, .f32⟩
  | 88 => ⟨S16384x63, .f32⟩
  | 89 => ⟨S16384x63, .i1⟩
  | 90 => ⟨S16384x63, .f32⟩
  | 91 => ⟨S_, .f32⟩
  | 92 => ⟨S16384x63, .f32⟩
  | 93 => ⟨S16384x63, .i1⟩
  | 94 => ⟨S16384x63, .i1⟩
  | 95 => ⟨S16384x63, .f32⟩
  | 96 => ⟨S16384x63, .f32⟩
  | 97 => ⟨S16384x63, .f32⟩
  | 98 => ⟨S16384x63, .f32⟩
  | 99 => ⟨S16384x63, .f32⟩
  | 100 => ⟨S16384x63, .f32⟩
  | 101 => ⟨S_, .f32⟩
  | 102 => ⟨S16384x63, .f32⟩
  | 103 => ⟨S16384x63, .f32⟩
  | 104 => ⟨S16384x63, .f32⟩
  | 105 => ⟨S16384x63, .f32⟩
  | 106 => ⟨S16384x63, .f32⟩
  | 107 => ⟨S_, .f32⟩
  | 108 => ⟨S16384x63, .f32⟩
  | 109 => ⟨S16384x63, .f32⟩
  | 110 => ⟨S16384x63, .f32⟩
  | 111 => ⟨S_, .f32⟩
  | 112 => ⟨S16384x1, .f32⟩
  | 113 => ⟨S16384x62, .f32⟩
  | 114 => ⟨S16384x63, .f32⟩
  | 115 => ⟨S16384x63, .f32⟩
  | 116 => ⟨S_, .f32⟩
  | 117 => ⟨S_, .f32⟩
  | 118 => ⟨S_, .f32⟩
  | 119 => ⟨S16384x63, .f32⟩
  | 120 => ⟨S16384x63, .f32⟩
  | 121 => ⟨S_, .f32⟩
  | 122 => ⟨S16384x63, .f32⟩
  | 123 => ⟨S16384x63, .f32⟩
  | 124 => ⟨S16384x63, .f32⟩
  | 125 => ⟨S16384x63, .f32⟩
  | 126 => ⟨S_, .f32⟩
  | 127 => ⟨S16384x63, .f32⟩
  | _ => ⟨S16384x3, .f32⟩

abbrev hbmTy0_1 (i : Nat) : BufTy := match i % 128 with
  | 0 => ⟨S16384x63, .f32⟩
  | 1 => ⟨S16384x63, .f32⟩
  | 2 => ⟨S16384x63, .f32⟩
  | 3 => ⟨S_, .f32⟩
  | 4 => ⟨S16384x63, .f32⟩
  | 5 => ⟨S16384x63, .f32⟩
  | 6 => ⟨S16384x63, .f32⟩
  | 7 => ⟨S_, .f32⟩
  | 8 => ⟨S16384x63, .f32⟩
  | 9 => ⟨S16384x63, .f32⟩
  | 10 => ⟨S16384x63, .f32⟩
  | 11 => ⟨S16384x63, .f32⟩
  | 12 => ⟨S_, .f32⟩
  | 13 => ⟨S16384x63, .f32⟩
  | 14 => ⟨S16384x63, .f32⟩
  | 15 => ⟨S_, .f32⟩
  | 16 => ⟨S16384x63, .f32⟩
  | 17 => ⟨S16384x63, .f32⟩
  | 18 => ⟨S_, .f32⟩
  | 19 => ⟨S16384x63, .f32⟩
  | 20 => ⟨S16384x63, .f32⟩
  | 21 => ⟨S16384x63, .f32⟩
  | 22 => ⟨S16384x63, .f32⟩
  | 23 => ⟨S_, .f32⟩
  | 24 => ⟨S16384x63, .f32⟩
  | 25 => ⟨S16384x63, .f32⟩
  | 26 => ⟨S_, .f32⟩
  | 27 => ⟨S16384x63, .f32⟩
  | 28 => ⟨S16384x63, .f32⟩
  | 29 => ⟨S16384x63, .f32⟩
  | 30 => ⟨S_, .f32⟩
  | 31 => ⟨S16384x63, .f32⟩
  | 32 => ⟨S16384x63, .f32⟩
  | 33 => ⟨S_, .f32⟩
  | 34 => ⟨S16384x63, .f32⟩
  | 35 => ⟨S16384x63, .f32⟩
  | 36 => ⟨S16384x63, .f32⟩
  | 37 => ⟨S_, .f32⟩
  | 38 => ⟨S16384x63, .f32⟩
  | 39 => ⟨S16384x63, .f32⟩
  | 40 => ⟨S_, .f32⟩
  | 41 => ⟨S16384x63, .f32⟩
  | 42 => ⟨S16384x63, .f32⟩
  | 43 => ⟨S16384x63, .f32⟩
  | 44 => ⟨S_, .f32⟩
  | 45 => ⟨S_, .f32⟩
  | 46 => ⟨S16384x63, .f32⟩
  | 47 => ⟨S_, .f32⟩
  | 48 => ⟨S16384x1, .f32⟩
  | 49 => ⟨S16384x62, .f32⟩
  | 50 => ⟨S16384x63, .f32⟩
  | 51 => ⟨S16384x63, .f32⟩
  | 52 => ⟨S16384x63, .f32⟩
  | 53 => ⟨S_, .f32⟩
  | 54 => ⟨S16384x63, .f32⟩
  | 55 => ⟨S16384x63, .f32⟩
  | 56 => ⟨S_, .f32⟩
  | 57 => ⟨S16384, .f32⟩
  | 58 => ⟨S16384x1, .f32⟩
  | 59 => ⟨S16384x63, .f32⟩
  | 60 => ⟨S16384x63, .f32⟩
  | 61 => ⟨S_, .f32⟩
  | 62 => ⟨S_, .f32⟩
  | 63 => ⟨S16384x63, .f32⟩
  | 64 => ⟨S16384x1, .f32⟩
  | 65 => ⟨S_, .f32⟩
  | 66 => ⟨S16384x1, .f32⟩
  | 67 => ⟨S16384x64, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S15, .f32⟩
  | 76 => ⟨S_, .f32⟩
  | 77 => ⟨S15, .f32⟩
  | 78 => ⟨S15, .f32⟩
  | 79 => ⟨S1, .f32⟩
  | 80 => ⟨S_, .f32⟩
  | 81 => ⟨S15, .f32⟩
  | 82 => ⟨S15, .f32⟩
  | 83 => ⟨S15, .f32⟩
  | 84 => ⟨S15, .f32⟩
  | 85 => ⟨S1, .f32⟩
  | 86 => ⟨S15, .f32⟩
  | 87 => ⟨S15, .f32⟩
  | 88 => ⟨S15, .f32⟩
  | 89 => ⟨S1, .f32⟩
  | 90 => ⟨S16, .f32⟩
  | 91 => ⟨S16384x1x64, .f32⟩
  | 92 => ⟨S1x16x1, .f32⟩
  | 93 => ⟨S16384x16x64, .f32⟩
  | 94 => ⟨S16384x16x64, .f32⟩
  | 95 => ⟨S16384x16x64, .i1⟩
  | 96 => ⟨S16384x16x64, .i32⟩
  | 97 => ⟨S_, .i32⟩
  | 98 => ⟨S16384x16, .i32⟩
  | 99 => ⟨S_, .i32⟩
  | 100 => ⟨S16384x16, .i32⟩
  | 101 => ⟨S16384x16, .i32⟩
  | 102 => ⟨S_, .i32⟩
  | 103 => ⟨S16384x16, .i32⟩
  | 104 => ⟨S16384x16, .i32⟩
  | 105 => ⟨S_, .i32⟩
  | 106 => ⟨S16384x16, .i32⟩
  | 107 => ⟨S16384x16, .i32⟩
  | 108 => ⟨S1x1x64, .i32⟩
  | 109 => ⟨S16384x16x1, .i32⟩
  | 110 => ⟨S16384x16x64, .i32⟩
  | 111 => ⟨S16384x16x64, .i32⟩
  | 112 => ⟨S16384x16x64, .i1⟩
  | 113 => ⟨S16384x1x64, .f32⟩
  | 114 => ⟨S_, .f32⟩
  | 115 => ⟨S_, .f32⟩
  | 116 => ⟨S16384x16x64, .f32⟩
  | 117 => ⟨S16384x16x64, .f32⟩
  | 118 => ⟨S16384x16x64, .f32⟩
  | 119 => ⟨S_, .f32⟩
  | 120 => ⟨S16384x16, .f32⟩
  | 121 => ⟨S16384x16x1, .i32⟩
  | 122 => ⟨S16384x16x64, .i32⟩
  | 123 => ⟨S16384x16x64, .i32⟩
  | 124 => ⟨S16384x16x64, .i1⟩
  | 125 => ⟨S16384x1x64, .f32⟩
  | 126 => ⟨S_, .f32⟩
  | 127 => ⟨S_, .f32⟩
  | _ => ⟨S16384x3, .f32⟩

abbrev hbmTy0_2 (i : Nat) : BufTy := match i % 128 with
  | 0 => ⟨S16384x16x64, .f32⟩
  | 1 => ⟨S16384x16x64, .f32⟩
  | 2 => ⟨S16384x16x64, .f32⟩
  | 3 => ⟨S_, .f32⟩
  | 4 => ⟨S16384x16, .f32⟩
  | 5 => ⟨S16384x16x1, .i32⟩
  | 6 => ⟨S16384x16x64, .i32⟩
  | 7 => ⟨S16384x16x64, .i32⟩
  | 8 => ⟨S16384x16x64, .i1⟩
  | 9 => ⟨S16384x1x64, .f32⟩
  | 10 => ⟨S_, .f32⟩
  | 11 => ⟨S_, .f32⟩
  | 12 => ⟨S16384x16x64, .f32⟩
  | 13 => ⟨S16384x16x64, .f32⟩
  | 14 => ⟨S16384x16x64, .f32⟩
  | 15 => ⟨S_, .f32⟩
  | 16 => ⟨S16384x16, .f32⟩
  | 17 => ⟨S16384x16x1, .i32⟩
  | 18 => ⟨S16384x16x64, .i32⟩
  | 19 => ⟨S16384x16x64, .i32⟩
  | 20 => ⟨S16384x16x64, .i1⟩
  | 21 => ⟨S16384x1x64, .f32⟩
  | 22 => ⟨S_, .f32⟩
  | 23 => ⟨S_, .f32⟩
  | 24 => ⟨S16384x16x64, .f32⟩
  | 25 => ⟨S16384x16x64, .f32⟩
  | 26 => ⟨S16384x16x64, .f32⟩
  | 27 => ⟨S_, .f32⟩
  | 28 => ⟨S16384x16, .f32⟩
  | 29 => ⟨S16384x16, .f32⟩
  | 30 => ⟨S_, .f32⟩
  | 31 => ⟨S16384x16, .f32⟩
  | 32 => ⟨S16384x16, .i1⟩
  | 33 => ⟨S_, .f32⟩
  | 34 => ⟨S_, .f32⟩
  | 35 => ⟨S16384x16, .f32⟩
  | 36 => ⟨S16384x16, .f32⟩
  | 37 => ⟨S1x16, .f32⟩
  | 38 => ⟨S16384x16, .f32⟩
  | 39 => ⟨S16384x16, .f32⟩
  | 40 => ⟨S16384x16, .f32⟩
  | 41 => ⟨S16384x16, .f32⟩
  | 42 => ⟨S16384x16, .f32⟩
  | 43 => ⟨S16384x16, .f32⟩
  | 44 => ⟨S16384x80, .f32⟩
  | 45 => ⟨S16384x1x3, .f32⟩
  | 46 => ⟨S16384x1x3, .f32⟩
  | 47 => ⟨S16384x16x1, .f32⟩
  | 48 => ⟨S16384x16x3, .f32⟩
  | 49 => ⟨S16384x16x3, .f32⟩
  | 50 => ⟨S16384x16x3, .f32⟩
  | 51 => ⟨S16384x16x3, .f32⟩
  | 52 => ⟨S16384x16x3, .f32⟩
  | 53 => ⟨S16384x16x256, .f32⟩
  | 54 => ⟨S1x1x256, .f32⟩
  | 55 => ⟨S16384x16x256, .f32⟩
  | 56 => ⟨S16384x16x256, .f32⟩
  | 57 => ⟨S_, .f32⟩
  | 58 => ⟨S16384x16x256, .f32⟩
  | 59 => ⟨S16384x16x256, .f32⟩
  | 60 => ⟨S16384x16x256, .f32⟩
  | 61 => ⟨S16384x16x256, .f32⟩
  | 62 => ⟨S16384x16x256, .i1⟩
  | 63 => ⟨S16384x16x256, .f32⟩
  | 64 => ⟨S16384x16x256, .f32⟩
  | 65 => ⟨S16384x16x256, .f32⟩
  | 66 => ⟨S16384x16x256, .f32⟩
  | 67 => ⟨S16384x16x256, .f32⟩
  | 68 => ⟨S16384x16x256, .f32⟩
  | 69 => ⟨S16384x16x256, .f32⟩
  | 70 => ⟨S16384x16x256, .f32⟩
  | 71 => ⟨S16384x16x1, .f32⟩
  | 72 => ⟨S16384x16, .f32⟩
  | 73 => ⟨S1x1, .f32⟩
  | 74 => ⟨S16384x16, .f32⟩
  | 75 => ⟨S16384x16, .f32⟩
  | 76 => ⟨S16384x80, .f32⟩
  | 77 => ⟨S16384x80, .f32⟩
  | 78 => ⟨S16384x80, .f32⟩
  | 79 => ⟨S16384x1x3, .f32⟩
  | 80 => ⟨S16384x1x3, .f32⟩
  | 81 => ⟨S16384x80x1, .f32⟩
  | 82 => ⟨S16384x80x3, .f32⟩
  | 83 => ⟨S16384x80x3, .f32⟩
  | 84 => ⟨S16384x80x3, .f32⟩
  | 85 => ⟨S16384x80x3, .f32⟩
  | 86 => ⟨S16384x80x3, .f32⟩
  | 87 => ⟨S16384x80x3, .f32⟩
  | 88 => ⟨S_, .f32⟩
  | 89 => ⟨S16384x80, .f32⟩
  | 90 => ⟨S16384x80, .f32⟩
  | 91 => ⟨S16384x79, .f32⟩
  | 92 => ⟨S_, .f32⟩
  | 93 => ⟨S16384x79, .f32⟩
  | 94 => ⟨S16384x79, .i1⟩
  | 95 => ⟨S16384x79, .f32⟩
  | 96 => ⟨S_, .f32⟩
  | 97 => ⟨S16384x79, .f32⟩
  | 98 => ⟨S16384x79, .i1⟩
  | 99 => ⟨S16384x79, .i1⟩
  | 100 => ⟨S16384x79, .f32⟩
  | 101 => ⟨S16384x79, .f32⟩
  | 102 => ⟨S16384x79, .f32⟩
  | 103 => ⟨S16384x79, .f32⟩
  | 104 => ⟨S16384x79, .f32⟩
  | 105 => ⟨S16384x79, .f32⟩
  | 106 => ⟨S_, .f32⟩
  | 107 => ⟨S16384x79, .f32⟩
  | 108 => ⟨S16384x79, .f32⟩
  | 109 => ⟨S16384x79, .f32⟩
  | 110 => ⟨S16384x79, .f32⟩
  | 111 => ⟨S16384x79, .f32⟩
  | 112 => ⟨S_, .f32⟩
  | 113 => ⟨S16384x79, .f32⟩
  | 114 => ⟨S16384x79, .f32⟩
  | 115 => ⟨S16384x79, .f32⟩
  | 116 => ⟨S_, .f32⟩
  | 117 => ⟨S16384x1, .f32⟩
  | 118 => ⟨S16384x78, .f32⟩
  | 119 => ⟨S16384x79, .f32⟩
  | 120 => ⟨S16384x79, .f32⟩
  | 121 => ⟨S_, .f32⟩
  | 122 => ⟨S_, .f32⟩
  | 123 => ⟨S_, .f32⟩
  | 124 => ⟨S16384x79, .f32⟩
  | 125 => ⟨S16384x79, .f32⟩
  | 126 => ⟨S_, .f32⟩
  | 127 => ⟨S16384x79, .f32⟩
  | _ => ⟨S16384x3, .f32⟩

abbrev hbmTy0_3 (i : Nat) : BufTy := match i % 128 with
  | 0 => ⟨S16384x79, .f32⟩
  | 1 => ⟨S16384x79, .f32⟩
  | 2 => ⟨S16384x79, .f32⟩
  | 3 => ⟨S_, .f32⟩
  | 4 => ⟨S16384x79, .f32⟩
  | 5 => ⟨S16384x79, .f32⟩
  | 6 => ⟨S16384x79, .f32⟩
  | 7 => ⟨S16384x79, .f32⟩
  | 8 => ⟨S_, .f32⟩
  | 9 => ⟨S16384x79, .f32⟩
  | 10 => ⟨S16384x79, .f32⟩
  | 11 => ⟨S16384x79, .f32⟩
  | 12 => ⟨S_, .f32⟩
  | 13 => ⟨S16384x79, .f32⟩
  | 14 => ⟨S16384x79, .f32⟩
  | 15 => ⟨S16384x79, .f32⟩
  | 16 => ⟨S16384x79, .f32⟩
  | 17 => ⟨S_, .f32⟩
  | 18 => ⟨S16384x79, .f32⟩
  | 19 => ⟨S16384x79, .f32⟩
  | 20 => ⟨S_, .f32⟩
  | 21 => ⟨S16384x79, .f32⟩
  | 22 => ⟨S16384x79, .f32⟩
  | 23 => ⟨S_, .f32⟩
  | 24 => ⟨S16384x79, .f32⟩
  | 25 => ⟨S16384x79, .f32⟩
  | 26 => ⟨S16384x79, .f32⟩
  | 27 => ⟨S16384x79, .f32⟩
  | 28 => ⟨S_, .f32⟩
  | 29 => ⟨S16384x79, .f32⟩
  | 30 => ⟨S16384x79, .f32⟩
  | 31 => ⟨S_, .f32⟩
  | 32 => ⟨S16384x79, .f32⟩
  | 33 => ⟨S16384x79, .f32⟩
  | 34 => ⟨S16384x79, .f32⟩
  | 35 => ⟨S_, .f32⟩
  | 36 => ⟨S16384x79, .f32⟩
  | 37 => ⟨S16384x79, .f32⟩
  | 38 => ⟨S_, .f32⟩
  | 39 => ⟨S16384x79, .f32⟩
  | 40 => ⟨S16384x79, .f32⟩
  | 41 => ⟨S16384x79, .f32⟩
  | 42 => ⟨S_, .f32⟩
  | 43 => ⟨S16384x79, .f32⟩
  | 44 => ⟨S16384x79, .f32⟩
  | 45 => ⟨S_, .f32⟩
  | 46 => ⟨S16384x79, .f32⟩
  | 47 => ⟨S16384x79, .f32⟩
  | 48 => ⟨S16384x79, .f32⟩
  | 49 => ⟨S_, .f32⟩
  | 50 => ⟨S_, .f32⟩
  | 51 => ⟨S16384x79, .f32⟩
  | 52 => ⟨S_, .f32⟩
  | 53 => ⟨S16384x1, .f32⟩
  | 54 => ⟨S16384x78, .f32⟩
  | 55 => ⟨S16384x79, .f32⟩
  | 56 => ⟨S16384x79, .f32⟩
  | 57 => ⟨S16384x79, .f32⟩
  | 58 => ⟨S_, .f32⟩
  | 59 => ⟨S16384x79, .f32⟩
  | 60 => ⟨S16384x79, .f32⟩
  | 61 => ⟨S_, .f32⟩
  | 62 => ⟨S16384, .f32⟩
  | 63 => ⟨S16384x1, .f32⟩
  | 64 => ⟨S16384x79, .f32⟩
  | 65 => ⟨S16384x79, .f32⟩
  | 66 => ⟨S_, .f32⟩
  | 67 => ⟨S_, .f32⟩
  | 68 => ⟨S16384x79, .f32⟩
  | 69 => ⟨S16384x1, .f32⟩
  | 70 => ⟨S_, .f32⟩
  | 71 => ⟨S16384x1, .f32⟩
  | 72 => ⟨S16384x80, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S15, .f32⟩
  | 81 => ⟨S_, .f32⟩
  | 82 => ⟨S15, .f32⟩
  | 83 => ⟨S15, .f32⟩
  | 84 => ⟨S1, .f32⟩
  | 85 => ⟨S_, .f32⟩
  | 86 => ⟨S15, .f32⟩
  | 87 => ⟨S15, .f32⟩
  | 88 => ⟨S15, .f32⟩
  | 89 => ⟨S15, .f32⟩
  | 90 => ⟨S1, .f32⟩
  | 91 => ⟨S15, .f32⟩
  | 92 => ⟨S15, .f32⟩
  | 93 => ⟨S15, .f32⟩
  | 94 => ⟨S1, .f32⟩
  | 95 => ⟨S16, .f32⟩
  | 96 => ⟨S16384x1x80, .f32⟩
  | 97 => ⟨S1x16x1, .f32⟩
  | 98 => ⟨S16384x16x80, .f32⟩
  | 99 => ⟨S16384x16x80, .f32⟩
  | 100 => ⟨S16384x16x80, .i1⟩
  | 101 => ⟨S16384x16x80, .i32⟩
  | 102 => ⟨S_, .i32⟩
  | 103 => ⟨S16384x16, .i32⟩
  | 104 => ⟨S_, .i32⟩
  | 105 => ⟨S16384x16, .i32⟩
  | 106 => ⟨S16384x16, .i32⟩
  | 107 => ⟨S_, .i32⟩
  | 108 => ⟨S16384x16, .i32⟩
  | 109 => ⟨S16384x16, .i32⟩
  | 110 => ⟨S_, .i32⟩
  | 111 => ⟨S16384x16, .i32⟩
  | 112 => ⟨S16384x16, .i32⟩
  | 113 => ⟨S1x1x80, .i32⟩
  | 114 => ⟨S16384x16x1, .i32⟩
  | 115 => ⟨S16384x16x80, .i32⟩
  | 116 => ⟨S16384x16x80, .i32⟩
  | 117 => ⟨S16384x16x80, .i1⟩
  | 118 => ⟨S16384x1x80, .f32⟩
  | 119 => ⟨S_, .f32⟩
  | 120 => ⟨S_, .f32⟩
  | 121 => ⟨S16384x16x80, .f32⟩
  | 122 => ⟨S16384x16x80, .f32⟩
  | 123 => ⟨S16384x16x80, .f32⟩
  | 124 => ⟨S_, .f32⟩
  | 125 => ⟨S16384x16, .f32⟩
  | 126 => ⟨S16384x16x1, .i32⟩
  | 127 => ⟨S16384x16x80, .i32⟩
  | _ => ⟨S16384x3, .f32⟩

abbrev hbmTy0_4 (i : Nat) : BufTy := match i % 128 with
  | 0 => ⟨S16384x16x80, .i32⟩
  | 1 => ⟨S16384x16x80, .i1⟩
  | 2 => ⟨S16384x1x80, .f32⟩
  | 3 => ⟨S_, .f32⟩
  | 4 => ⟨S_, .f32⟩
  | 5 => ⟨S16384x16x80, .f32⟩
  | 6 => ⟨S16384x16x80, .f32⟩
  | 7 => ⟨S16384x16x80, .f32⟩
  | 8 => ⟨S_, .f32⟩
  | 9 => ⟨S16384x16, .f32⟩
  | 10 => ⟨S16384x16x1, .i32⟩
  | 11 => ⟨S16384x16x80, .i32⟩
  | 12 => ⟨S16384x16x80, .i32⟩
  | 13 => ⟨S16384x16x80, .i1⟩
  | 14 => ⟨S16384x1x80, .f32⟩
  | 15 => ⟨S_, .f32⟩
  | 16 => ⟨S_, .f32⟩
  | 17 => ⟨S16384x16x80, .f32⟩
  | 18 => ⟨S16384x16x80, .f32⟩
  | 19 => ⟨S16384x16x80, .f32⟩
  | 20 => ⟨S_, .f32⟩
  | 21 => ⟨S16384x16, .f32⟩
  | 22 => ⟨S16384x16x1, .i32⟩
  | 23 => ⟨S16384x16x80, .i32⟩
  | 24 => ⟨S16384x16x80, .i32⟩
  | 25 => ⟨S16384x16x80, .i1⟩
  | 26 => ⟨S16384x1x80, .f32⟩
  | 27 => ⟨S_, .f32⟩
  | 28 => ⟨S_, .f32⟩
  | 29 => ⟨S16384x16x80, .f32⟩
  | 30 => ⟨S16384x16x80, .f32⟩
  | 31 => ⟨S16384x16x80, .f32⟩
  | 32 => ⟨S_, .f32⟩
  | 33 => ⟨S16384x16, .f32⟩
  | 34 => ⟨S16384x16, .f32⟩
  | 35 => ⟨S_, .f32⟩
  | 36 => ⟨S16384x16, .f32⟩
  | 37 => ⟨S16384x16, .i1⟩
  | 38 => ⟨S_, .f32⟩
  | 39 => ⟨S_, .f32⟩
  | 40 => ⟨S16384x16, .f32⟩
  | 41 => ⟨S16384x16, .f32⟩
  | 42 => ⟨S1x16, .f32⟩
  | 43 => ⟨S16384x16, .f32⟩
  | 44 => ⟨S16384x16, .f32⟩
  | 45 => ⟨S16384x16, .f32⟩
  | 46 => ⟨S16384x16, .f32⟩
  | 47 => ⟨S16384x16, .f32⟩
  | 48 => ⟨S16384x16, .f32⟩
  | 49 => ⟨S16384x96, .f32⟩
  | 50 => ⟨S16384x1x3, .f32⟩
  | 51 => ⟨S16384x1x3, .f32⟩
  | 52 => ⟨S16384x16x1, .f32⟩
  | 53 => ⟨S16384x16x3, .f32⟩
  | 54 => ⟨S16384x16x3, .f32⟩
  | 55 => ⟨S16384x16x3, .f32⟩
  | 56 => ⟨S16384x16x3, .f32⟩
  | 57 => ⟨S16384x16x3, .f32⟩
  | 58 => ⟨S16384x16x256, .f32⟩
  | 59 => ⟨S1x1x256, .f32⟩
  | 60 => ⟨S16384x16x256, .f32⟩
  | 61 => ⟨S16384x16x256, .f32⟩
  | 62 => ⟨S_, .f32⟩
  | 63 => ⟨S16384x16x256, .f32⟩
  | 64 => ⟨S16384x16x256, .f32⟩
  | 65 => ⟨S16384x16x256, .f32⟩
  | 66 => ⟨S16384x16x256, .f32⟩
  | 67 => ⟨S16384x16x256, .i1⟩
  | 68 => ⟨S16384x16x256, .f32⟩
  | 69 => ⟨S16384x16x256, .f32⟩
  | 70 => ⟨S16384x16x256, .f32⟩
  | 71 => ⟨S16384x16x256, .f32⟩
  | 72 => ⟨S16384x16x256, .f32⟩
  | 73 => ⟨S16384x16x256, .f32⟩
  | 74 => ⟨S16384x16x256, .f32⟩
  | 75 => ⟨S16384x16x256, .f32⟩
  | 76 => ⟨S16384x16x1, .f32⟩
  | 77 => ⟨S16384x16, .f32⟩
  | 78 => ⟨S1x1, .f32⟩
  | 79 => ⟨S16384x16, .f32⟩
  | 80 => ⟨S16384x16, .f32⟩
  | 81 => ⟨S16384x96, .f32⟩
  | 82 => ⟨S16384x96, .f32⟩
  | 83 => ⟨S16384x96, .f32⟩
  | 84 => ⟨S16384x1x3, .f32⟩
  | 85 => ⟨S16384x1x3, .f32⟩
  | 86 => ⟨S16384x96x1, .f32⟩
  | 87 => ⟨S16384x96x3, .f32⟩
  | 88 => ⟨S16384x96x3, .f32⟩
  | 89 => ⟨S16384x96x3, .f32⟩
  | 90 => ⟨S16384x96x3, .f32⟩
  | 91 => ⟨S16384x96x3, .f32⟩
  | 92 => ⟨S16384x96x3, .f32⟩
  | 93 => ⟨S_, .f32⟩
  | 94 => ⟨S16384x96, .f32⟩
  | 95 => ⟨S16384x96, .f32⟩
  | 96 => ⟨S16384x95, .f32⟩
  | 97 => ⟨S_, .f32⟩
  | 98 => ⟨S16384x95, .f32⟩
  | 99 => ⟨S16384x95, .i1⟩
  | 100 => ⟨S16384x95, .f32⟩
  | 101 => ⟨S_, .f32⟩
  | 102 => ⟨S16384x95, .f32⟩
  | 103 => ⟨S16384x95, .i1⟩
  | 104 => ⟨S16384x95, .i1⟩
  | 105 => ⟨S16384x95, .f32⟩
  | 106 => ⟨S16384x95, .f32⟩
  | 107 => ⟨S16384x95, .f32⟩
  | 108 => ⟨S16384x95, .f32⟩
  | 109 => ⟨S16384x95, .f32⟩
  | 110 => ⟨S16384x95, .f32⟩
  | 111 => ⟨S_, .f32⟩
  | 112 => ⟨S16384x95, .f32⟩
  | 113 => ⟨S16384x95, .f32⟩
  | 114 => ⟨S16384x95, .f32⟩
  | 115 => ⟨S16384x95, .f32⟩
  | 116 => ⟨S16384x95, .f32⟩
  | 117 => ⟨S_, .f32⟩
  | 118 => ⟨S16384x95, .f32⟩
  | 119 => ⟨S16384x95, .f32⟩
  | 120 => ⟨S16384x95, .f32⟩
  | 121 => ⟨S_, .f32⟩
  | 122 => ⟨S16384x1, .f32⟩
  | 123 => ⟨S16384x94, .f32⟩
  | 124 => ⟨S16384x95, .f32⟩
  | 125 => ⟨S16384x95, .f32⟩
  | 126 => ⟨S_, .f32⟩
  | 127 => ⟨S_, .f32⟩
  | _ => ⟨S16384x3, .f32⟩

abbrev hbmTy0_5 (i : Nat) : BufTy := match i % 128 with
  | 0 => ⟨S_, .f32⟩
  | 1 => ⟨S16384x95, .f32⟩
  | 2 => ⟨S16384x95, .f32⟩
  | 3 => ⟨S_, .f32⟩
  | 4 => ⟨S16384x95, .f32⟩
  | 5 => ⟨S16384x95, .f32⟩
  | 6 => ⟨S16384x95, .f32⟩
  | 7 => ⟨S16384x95, .f32⟩
  | 8 => ⟨S_, .f32⟩
  | 9 => ⟨S16384x95, .f32⟩
  | 10 => ⟨S16384x95, .f32⟩
  | 11 => ⟨S16384x95, .f32⟩
  | 12 => ⟨S16384x95, .f32⟩
  | 13 => ⟨S_, .f32⟩
  | 14 => ⟨S16384x95, .f32⟩
  | 15 => ⟨S16384x95, .f32⟩
  | 16 => ⟨S16384x95, .f32⟩
  | 17 => ⟨S_, .f32⟩
  | 18 => ⟨S16384x95, .f32⟩
  | 19 => ⟨S16384x95, .f32⟩
  | 20 => ⟨S16384x95, .f32⟩
  | 21 => ⟨S16384x95, .f32⟩
  | 22 => ⟨S_, .f32⟩
  | 23 => ⟨S16384x95, .f32⟩
  | 24 => ⟨S16384x95, .f32⟩
  | 25 => ⟨S_, .f32⟩
  | 26 => ⟨S16384x95, .f32⟩
  | 27 => ⟨S16384x95, .f32⟩
  | 28 => ⟨S_, .f32⟩
  | 29 => ⟨S16384x95, .f32⟩
  | 30 => ⟨S16384x95, .f32⟩
  | 31 => ⟨S16384x95, .f32⟩
  | 32 => ⟨S16384x95, .f32⟩
  | 33 => ⟨S_, .f32⟩
  | 34 => ⟨S16384x95, .f32⟩
  | 35 => ⟨S16384x95, .f32⟩
  | 36 => ⟨S_, .f32⟩
  | 37 => ⟨S16384x95, .f32⟩
  | 38 => ⟨S16384x95, .f32⟩
  | 39 => ⟨S16384x95, .f32⟩
  | 40 => ⟨S_, .f32⟩
  | 41 => ⟨S16384x95, .f32⟩
  | 42 => ⟨S16384x95, .f32⟩
  | 43 => ⟨S_, .f32⟩
  | 44 => ⟨S16384x95, .f32⟩
  | 45 => ⟨S16384x95, .f32⟩
  | 46 => ⟨S16384x95, .f32⟩
  | 47 => ⟨S_, .f32⟩
  | 48 => ⟨S16384x95, .f32⟩
  | 49 => ⟨S16384x95, .f32⟩
  | 50 => ⟨S_, .f32⟩
  | 51 => ⟨S16384x95, .f32⟩
  | 52 => ⟨S16384x95, .f32⟩
  | 53 => ⟨S16384x95, .f32⟩
  | 54 => ⟨S_, .f32⟩
  | 55 => ⟨S_, .f32⟩
  | 56 => ⟨S16384x95, .f32⟩
  | 57 => ⟨S_, .f32⟩
  | 58 => ⟨S16384x1, .f32⟩
  | 59 => ⟨S16384x94, .f32⟩
  | 60 => ⟨S16384x95, .f32⟩
  | 61 => ⟨S16384x95, .f32⟩
  | 62 => ⟨S16384x95, .f32⟩
  | 63 => ⟨S_, .f32⟩
  | 64 => ⟨S16384x95, .f32⟩
  | 65 => ⟨S16384x95, .f32⟩
  | 66 => ⟨S_, .f32⟩
  | 67 => ⟨S16384, .f32⟩
  | 68 => ⟨S16384x1, .f32⟩
  | 69 => ⟨S16384x95, .f32⟩
  | 70 => ⟨S16384x95, .f32⟩
  | 71 => ⟨S_, .f32⟩
  | 72 => ⟨S_, .f32⟩
  | 73 => ⟨S16384x95, .f32⟩
  | 74 => ⟨S16384x1, .f32⟩
  | 75 => ⟨S_, .f32⟩
  | 76 => ⟨S16384x1, .f32⟩
  | 77 => ⟨S16384x96, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S15, .f32⟩
  | 86 => ⟨S_, .f32⟩
  | 87 => ⟨S15, .f32⟩
  | 88 => ⟨S15, .f32⟩
  | 89 => ⟨S1, .f32⟩
  | 90 => ⟨S_, .f32⟩
  | 91 => ⟨S15, .f32⟩
  | 92 => ⟨S15, .f32⟩
  | 93 => ⟨S15, .f32⟩
  | 94 => ⟨S15, .f32⟩
  | 95 => ⟨S1, .f32⟩
  | 96 => ⟨S15, .f32⟩
  | 97 => ⟨S15, .f32⟩
  | 98 => ⟨S15, .f32⟩
  | 99 => ⟨S1, .f32⟩
  | 100 => ⟨S16, .f32⟩
  | 101 => ⟨S16384x1x96, .f32⟩
  | 102 => ⟨S1x16x1, .f32⟩
  | 103 => ⟨S16384x16x96, .f32⟩
  | 104 => ⟨S16384x16x96, .f32⟩
  | 105 => ⟨S16384x16x96, .i1⟩
  | 106 => ⟨S16384x16x96, .i32⟩
  | 107 => ⟨S_, .i32⟩
  | 108 => ⟨S16384x16, .i32⟩
  | 109 => ⟨S_, .i32⟩
  | 110 => ⟨S16384x16, .i32⟩
  | 111 => ⟨S16384x16, .i32⟩
  | 112 => ⟨S_, .i32⟩
  | 113 => ⟨S16384x16, .i32⟩
  | 114 => ⟨S16384x16, .i32⟩
  | 115 => ⟨S_, .i32⟩
  | 116 => ⟨S16384x16, .i32⟩
  | 117 => ⟨S16384x16, .i32⟩
  | 118 => ⟨S1x1x96, .i32⟩
  | 119 => ⟨S16384x16x1, .i32⟩
  | 120 => ⟨S16384x16x96, .i32⟩
  | 121 => ⟨S16384x16x96, .i32⟩
  | 122 => ⟨S16384x16x96, .i1⟩
  | 123 => ⟨S16384x1x96, .f32⟩
  | 124 => ⟨S_, .f32⟩
  | 125 => ⟨S_, .f32⟩
  | 126 => ⟨S16384x16x96, .f32⟩
  | 127 => ⟨S16384x16x96, .f32⟩
  | _ => ⟨S16384x3, .f32⟩

abbrev hbmTy0_6 (i : Nat) : BufTy := match i % 128 with
  | 0 => ⟨S16384x16x96, .f32⟩
  | 1 => ⟨S_, .f32⟩
  | 2 => ⟨S16384x16, .f32⟩
  | 3 => ⟨S16384x16x1, .i32⟩
  | 4 => ⟨S16384x16x96, .i32⟩
  | 5 => ⟨S16384x16x96, .i32⟩
  | 6 => ⟨S16384x16x96, .i1⟩
  | 7 => ⟨S16384x1x96, .f32⟩
  | 8 => ⟨S_, .f32⟩
  | 9 => ⟨S_, .f32⟩
  | 10 => ⟨S16384x16x96, .f32⟩
  | 11 => ⟨S16384x16x96, .f32⟩
  | 12 => ⟨S16384x16x96, .f32⟩
  | 13 => ⟨S_, .f32⟩
  | 14 => ⟨S16384x16, .f32⟩
  | 15 => ⟨S16384x16x1, .i32⟩
  | 16 => ⟨S16384x16x96, .i32⟩
  | 17 => ⟨S16384x16x96, .i32⟩
  | 18 => ⟨S16384x16x96, .i1⟩
  | 19 => ⟨S16384x1x96, .f32⟩
  | 20 => ⟨S_, .f32⟩
  | 21 => ⟨S_, .f32⟩
  | 22 => ⟨S16384x16x96, .f32⟩
  | 23 => ⟨S16384x16x96, .f32⟩
  | 24 => ⟨S16384x16x96, .f32⟩
  | 25 => ⟨S_, .f32⟩
  | 26 => ⟨S16384x16, .f32⟩
  | 27 => ⟨S16384x16x1, .i32⟩
  | 28 => ⟨S16384x16x96, .i32⟩
  | 29 => ⟨S16384x16x96, .i32⟩
  | 30 => ⟨S16384x16x96, .i1⟩
  | 31 => ⟨S16384x1x96, .f32⟩
  | 32 => ⟨S_, .f32⟩
  | 33 => ⟨S_, .f32⟩
  | 34 => ⟨S16384x16x96, .f32⟩
  | 35 => ⟨S16384x16x96, .f32⟩
  | 36 => ⟨S16384x16x96, .f32⟩
  | 37 => ⟨S_, .f32⟩
  | 38 => ⟨S16384x16, .f32⟩
  | 39 => ⟨S16384x16, .f32⟩
  | 40 => ⟨S_, .f32⟩
  | 41 => ⟨S16384x16, .f32⟩
  | 42 => ⟨S16384x16, .i1⟩
  | 43 => ⟨S_, .f32⟩
  | 44 => ⟨S_, .f32⟩
  | 45 => ⟨S16384x16, .f32⟩
  | 46 => ⟨S16384x16, .f32⟩
  | 47 => ⟨S1x16, .f32⟩
  | 48 => ⟨S16384x16, .f32⟩
  | 49 => ⟨S16384x16, .f32⟩
  | 50 => ⟨S16384x16, .f32⟩
  | 51 => ⟨S16384x16, .f32⟩
  | 52 => ⟨S16384x16, .f32⟩
  | 53 => ⟨S16384x16, .f32⟩
  | 54 => ⟨S16384x112, .f32⟩
  | 55 => ⟨S16384x1x3, .f32⟩
  | 56 => ⟨S16384x1x3, .f32⟩
  | 57 => ⟨S16384x16x1, .f32⟩
  | 58 => ⟨S16384x16x3, .f32⟩
  | 59 => ⟨S16384x16x3, .f32⟩
  | 60 => ⟨S16384x16x3, .f32⟩
  | 61 => ⟨S16384x16x3, .f32⟩
  | 62 => ⟨S16384x16x3, .f32⟩
  | 63 => ⟨S16384x16x256, .f32⟩
  | 64 => ⟨S1x1x256, .f32⟩
  | 65 => ⟨S16384x16x256, .f32⟩
  | 66 => ⟨S16384x16x256, .f32⟩
  | 67 => ⟨S_, .f32⟩
  | 68 => ⟨S16384x16x256, .f32⟩
  | 69 => ⟨S16384x16x256, .f32⟩
  | 70 => ⟨S16384x16x256, .f32⟩
  | 71 => ⟨S16384x16x256, .f32⟩
  | 72 => ⟨S16384x16x256, .i1⟩
  | 73 => ⟨S16384x16x256, .f32⟩
  | 74 => ⟨S16384x16x256, .f32⟩
  | 75 => ⟨S16384x16x256, .f32⟩
  | 76 => ⟨S16384x16x256, .f32⟩
  | 77 => ⟨S16384x16x256, .f32⟩
  | 78 => ⟨S16384x16x256, .f32⟩
  | 79 => ⟨S16384x16x256, .f32⟩
  | 80 => ⟨S16384x16x256, .f32⟩
  | 81 => ⟨S16384x16x1, .f32⟩
  | 82 => ⟨S16384x16, .f32⟩
  | 83 => ⟨S1x1, .f32⟩
  | 84 => ⟨S16384x16, .f32⟩
  | 85 => ⟨S16384x16, .f32⟩
  | 86 => ⟨S16384x112, .f32⟩
  | 87 => ⟨S16384x112, .f32⟩
  | 88 => ⟨S16384x112, .f32⟩
  | 89 => ⟨S16384x1x3, .f32⟩
  | 90 => ⟨S16384x1x3, .f32⟩
  | 91 => ⟨S16384x112x1, .f32⟩
  | 92 => ⟨S16384x112x3, .f32⟩
  | 93 => ⟨S16384x112x3, .f32⟩
  | 94 => ⟨S16384x112x3, .f32⟩
  | 95 => ⟨S16384x112x3, .f32⟩
  | 96 => ⟨S16384x112x3, .f32⟩
  | 97 => ⟨S16384x112x3, .f32⟩
  | 98 => ⟨S_, .f32⟩
  | 99 => ⟨S16384x112, .f32⟩
  | 100 => ⟨S16384x112, .f32⟩
  | 101 => ⟨S16384x111, .f32⟩
  | 102 => ⟨S_, .f32⟩
  | 103 => ⟨S16384x111, .f32⟩
  | 104 => ⟨S16384x111, .i1⟩
  | 105 => ⟨S16384x111, .f32⟩
  | 106 => ⟨S_, .f32⟩
  | 107 => ⟨S16384x111, .f32⟩
  | 108 => ⟨S16384x111, .i1⟩
  | 109 => ⟨S16384x111, .i1⟩
  | 110 => ⟨S16384x111, .f32⟩
  | 111 => ⟨S16384x111, .f32⟩
  | 112 => ⟨S16384x111, .f32⟩
  | 113 => ⟨S16384x111, .f32⟩
  | 114 => ⟨S16384x111, .f32⟩
  | 115 => ⟨S16384x111, .f32⟩
  | 116 => ⟨S_, .f32⟩
  | 117 => ⟨S16384x111, .f32⟩
  | 118 => ⟨S16384x111, .f32⟩
  | 119 => ⟨S16384x111, .f32⟩
  | 120 => ⟨S16384x111, .f32⟩
  | 121 => ⟨S16384x111, .f32⟩
  | 122 => ⟨S_, .f32⟩
  | 123 => ⟨S16384x111, .f32⟩
  | 124 => ⟨S16384x111, .f32⟩
  | 125 => ⟨S16384x111, .f32⟩
  | 126 => ⟨S_, .f32⟩
  | 127 => ⟨S16384x1, .f32⟩
  | _ => ⟨S16384x3, .f32⟩

abbrev hbmTy0_7 (i : Nat) : BufTy := match i % 128 with
  | 0 => ⟨S16384x110, .f32⟩
  | 1 => ⟨S16384x111, .f32⟩
  | 2 => ⟨S16384x111, .f32⟩
  | 3 => ⟨S_, .f32⟩
  | 4 => ⟨S_, .f32⟩
  | 5 => ⟨S_, .f32⟩
  | 6 => ⟨S16384x111, .f32⟩
  | 7 => ⟨S16384x111, .f32⟩
  | 8 => ⟨S_, .f32⟩
  | 9 => ⟨S16384x111, .f32⟩
  | 10 => ⟨S16384x111, .f32⟩
  | 11 => ⟨S16384x111, .f32⟩
  | 12 => ⟨S16384x111, .f32⟩
  | 13 => ⟨S_, .f32⟩
  | 14 => ⟨S16384x111, .f32⟩
  | 15 => ⟨S16384x111, .f32⟩
  | 16 => ⟨S16384x111, .f32⟩
  | 17 => ⟨S16384x111, .f32⟩
  | 18 => ⟨S_, .f32⟩
  | 19 => ⟨S16384x111, .f32⟩
  | 20 => ⟨S16384x111, .f32⟩
  | 21 => ⟨S16384x111, .f32⟩
  | 22 => ⟨S_, .f32⟩
  | 23 => ⟨S16384x111, .f32⟩
  | 24 => ⟨S16384x111, .f32⟩
  | 25 => ⟨S16384x111, .f32⟩
  | 26 => ⟨S16384x111, .f32⟩
  | 27 => ⟨S_, .f32⟩
  | 28 => ⟨S16384x111, .f32⟩
  | 29 => ⟨S16384x111, .f32⟩
  | 30 => ⟨S_, .f32⟩
  | 31 => ⟨S16384x111, .f32⟩
  | 32 => ⟨S16384x111, .f32⟩
  | 33 => ⟨S_, .f32⟩
  | 34 => ⟨S16384x111, .f32⟩
  | 35 => ⟨S16384x111, .f32⟩
  | 36 => ⟨S16384x111, .f32⟩
  | 37 => ⟨S16384x111, .f32⟩
  | 38 => ⟨S_, .f32⟩
  | 39 => ⟨S16384x111, .f32⟩
  | 40 => ⟨S16384x111, .f32⟩
  | 41 => ⟨S_, .f32⟩
  | 42 => ⟨S16384x111, .f32⟩
  | 43 => ⟨S16384x111, .f32⟩
  | 44 => ⟨S16384x111, .f32⟩
  | 45 => ⟨S_, .f32⟩
  | 46 => ⟨S16384x111, .f32⟩
  | 47 => ⟨S16384x111, .f32⟩
  | 48 => ⟨S_, .f32⟩
  | 49 => ⟨S16384x111, .f32⟩
  | 50 => ⟨S16384x111, .f32⟩
  | 51 => ⟨S16384x111, .f32⟩
  | 52 => ⟨S_, .f32⟩
  | 53 => ⟨S16384x111, .f32⟩
  | 54 => ⟨S16384x111, .f32⟩
  | 55 => ⟨S_, .f32⟩
  | 56 => ⟨S16384x111, .f32⟩
  | 57 => ⟨S16384x111, .f32⟩
  | 58 => ⟨S16384x111, .f32⟩
  | 59 => ⟨S_, .f32⟩
  | 60 => ⟨S_, .f32⟩
  | 61 => ⟨S16384x111, .f32⟩
  | 62 => ⟨S_, .f32⟩
  | 63 => ⟨S16384x1, .f32⟩
  | 64 => ⟨S16384x110, .f32⟩
  | 65 => ⟨S16384x111, .f32⟩
  | 66 => ⟨S16384x111, .f32⟩
  | 67 => ⟨S16384x111, .f32⟩
  | 68 => ⟨S_, .f32⟩
  | 69 => ⟨S16384x111, .f32⟩
  | 70 => ⟨S16384x111, .f32⟩
  | 71 => ⟨S_, .f32⟩
  | 72 => ⟨S16384, .f32⟩
  | 73 => ⟨S16384x1, .f32⟩
  | 74 => ⟨S16384x111, .f32⟩
  | 75 => ⟨S16384x111, .f32⟩
  | 76 => ⟨S_, .f32⟩
  | 77 => ⟨S_, .f32⟩
  | 78 => ⟨S16384x111, .f32⟩
  | 79 => ⟨S16384x1, .f32⟩
  | 80 => ⟨S_, .f32⟩
  | 81 => ⟨S16384x1, .f32⟩
  | 82 => ⟨S16384x112, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S15, .f32⟩
  | 91 => ⟨S_, .f32⟩
  | 92 => ⟨S15, .f32⟩
  | 93 => ⟨S15, .f32⟩
  | 94 => ⟨S1, .f32⟩
  | 95 => ⟨S_, .f32⟩
  | 96 => ⟨S15, .f32⟩
  | 97 => ⟨S15, .f32⟩
  | 98 => ⟨S15, .f32⟩
  | 99 => ⟨S15, .f32⟩
  | 100 => ⟨S1, .f32⟩
  | 101 => ⟨S15, .f32⟩
  | 102 => ⟨S15, .f32⟩
  | 103 => ⟨S15, .f32⟩
  | 104 => ⟨S1, .f32⟩
  | 105 => ⟨S16, .f32⟩
  | 106 => ⟨S16384x1x112, .f32⟩
  | 107 => ⟨S1x16x1, .f32⟩
  | 108 => ⟨S16384x16x112, .f32⟩
  | 109 => ⟨S16384x16x112, .f32⟩
  | 110 => ⟨S16384x16x112, .i1⟩
  | 111 => ⟨S16384x16x112, .i32⟩
  | 112 => ⟨S_, .i32⟩
  | 113 => ⟨S16384x16, .i32⟩
  | 114 => ⟨S_, .i32⟩
  | 115 => ⟨S16384x16, .i32⟩
  | 116 => ⟨S16384x16, .i32⟩
  | 117 => ⟨S_, .i32⟩
  | 118 => ⟨S16384x16, .i32⟩
  | 119 => ⟨S16384x16, .i32⟩
  | 120 => ⟨S_, .i32⟩
  | 121 => ⟨S16384x16, .i32⟩
  | 122 => ⟨S16384x16, .i32⟩
  | 123 => ⟨S1x1x112, .i32⟩
  | 124 => ⟨S16384x16x1, .i32⟩
  | 125 => ⟨S16384x16x112, .i32⟩
  | 126 => ⟨S16384x16x112, .i32⟩
  | 127 => ⟨S16384x16x112, .i1⟩
  | _ => ⟨S16384x3, .f32⟩

abbrev hbmTy0_8 (i : Nat) : BufTy := match i % 128 with
  | 0 => ⟨S16384x1x112, .f32⟩
  | 1 => ⟨S_, .f32⟩
  | 2 => ⟨S_, .f32⟩
  | 3 => ⟨S16384x16x112, .f32⟩
  | 4 => ⟨S16384x16x112, .f32⟩
  | 5 => ⟨S16384x16x112, .f32⟩
  | 6 => ⟨S_, .f32⟩
  | 7 => ⟨S16384x16, .f32⟩
  | 8 => ⟨S16384x16x1, .i32⟩
  | 9 => ⟨S16384x16x112, .i32⟩
  | 10 => ⟨S16384x16x112, .i32⟩
  | 11 => ⟨S16384x16x112, .i1⟩
  | 12 => ⟨S16384x1x112, .f32⟩
  | 13 => ⟨S_, .f32⟩
  | 14 => ⟨S_, .f32⟩
  | 15 => ⟨S16384x16x112, .f32⟩
  | 16 => ⟨S16384x16x112, .f32⟩
  | 17 => ⟨S16384x16x112, .f32⟩
  | 18 => ⟨S_, .f32⟩
  | 19 => ⟨S16384x16, .f32⟩
  | 20 => ⟨S16384x16x1, .i32⟩
  | 21 => ⟨S16384x16x112, .i32⟩
  | 22 => ⟨S16384x16x112, .i32⟩
  | 23 => ⟨S16384x16x112, .i1⟩
  | 24 => ⟨S16384x1x112, .f32⟩
  | 25 => ⟨S_, .f32⟩
  | 26 => ⟨S_, .f32⟩
  | 27 => ⟨S16384x16x112, .f32⟩
  | 28 => ⟨S16384x16x112, .f32⟩
  | 29 => ⟨S16384x16x112, .f32⟩
  | 30 => ⟨S_, .f32⟩
  | 31 => ⟨S16384x16, .f32⟩
  | 32 => ⟨S16384x16x1, .i32⟩
  | 33 => ⟨S16384x16x112, .i32⟩
  | 34 => ⟨S16384x16x112, .i32⟩
  | 35 => ⟨S16384x16x112, .i1⟩
  | 36 => ⟨S16384x1x112, .f32⟩
  | 37 => ⟨S_, .f32⟩
  | 38 => ⟨S_, .f32⟩
  | 39 => ⟨S16384x16x112, .f32⟩
  | 40 => ⟨S16384x16x112, .f32⟩
  | 41 => ⟨S16384x16x112, .f32⟩
  | 42 => ⟨S_, .f32⟩
  | 43 => ⟨S16384x16, .f32⟩
  | 44 => ⟨S16384x16, .f32⟩
  | 45 => ⟨S_, .f32⟩
  | 46 => ⟨S16384x16, .f32⟩
  | 47 => ⟨S16384x16, .i1⟩
  | 48 => ⟨S_, .f32⟩
  | 49 => ⟨S_, .f32⟩
  | 50 => ⟨S16384x16, .f32⟩
  | 51 => ⟨S16384x16, .f32⟩
  | 52 => ⟨S1x16, .f32⟩
  | 53 => ⟨S16384x16, .f32⟩
  | 54 => ⟨S16384x16, .f32⟩
  | 55 => ⟨S16384x16, .f32⟩
  | 56 => ⟨S16384x16, .f32⟩
  | 57 => ⟨S16384x16, .f32⟩
  | 58 => ⟨S16384x16, .f32⟩
  | 59 => ⟨S16384x128, .f32⟩
  | 60 => ⟨S16384x128, .f32⟩
  | _ => ⟨S16384x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S16384x3, .f32⟩

abbrev bufTy : (tb : Table) → Fin (tcTables nBuf tb) → BufTy
  | .hbm, ⟨i, _⟩ => hbmTy i
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_cst : Ref sig .tc := ⟨.hbm, 13, rfl⟩
abbrev main_call0_v3 : Ref sig .tc := ⟨.hbm, 14, rfl⟩
abbrev main_call0_v4 : Ref sig .tc := ⟨.hbm, 15, rfl⟩
abbrev main_call0_cst_0 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_v16 : Ref sig .tc := ⟨.hbm, 29, rfl⟩
abbrev main_v0 : Ref sig .tc := ⟨.hbm, 30, rfl⟩
abbrev main_v1 : Ref sig .tc := ⟨.hbm, 31, rfl⟩
abbrev main_cst_1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_call1_cst : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_cst_2 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_cst_3 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_cst_4 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_cst_5 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_cst_6 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_cst_7 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_cst_8 : Ref sig .tc := ⟨.hbm, 116, rfl⟩
abbrev main_cst_9 : Ref sig .tc := ⟨.hbm, 117, rfl⟩
abbrev main_call2_v0 : Ref sig .tc := ⟨.hbm, 118, rfl⟩
abbrev main_call2_v1 : Ref sig .tc := ⟨.hbm, 119, rfl⟩
abbrev main_call2_v2 : Ref sig .tc := ⟨.hbm, 120, rfl⟩
abbrev main_call2_v3 : Ref sig .tc := ⟨.hbm, 121, rfl⟩
abbrev main_call2_v4 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_cst_10 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_cst_11 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_cst_12 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_cst_13 : Ref sig .tc := ⟨.hbm, 140, rfl⟩
abbrev main_v80 : Ref sig .tc := ⟨.hbm, 141, rfl⟩
abbrev main_v81 : Ref sig .tc := ⟨.hbm, 142, rfl⟩
abbrev main_cst_14 : Ref sig .tc := ⟨.hbm, 143, rfl⟩
abbrev main_v82 : Ref sig .tc := ⟨.hbm, 144, rfl⟩
abbrev main_v83 : Ref sig .tc := ⟨.hbm, 145, rfl⟩
abbrev main_cst_15 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_cst_16 : Ref sig .tc := ⟨.hbm, 151, rfl⟩
abbrev main_v88 : Ref sig .tc := ⟨.hbm, 152, rfl⟩
abbrev main_v89 : Ref sig .tc := ⟨.hbm, 153, rfl⟩
abbrev main_cst_17 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_cst_18 : Ref sig .tc := ⟨.hbm, 158, rfl⟩
abbrev main_v93 : Ref sig .tc := ⟨.hbm, 159, rfl⟩
abbrev main_v94 : Ref sig .tc := ⟨.hbm, 160, rfl⟩
abbrev main_cst_19 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_cst_20 : Ref sig .tc := ⟨.hbm, 165, rfl⟩
abbrev main_v98 : Ref sig .tc := ⟨.hbm, 166, rfl⟩
abbrev main_v99 : Ref sig .tc := ⟨.hbm, 167, rfl⟩
abbrev main_cst_21 : Ref sig .tc := ⟨.hbm, 168, rfl⟩
abbrev main_v100 : Ref sig .tc := ⟨.hbm, 169, rfl⟩
abbrev main_v101 : Ref sig .tc := ⟨.hbm, 170, rfl⟩
abbrev main_v102 : Ref sig .tc := ⟨.hbm, 171, rfl⟩
abbrev main_call3_call0_cst : Ref sig .tc := ⟨.hbm, 172, rfl⟩
abbrev main_call3_call0_v0 : Ref sig .tc := ⟨.hbm, 173, rfl⟩
abbrev main_v103 : Ref sig .tc := ⟨.hbm, 174, rfl⟩
abbrev main_cst_22 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_cst_23 : Ref sig .tc := ⟨.hbm, 181, rfl⟩
abbrev main_v109 : Ref sig .tc := ⟨.hbm, 182, rfl⟩
abbrev main_v110 : Ref sig .tc := ⟨.hbm, 183, rfl⟩
abbrev main_cst_24 : Ref sig .tc := ⟨.hbm, 184, rfl⟩
abbrev main_v111 : Ref sig .tc := ⟨.hbm, 185, rfl⟩
abbrev main_v112 : Ref sig .tc := ⟨.hbm, 186, rfl⟩
abbrev main_v113 : Ref sig .tc := ⟨.hbm, 187, rfl⟩
abbrev main_v114 : Ref sig .tc := ⟨.hbm, 188, rfl⟩
abbrev main_call4_call0_cst : Ref sig .tc := ⟨.hbm, 189, rfl⟩
abbrev main_call4_call0_v0 : Ref sig .tc := ⟨.hbm, 190, rfl⟩
abbrev main_v115 : Ref sig .tc := ⟨.hbm, 191, rfl⟩
abbrev main_v116 : Ref sig .tc := ⟨.hbm, 192, rfl⟩
abbrev main_cst_25 : Ref sig .tc := ⟨.hbm, 193, rfl⟩
abbrev main_v117 : Ref sig .tc := ⟨.hbm, 194, rfl⟩
abbrev main_v118 : Ref sig .tc := ⟨.hbm, 195, rfl⟩
abbrev main_cst_26 : Ref sig .tc := ⟨.hbm, 196, rfl⟩
abbrev main_cst_27 : Ref sig .tc := ⟨.hbm, 197, rfl⟩
abbrev main_call5_v0 : Ref sig .tc := ⟨.hbm, 198, rfl⟩
abbrev main_call5_v1 : Ref sig .tc := ⟨.hbm, 199, rfl⟩
abbrev main_call5_v2 : Ref sig .tc := ⟨.hbm, 200, rfl⟩
abbrev main_call5_cst : Ref sig .tc := ⟨.hbm, 201, rfl⟩
abbrev main_call5_v3 : Ref sig .tc := ⟨.hbm, 202, rfl⟩
abbrev main_call5_v4 : Ref sig .tc := ⟨.hbm, 203, rfl⟩
abbrev main_call5_cst_0 : Ref sig .tc := ⟨.hbm, 204, rfl⟩
abbrev main_call5_v5 : Ref sig .tc := ⟨.hbm, 205, rfl⟩
abbrev main_call5_v6 : Ref sig .tc := ⟨.hbm, 206, rfl⟩
abbrev main_call5_v7 : Ref sig .tc := ⟨.hbm, 207, rfl⟩
abbrev main_call5_cst_1 : Ref sig .tc := ⟨.hbm, 208, rfl⟩
abbrev main_call5_v8 : Ref sig .tc := ⟨.hbm, 209, rfl⟩
abbrev main_call5_v9 : Ref sig .tc := ⟨.hbm, 210, rfl⟩
abbrev main_call5_v10 : Ref sig .tc := ⟨.hbm, 211, rfl⟩
abbrev main_call5_v11 : Ref sig .tc := ⟨.hbm, 212, rfl⟩
abbrev main_call5_v12 : Ref sig .tc := ⟨.hbm, 213, rfl⟩
abbrev main_call5_v13 : Ref sig .tc := ⟨.hbm, 214, rfl⟩
abbrev main_call5_v14 : Ref sig .tc := ⟨.hbm, 215, rfl⟩
abbrev main_call5_v15 : Ref sig .tc := ⟨.hbm, 216, rfl⟩
abbrev main_call5_v16 : Ref sig .tc := ⟨.hbm, 217, rfl⟩
abbrev main_v119 : Ref sig .tc := ⟨.hbm, 218, rfl⟩
abbrev main_v120 : Ref sig .tc := ⟨.hbm, 219, rfl⟩
abbrev main_v121 : Ref sig .tc := ⟨.hbm, 220, rfl⟩
abbrev main_v122 : Ref sig .tc := ⟨.hbm, 221, rfl⟩
abbrev main_v123 : Ref sig .tc := ⟨.hbm, 222, rfl⟩
abbrev main_v124 : Ref sig .tc := ⟨.hbm, 223, rfl⟩
abbrev main_v125 : Ref sig .tc := ⟨.hbm, 224, rfl⟩
abbrev main_c : Ref sig .tc := ⟨.hbm, 225, rfl⟩
abbrev main_v126 : Ref sig .tc := ⟨.hbm, 226, rfl⟩
abbrev main_c_28 : Ref sig .tc := ⟨.hbm, 227, rfl⟩
abbrev main_v127 : Ref sig .tc := ⟨.hbm, 228, rfl⟩
abbrev main_v128 : Ref sig .tc := ⟨.hbm, 229, rfl⟩
abbrev main_c_29 : Ref sig .tc := ⟨.hbm, 230, rfl⟩
abbrev main_v129 : Ref sig .tc := ⟨.hbm, 231, rfl⟩
abbrev main_v130 : Ref sig .tc := ⟨.hbm, 232, rfl⟩
abbrev main_c_30 : Ref sig .tc := ⟨.hbm, 233, rfl⟩
abbrev main_v131 : Ref sig .tc := ⟨.hbm, 234, rfl⟩
abbrev main_v132 : Ref sig .tc := ⟨.hbm, 235, rfl⟩
abbrev main_v133 : Ref sig .tc := ⟨.hbm, 236, rfl⟩
abbrev main_v134 : Ref sig .tc := ⟨.hbm, 237, rfl⟩
abbrev main_v135 : Ref sig .tc := ⟨.hbm, 238, rfl⟩
abbrev main_v136 : Ref sig .tc := ⟨.hbm, 239, rfl⟩
abbrev main_v137 : Ref sig .tc := ⟨.hbm, 240, rfl⟩
abbrev main_v138 : Ref sig .tc := ⟨.hbm, 241, rfl⟩
abbrev main_cst_31 : Ref sig .tc := ⟨.hbm, 242, rfl⟩
abbrev main_call6_v0 : Ref sig .tc := ⟨.hbm, 243, rfl⟩
abbrev main_call6_v1 : Ref sig .tc := ⟨.hbm, 244, rfl⟩
abbrev main_call6_v2 : Ref sig .tc := ⟨.hbm, 245, rfl⟩
abbrev main_v139 : Ref sig .tc := ⟨.hbm, 246, rfl⟩
abbrev main_cst_32 : Ref sig .tc := ⟨.hbm, 247, rfl⟩
abbrev main_v140 : Ref sig .tc := ⟨.hbm, 248, rfl⟩
abbrev main_v141 : Ref sig .tc := ⟨.hbm, 249, rfl⟩
abbrev main_v142 : Ref sig .tc := ⟨.hbm, 250, rfl⟩
abbrev main_v143 : Ref sig .tc := ⟨.hbm, 251, rfl⟩
abbrev main_v144 : Ref sig .tc := ⟨.hbm, 252, rfl⟩
abbrev main_v145 : Ref sig .tc := ⟨.hbm, 253, rfl⟩
abbrev main_cst_33 : Ref sig .tc := ⟨.hbm, 254, rfl⟩
abbrev main_call7_v0 : Ref sig .tc := ⟨.hbm, 255, rfl⟩
abbrev main_call7_v1 : Ref sig .tc := ⟨.hbm, 256, rfl⟩
abbrev main_call7_v2 : Ref sig .tc := ⟨.hbm, 257, rfl⟩
abbrev main_v146 : Ref sig .tc := ⟨.hbm, 258, rfl⟩
abbrev main_cst_34 : Ref sig .tc := ⟨.hbm, 259, rfl⟩
abbrev main_v147 : Ref sig .tc := ⟨.hbm, 260, rfl⟩
abbrev main_v148 : Ref sig .tc := ⟨.hbm, 261, rfl⟩
abbrev main_v149 : Ref sig .tc := ⟨.hbm, 262, rfl⟩
abbrev main_v150 : Ref sig .tc := ⟨.hbm, 263, rfl⟩
abbrev main_v151 : Ref sig .tc := ⟨.hbm, 264, rfl⟩
abbrev main_v152 : Ref sig .tc := ⟨.hbm, 265, rfl⟩
abbrev main_cst_35 : Ref sig .tc := ⟨.hbm, 266, rfl⟩
abbrev main_call8_v0 : Ref sig .tc := ⟨.hbm, 267, rfl⟩
abbrev main_call8_v1 : Ref sig .tc := ⟨.hbm, 268, rfl⟩
abbrev main_call8_v2 : Ref sig .tc := ⟨.hbm, 269, rfl⟩
abbrev main_v153 : Ref sig .tc := ⟨.hbm, 270, rfl⟩
abbrev main_cst_36 : Ref sig .tc := ⟨.hbm, 271, rfl⟩
abbrev main_v154 : Ref sig .tc := ⟨.hbm, 272, rfl⟩
abbrev main_v155 : Ref sig .tc := ⟨.hbm, 273, rfl⟩
abbrev main_v156 : Ref sig .tc := ⟨.hbm, 274, rfl⟩
abbrev main_v157 : Ref sig .tc := ⟨.hbm, 275, rfl⟩
abbrev main_v158 : Ref sig .tc := ⟨.hbm, 276, rfl⟩
abbrev main_v159 : Ref sig .tc := ⟨.hbm, 277, rfl⟩
abbrev main_cst_37 : Ref sig .tc := ⟨.hbm, 278, rfl⟩
abbrev main_call9_v0 : Ref sig .tc := ⟨.hbm, 279, rfl⟩
abbrev main_call9_v1 : Ref sig .tc := ⟨.hbm, 280, rfl⟩
abbrev main_call9_v2 : Ref sig .tc := ⟨.hbm, 281, rfl⟩
abbrev main_v160 : Ref sig .tc := ⟨.hbm, 282, rfl⟩
abbrev main_cst_38 : Ref sig .tc := ⟨.hbm, 283, rfl⟩
abbrev main_v161 : Ref sig .tc := ⟨.hbm, 284, rfl⟩
abbrev main_v162 : Ref sig .tc := ⟨.hbm, 285, rfl⟩
abbrev main_cst_39 : Ref sig .tc := ⟨.hbm, 286, rfl⟩
abbrev main_v163 : Ref sig .tc := ⟨.hbm, 287, rfl⟩
abbrev main_v164 : Ref sig .tc := ⟨.hbm, 288, rfl⟩
abbrev main_cst_40 : Ref sig .tc := ⟨.hbm, 289, rfl⟩
abbrev main_call10_v0 : Ref sig .tc := ⟨.hbm, 290, rfl⟩
abbrev main_call10_v1 : Ref sig .tc := ⟨.hbm, 291, rfl⟩
abbrev main_v165 : Ref sig .tc := ⟨.hbm, 292, rfl⟩
abbrev main_v166 : Ref sig .tc := ⟨.hbm, 293, rfl⟩
abbrev main_v167 : Ref sig .tc := ⟨.hbm, 294, rfl⟩
abbrev main_v168 : Ref sig .tc := ⟨.hbm, 295, rfl⟩
abbrev main_v169 : Ref sig .tc := ⟨.hbm, 296, rfl⟩
abbrev main_v170 : Ref sig .tc := ⟨.hbm, 297, rfl⟩
abbrev main_v171 : Ref sig .tc := ⟨.hbm, 298, rfl⟩
abbrev main_v172 : Ref sig .tc := ⟨.hbm, 299, rfl⟩
abbrev main_v173 : Ref sig .tc := ⟨.hbm, 300, rfl⟩
abbrev main_v174 : Ref sig .tc := ⟨.hbm, 301, rfl⟩
abbrev main_v175 : Ref sig .tc := ⟨.hbm, 302, rfl⟩
abbrev main_v176 : Ref sig .tc := ⟨.hbm, 303, rfl⟩
abbrev main_v177 : Ref sig .tc := ⟨.hbm, 304, rfl⟩
abbrev main_v178 : Ref sig .tc := ⟨.hbm, 305, rfl⟩
abbrev main_v179 : Ref sig .tc := ⟨.hbm, 306, rfl⟩
abbrev main_v180 : Ref sig .tc := ⟨.hbm, 307, rfl⟩
abbrev main_v181 : Ref sig .tc := ⟨.hbm, 308, rfl⟩
abbrev main_v182 : Ref sig .tc := ⟨.hbm, 309, rfl⟩
abbrev main_v183 : Ref sig .tc := ⟨.hbm, 310, rfl⟩
abbrev main_v184 : Ref sig .tc := ⟨.hbm, 311, rfl⟩
abbrev main_v185 : Ref sig .tc := ⟨.hbm, 312, rfl⟩
abbrev main_call11_cst : Ref sig .tc := ⟨.hbm, 313, rfl⟩
abbrev main_call11_v0 : Ref sig .tc := ⟨.hbm, 314, rfl⟩
abbrev main_call11_v1 : Ref sig .tc := ⟨.hbm, 315, rfl⟩
abbrev main_call11_v2 : Ref sig .tc := ⟨.hbm, 316, rfl⟩
abbrev main_call11_v3 : Ref sig .tc := ⟨.hbm, 317, rfl⟩
abbrev main_call11_v4 : Ref sig .tc := ⟨.hbm, 318, rfl⟩
abbrev main_call11_v5 : Ref sig .tc := ⟨.hbm, 319, rfl⟩
abbrev main_call11_v6 : Ref sig .tc := ⟨.hbm, 320, rfl⟩
abbrev main_call11_v7 : Ref sig .tc := ⟨.hbm, 321, rfl⟩
abbrev main_call11_v8 : Ref sig .tc := ⟨.hbm, 322, rfl⟩
abbrev main_call11_v9 : Ref sig .tc := ⟨.hbm, 323, rfl⟩
abbrev main_call11_v10 : Ref sig .tc := ⟨.hbm, 324, rfl⟩
abbrev main_call11_v11 : Ref sig .tc := ⟨.hbm, 325, rfl⟩
abbrev main_v186 : Ref sig .tc := ⟨.hbm, 326, rfl⟩
abbrev main_v187 : Ref sig .tc := ⟨.hbm, 327, rfl⟩
abbrev main_v188 : Ref sig .tc := ⟨.hbm, 328, rfl⟩
abbrev main_v189 : Ref sig .tc := ⟨.hbm, 329, rfl⟩
abbrev main_v190 : Ref sig .tc := ⟨.hbm, 330, rfl⟩
abbrev main_v191 : Ref sig .tc := ⟨.hbm, 331, rfl⟩
abbrev main_v192 : Ref sig .tc := ⟨.hbm, 332, rfl⟩
abbrev main_v193_0 : Ref sig .tc := ⟨.hbm, 333, rfl⟩
abbrev main_v193_1 : Ref sig .tc := ⟨.hbm, 334, rfl⟩
abbrev main_v194 : Ref sig .tc := ⟨.hbm, 335, rfl⟩
abbrev main_v195 : Ref sig .tc := ⟨.hbm, 336, rfl⟩
abbrev main_v196 : Ref sig .tc := ⟨.hbm, 337, rfl⟩
abbrev main_v197 : Ref sig .tc := ⟨.hbm, 338, rfl⟩
abbrev main_v198 : Ref sig .tc := ⟨.hbm, 339, rfl⟩
abbrev main_v199 : Ref sig .tc := ⟨.hbm, 340, rfl⟩
abbrev main_v200 : Ref sig .tc := ⟨.hbm, 341, rfl⟩
abbrev main_v201 : Ref sig .tc := ⟨.hbm, 342, rfl⟩
abbrev main_v202 : Ref sig .tc := ⟨.hbm, 343, rfl⟩
abbrev main_cst_41 : Ref sig .tc := ⟨.hbm, 344, rfl⟩
abbrev main_v203 : Ref sig .tc := ⟨.hbm, 345, rfl⟩
abbrev main_v204 : Ref sig .tc := ⟨.hbm, 346, rfl⟩
abbrev main_v205 : Ref sig .tc := ⟨.hbm, 347, rfl⟩
abbrev main_cst_42 : Ref sig .tc := ⟨.hbm, 348, rfl⟩
abbrev main_v206 : Ref sig .tc := ⟨.hbm, 349, rfl⟩
abbrev main_v207 : Ref sig .tc := ⟨.hbm, 350, rfl⟩
abbrev main_v208 : Ref sig .tc := ⟨.hbm, 351, rfl⟩
abbrev main_cst_43 : Ref sig .tc := ⟨.hbm, 352, rfl⟩
abbrev main_v209 : Ref sig .tc := ⟨.hbm, 353, rfl⟩
abbrev main_v210 : Ref sig .tc := ⟨.hbm, 354, rfl⟩
abbrev main_v211 : Ref sig .tc := ⟨.hbm, 355, rfl⟩
abbrev main_v212 : Ref sig .tc := ⟨.hbm, 356, rfl⟩
abbrev main_v213 : Ref sig .tc := ⟨.hbm, 357, rfl⟩
abbrev main_v214 : Ref sig .tc := ⟨.hbm, 358, rfl⟩
abbrev main_v215 : Ref sig .tc := ⟨.hbm, 359, rfl⟩
abbrev main_v216 : Ref sig .tc := ⟨.hbm, 360, rfl⟩
abbrev main_v217 : Ref sig .tc := ⟨.hbm, 361, rfl⟩
abbrev main_cst_44 : Ref sig .tc := ⟨.hbm, 362, rfl⟩
abbrev main_v218 : Ref sig .tc := ⟨.hbm, 363, rfl⟩
abbrev main_v219 : Ref sig .tc := ⟨.hbm, 364, rfl⟩
abbrev main_v220 : Ref sig .tc := ⟨.hbm, 365, rfl⟩
abbrev main_v221 : Ref sig .tc := ⟨.hbm, 366, rfl⟩
abbrev main_v222 : Ref sig .tc := ⟨.hbm, 367, rfl⟩
abbrev main_cst_45 : Ref sig .tc := ⟨.hbm, 368, rfl⟩
abbrev main_v223 : Ref sig .tc := ⟨.hbm, 369, rfl⟩
abbrev main_v224 : Ref sig .tc := ⟨.hbm, 370, rfl⟩
abbrev main_v225 : Ref sig .tc := ⟨.hbm, 371, rfl⟩
abbrev main_cst_46 : Ref sig .tc := ⟨.hbm, 372, rfl⟩
abbrev main_v226 : Ref sig .tc := ⟨.hbm, 373, rfl⟩
abbrev main_v227 : Ref sig .tc := ⟨.hbm, 374, rfl⟩
abbrev main_v228 : Ref sig .tc := ⟨.hbm, 375, rfl⟩
abbrev main_v229 : Ref sig .tc := ⟨.hbm, 376, rfl⟩
abbrev main_cst_47 : Ref sig .tc := ⟨.hbm, 377, rfl⟩
abbrev main_cst_48 : Ref sig .tc := ⟨.hbm, 378, rfl⟩
abbrev main_call12_v0 : Ref sig .tc := ⟨.hbm, 379, rfl⟩
abbrev main_call12_v1 : Ref sig .tc := ⟨.hbm, 380, rfl⟩
abbrev main_call12_v2 : Ref sig .tc := ⟨.hbm, 381, rfl⟩
abbrev main_call12_v3 : Ref sig .tc := ⟨.hbm, 382, rfl⟩
abbrev main_call12_v4 : Ref sig .tc := ⟨.hbm, 383, rfl⟩
abbrev main_v230 : Ref sig .tc := ⟨.hbm, 384, rfl⟩
abbrev main_v231 : Ref sig .tc := ⟨.hbm, 385, rfl⟩
abbrev main_v232 : Ref sig .tc := ⟨.hbm, 386, rfl⟩
abbrev main_cst_49 : Ref sig .tc := ⟨.hbm, 387, rfl⟩
abbrev main_v233 : Ref sig .tc := ⟨.hbm, 388, rfl⟩
abbrev main_v234 : Ref sig .tc := ⟨.hbm, 389, rfl⟩
abbrev main_v235 : Ref sig .tc := ⟨.hbm, 390, rfl⟩
abbrev main_v236 : Ref sig .tc := ⟨.hbm, 391, rfl⟩
abbrev main_cst_50 : Ref sig .tc := ⟨.hbm, 392, rfl⟩
abbrev main_v237 : Ref sig .tc := ⟨.hbm, 393, rfl⟩
abbrev main_v238 : Ref sig .tc := ⟨.hbm, 394, rfl⟩
abbrev main_v239 : Ref sig .tc := ⟨.hbm, 395, rfl⟩
abbrev main_cst_51 : Ref sig .tc := ⟨.hbm, 396, rfl⟩
abbrev main_v240 : Ref sig .tc := ⟨.hbm, 397, rfl⟩
abbrev main_v241 : Ref sig .tc := ⟨.hbm, 398, rfl⟩
abbrev main_v242 : Ref sig .tc := ⟨.hbm, 399, rfl⟩
abbrev main_v243 : Ref sig .tc := ⟨.hbm, 400, rfl⟩
abbrev main_cst_52 : Ref sig .tc := ⟨.hbm, 401, rfl⟩
abbrev main_v244 : Ref sig .tc := ⟨.hbm, 402, rfl⟩
abbrev main_v245 : Ref sig .tc := ⟨.hbm, 403, rfl⟩
abbrev main_cst_53 : Ref sig .tc := ⟨.hbm, 404, rfl⟩
abbrev main_v246 : Ref sig .tc := ⟨.hbm, 405, rfl⟩
abbrev main_v247 : Ref sig .tc := ⟨.hbm, 406, rfl⟩
abbrev main_cst_54 : Ref sig .tc := ⟨.hbm, 407, rfl⟩
abbrev main_v248 : Ref sig .tc := ⟨.hbm, 408, rfl⟩
abbrev main_v249 : Ref sig .tc := ⟨.hbm, 409, rfl⟩
abbrev main_v250 : Ref sig .tc := ⟨.hbm, 410, rfl⟩
abbrev main_v251 : Ref sig .tc := ⟨.hbm, 411, rfl⟩
abbrev main_cst_55 : Ref sig .tc := ⟨.hbm, 412, rfl⟩
abbrev main_v252 : Ref sig .tc := ⟨.hbm, 413, rfl⟩
abbrev main_v253 : Ref sig .tc := ⟨.hbm, 414, rfl⟩
abbrev main_cst_56 : Ref sig .tc := ⟨.hbm, 415, rfl⟩
abbrev main_v254 : Ref sig .tc := ⟨.hbm, 416, rfl⟩
abbrev main_v255 : Ref sig .tc := ⟨.hbm, 417, rfl⟩
abbrev main_v256 : Ref sig .tc := ⟨.hbm, 418, rfl⟩
abbrev main_cst_57 : Ref sig .tc := ⟨.hbm, 419, rfl⟩
abbrev main_v257 : Ref sig .tc := ⟨.hbm, 420, rfl⟩
abbrev main_v258 : Ref sig .tc := ⟨.hbm, 421, rfl⟩
abbrev main_cst_58 : Ref sig .tc := ⟨.hbm, 422, rfl⟩
abbrev main_v259 : Ref sig .tc := ⟨.hbm, 423, rfl⟩
abbrev main_v260 : Ref sig .tc := ⟨.hbm, 424, rfl⟩
abbrev main_v261 : Ref sig .tc := ⟨.hbm, 425, rfl⟩
abbrev main_cst_59 : Ref sig .tc := ⟨.hbm, 426, rfl⟩
abbrev main_v262 : Ref sig .tc := ⟨.hbm, 427, rfl⟩
abbrev main_v263 : Ref sig .tc := ⟨.hbm, 428, rfl⟩
abbrev main_cst_60 : Ref sig .tc := ⟨.hbm, 429, rfl⟩
abbrev main_v264 : Ref sig .tc := ⟨.hbm, 430, rfl⟩
abbrev main_v265 : Ref sig .tc := ⟨.hbm, 431, rfl⟩
abbrev main_v266 : Ref sig .tc := ⟨.hbm, 432, rfl⟩
abbrev main_call13_call0_cst : Ref sig .tc := ⟨.hbm, 433, rfl⟩
abbrev main_call13_call0_v0 : Ref sig .tc := ⟨.hbm, 434, rfl⟩
abbrev main_v267 : Ref sig .tc := ⟨.hbm, 435, rfl⟩
abbrev main_cst_61 : Ref sig .tc := ⟨.hbm, 436, rfl⟩
abbrev main_v268 : Ref sig .tc := ⟨.hbm, 437, rfl⟩
abbrev main_v269 : Ref sig .tc := ⟨.hbm, 438, rfl⟩
abbrev main_v270 : Ref sig .tc := ⟨.hbm, 439, rfl⟩
abbrev main_v271 : Ref sig .tc := ⟨.hbm, 440, rfl⟩
abbrev main_v272 : Ref sig .tc := ⟨.hbm, 441, rfl⟩
abbrev main_cst_62 : Ref sig .tc := ⟨.hbm, 442, rfl⟩
abbrev main_v273 : Ref sig .tc := ⟨.hbm, 443, rfl⟩
abbrev main_v274 : Ref sig .tc := ⟨.hbm, 444, rfl⟩
abbrev main_cst_63 : Ref sig .tc := ⟨.hbm, 445, rfl⟩
abbrev main_v275 : Ref sig .tc := ⟨.hbm, 446, rfl⟩
abbrev main_v276 : Ref sig .tc := ⟨.hbm, 447, rfl⟩
abbrev main_v277 : Ref sig .tc := ⟨.hbm, 448, rfl⟩
abbrev main_v278 : Ref sig .tc := ⟨.hbm, 449, rfl⟩
abbrev main_call14_call0_cst : Ref sig .tc := ⟨.hbm, 450, rfl⟩
abbrev main_call14_call0_v0 : Ref sig .tc := ⟨.hbm, 451, rfl⟩
abbrev main_v279 : Ref sig .tc := ⟨.hbm, 452, rfl⟩
abbrev main_v280 : Ref sig .tc := ⟨.hbm, 453, rfl⟩
abbrev main_cst_64 : Ref sig .tc := ⟨.hbm, 454, rfl⟩
abbrev main_v281 : Ref sig .tc := ⟨.hbm, 455, rfl⟩
abbrev main_v282 : Ref sig .tc := ⟨.hbm, 456, rfl⟩
abbrev main_cst_65 : Ref sig .tc := ⟨.hbm, 457, rfl⟩
abbrev main_cst_66 : Ref sig .tc := ⟨.hbm, 458, rfl⟩
abbrev main_call15_v0 : Ref sig .tc := ⟨.hbm, 459, rfl⟩
abbrev main_call15_v1 : Ref sig .tc := ⟨.hbm, 460, rfl⟩
abbrev main_call15_v2 : Ref sig .tc := ⟨.hbm, 461, rfl⟩
abbrev main_call15_cst : Ref sig .tc := ⟨.hbm, 462, rfl⟩
abbrev main_call15_v3 : Ref sig .tc := ⟨.hbm, 463, rfl⟩
abbrev main_call15_v4 : Ref sig .tc := ⟨.hbm, 464, rfl⟩
abbrev main_call15_cst_0 : Ref sig .tc := ⟨.hbm, 465, rfl⟩
abbrev main_call15_v5 : Ref sig .tc := ⟨.hbm, 466, rfl⟩
abbrev main_call15_v6 : Ref sig .tc := ⟨.hbm, 467, rfl⟩
abbrev main_call15_v7 : Ref sig .tc := ⟨.hbm, 468, rfl⟩
abbrev main_call15_cst_1 : Ref sig .tc := ⟨.hbm, 469, rfl⟩
abbrev main_call15_v8 : Ref sig .tc := ⟨.hbm, 470, rfl⟩
abbrev main_call15_v9 : Ref sig .tc := ⟨.hbm, 471, rfl⟩
abbrev main_call15_v10 : Ref sig .tc := ⟨.hbm, 472, rfl⟩
abbrev main_call15_v11 : Ref sig .tc := ⟨.hbm, 473, rfl⟩
abbrev main_call15_v12 : Ref sig .tc := ⟨.hbm, 474, rfl⟩
abbrev main_call15_v13 : Ref sig .tc := ⟨.hbm, 475, rfl⟩
abbrev main_call15_v14 : Ref sig .tc := ⟨.hbm, 476, rfl⟩
abbrev main_call15_v15 : Ref sig .tc := ⟨.hbm, 477, rfl⟩
abbrev main_call15_v16 : Ref sig .tc := ⟨.hbm, 478, rfl⟩
abbrev main_v283 : Ref sig .tc := ⟨.hbm, 479, rfl⟩
abbrev main_v284 : Ref sig .tc := ⟨.hbm, 480, rfl⟩
abbrev main_v285 : Ref sig .tc := ⟨.hbm, 481, rfl⟩
abbrev main_v286 : Ref sig .tc := ⟨.hbm, 482, rfl⟩
abbrev main_v287 : Ref sig .tc := ⟨.hbm, 483, rfl⟩
abbrev main_v288 : Ref sig .tc := ⟨.hbm, 484, rfl⟩
abbrev main_v289 : Ref sig .tc := ⟨.hbm, 485, rfl⟩
abbrev main_c_67 : Ref sig .tc := ⟨.hbm, 486, rfl⟩
abbrev main_v290 : Ref sig .tc := ⟨.hbm, 487, rfl⟩
abbrev main_c_68 : Ref sig .tc := ⟨.hbm, 488, rfl⟩
abbrev main_v291 : Ref sig .tc := ⟨.hbm, 489, rfl⟩
abbrev main_v292 : Ref sig .tc := ⟨.hbm, 490, rfl⟩
abbrev main_c_69 : Ref sig .tc := ⟨.hbm, 491, rfl⟩
abbrev main_v293 : Ref sig .tc := ⟨.hbm, 492, rfl⟩
abbrev main_v294 : Ref sig .tc := ⟨.hbm, 493, rfl⟩
abbrev main_c_70 : Ref sig .tc := ⟨.hbm, 494, rfl⟩
abbrev main_v295 : Ref sig .tc := ⟨.hbm, 495, rfl⟩
abbrev main_v296 : Ref sig .tc := ⟨.hbm, 496, rfl⟩
abbrev main_v297 : Ref sig .tc := ⟨.hbm, 497, rfl⟩
abbrev main_v298 : Ref sig .tc := ⟨.hbm, 498, rfl⟩
abbrev main_v299 : Ref sig .tc := ⟨.hbm, 499, rfl⟩
abbrev main_v300 : Ref sig .tc := ⟨.hbm, 500, rfl⟩
abbrev main_v301 : Ref sig .tc := ⟨.hbm, 501, rfl⟩
abbrev main_v302 : Ref sig .tc := ⟨.hbm, 502, rfl⟩
abbrev main_cst_71 : Ref sig .tc := ⟨.hbm, 503, rfl⟩
abbrev main_call16_v0 : Ref sig .tc := ⟨.hbm, 504, rfl⟩
abbrev main_call16_v1 : Ref sig .tc := ⟨.hbm, 505, rfl⟩
abbrev main_call16_v2 : Ref sig .tc := ⟨.hbm, 506, rfl⟩
abbrev main_v303 : Ref sig .tc := ⟨.hbm, 507, rfl⟩
abbrev main_cst_72 : Ref sig .tc := ⟨.hbm, 508, rfl⟩
abbrev main_v304 : Ref sig .tc := ⟨.hbm, 509, rfl⟩
abbrev main_v305 : Ref sig .tc := ⟨.hbm, 510, rfl⟩
abbrev main_v306 : Ref sig .tc := ⟨.hbm, 511, rfl⟩
abbrev main_v307 : Ref sig .tc := ⟨.hbm, 512, rfl⟩
abbrev main_v308 : Ref sig .tc := ⟨.hbm, 513, rfl⟩
abbrev main_v309 : Ref sig .tc := ⟨.hbm, 514, rfl⟩
abbrev main_cst_73 : Ref sig .tc := ⟨.hbm, 515, rfl⟩
abbrev main_call17_v0 : Ref sig .tc := ⟨.hbm, 516, rfl⟩
abbrev main_call17_v1 : Ref sig .tc := ⟨.hbm, 517, rfl⟩
abbrev main_call17_v2 : Ref sig .tc := ⟨.hbm, 518, rfl⟩
abbrev main_v310 : Ref sig .tc := ⟨.hbm, 519, rfl⟩
abbrev main_cst_74 : Ref sig .tc := ⟨.hbm, 520, rfl⟩
abbrev main_v311 : Ref sig .tc := ⟨.hbm, 521, rfl⟩
abbrev main_v312 : Ref sig .tc := ⟨.hbm, 522, rfl⟩
abbrev main_v313 : Ref sig .tc := ⟨.hbm, 523, rfl⟩
abbrev main_v314 : Ref sig .tc := ⟨.hbm, 524, rfl⟩
abbrev main_v315 : Ref sig .tc := ⟨.hbm, 525, rfl⟩
abbrev main_v316 : Ref sig .tc := ⟨.hbm, 526, rfl⟩
abbrev main_cst_75 : Ref sig .tc := ⟨.hbm, 527, rfl⟩
abbrev main_call18_v0 : Ref sig .tc := ⟨.hbm, 528, rfl⟩
abbrev main_call18_v1 : Ref sig .tc := ⟨.hbm, 529, rfl⟩
abbrev main_call18_v2 : Ref sig .tc := ⟨.hbm, 530, rfl⟩
abbrev main_v317 : Ref sig .tc := ⟨.hbm, 531, rfl⟩
abbrev main_cst_76 : Ref sig .tc := ⟨.hbm, 532, rfl⟩
abbrev main_v318 : Ref sig .tc := ⟨.hbm, 533, rfl⟩
abbrev main_v319 : Ref sig .tc := ⟨.hbm, 534, rfl⟩
abbrev main_v320 : Ref sig .tc := ⟨.hbm, 535, rfl⟩
abbrev main_v321 : Ref sig .tc := ⟨.hbm, 536, rfl⟩
abbrev main_v322 : Ref sig .tc := ⟨.hbm, 537, rfl⟩
abbrev main_v323 : Ref sig .tc := ⟨.hbm, 538, rfl⟩
abbrev main_cst_77 : Ref sig .tc := ⟨.hbm, 539, rfl⟩
abbrev main_call19_v0 : Ref sig .tc := ⟨.hbm, 540, rfl⟩
abbrev main_call19_v1 : Ref sig .tc := ⟨.hbm, 541, rfl⟩
abbrev main_call19_v2 : Ref sig .tc := ⟨.hbm, 542, rfl⟩
abbrev main_v324 : Ref sig .tc := ⟨.hbm, 543, rfl⟩
abbrev main_cst_78 : Ref sig .tc := ⟨.hbm, 544, rfl⟩
abbrev main_v325 : Ref sig .tc := ⟨.hbm, 545, rfl⟩
abbrev main_v326 : Ref sig .tc := ⟨.hbm, 546, rfl⟩
abbrev main_cst_79 : Ref sig .tc := ⟨.hbm, 547, rfl⟩
abbrev main_v327 : Ref sig .tc := ⟨.hbm, 548, rfl⟩
abbrev main_v328 : Ref sig .tc := ⟨.hbm, 549, rfl⟩
abbrev main_cst_80 : Ref sig .tc := ⟨.hbm, 550, rfl⟩
abbrev main_call20_v0 : Ref sig .tc := ⟨.hbm, 551, rfl⟩
abbrev main_call20_v1 : Ref sig .tc := ⟨.hbm, 552, rfl⟩
abbrev main_v329 : Ref sig .tc := ⟨.hbm, 553, rfl⟩
abbrev main_v330 : Ref sig .tc := ⟨.hbm, 554, rfl⟩
abbrev main_v331 : Ref sig .tc := ⟨.hbm, 555, rfl⟩
abbrev main_v332 : Ref sig .tc := ⟨.hbm, 556, rfl⟩
abbrev main_v333 : Ref sig .tc := ⟨.hbm, 557, rfl⟩
abbrev main_v334 : Ref sig .tc := ⟨.hbm, 558, rfl⟩
abbrev main_v335 : Ref sig .tc := ⟨.hbm, 559, rfl⟩
abbrev main_v336 : Ref sig .tc := ⟨.hbm, 560, rfl⟩
abbrev main_v337 : Ref sig .tc := ⟨.hbm, 561, rfl⟩
abbrev main_v338 : Ref sig .tc := ⟨.hbm, 562, rfl⟩
abbrev main_v339 : Ref sig .tc := ⟨.hbm, 563, rfl⟩
abbrev main_v340 : Ref sig .tc := ⟨.hbm, 564, rfl⟩
abbrev main_v341 : Ref sig .tc := ⟨.hbm, 565, rfl⟩
abbrev main_v342 : Ref sig .tc := ⟨.hbm, 566, rfl⟩
abbrev main_v343 : Ref sig .tc := ⟨.hbm, 567, rfl⟩
abbrev main_v344 : Ref sig .tc := ⟨.hbm, 568, rfl⟩
abbrev main_v345 : Ref sig .tc := ⟨.hbm, 569, rfl⟩
abbrev main_v346 : Ref sig .tc := ⟨.hbm, 570, rfl⟩
abbrev main_v347 : Ref sig .tc := ⟨.hbm, 571, rfl⟩
abbrev main_v348 : Ref sig .tc := ⟨.hbm, 572, rfl⟩
abbrev main_v349 : Ref sig .tc := ⟨.hbm, 573, rfl⟩
abbrev main_call21_cst : Ref sig .tc := ⟨.hbm, 574, rfl⟩
abbrev main_call21_v0 : Ref sig .tc := ⟨.hbm, 575, rfl⟩
abbrev main_call21_v1 : Ref sig .tc := ⟨.hbm, 576, rfl⟩
abbrev main_call21_v2 : Ref sig .tc := ⟨.hbm, 577, rfl⟩
abbrev main_call21_v3 : Ref sig .tc := ⟨.hbm, 578, rfl⟩
abbrev main_call21_v4 : Ref sig .tc := ⟨.hbm, 579, rfl⟩
abbrev main_call21_v5 : Ref sig .tc := ⟨.hbm, 580, rfl⟩
abbrev main_call21_v6 : Ref sig .tc := ⟨.hbm, 581, rfl⟩
abbrev main_call21_v7 : Ref sig .tc := ⟨.hbm, 582, rfl⟩
abbrev main_call21_v8 : Ref sig .tc := ⟨.hbm, 583, rfl⟩
abbrev main_call21_v9 : Ref sig .tc := ⟨.hbm, 584, rfl⟩
abbrev main_call21_v10 : Ref sig .tc := ⟨.hbm, 585, rfl⟩
abbrev main_call21_v11 : Ref sig .tc := ⟨.hbm, 586, rfl⟩
abbrev main_v350 : Ref sig .tc := ⟨.hbm, 587, rfl⟩
abbrev main_v351 : Ref sig .tc := ⟨.hbm, 588, rfl⟩
abbrev main_v352 : Ref sig .tc := ⟨.hbm, 589, rfl⟩
abbrev main_v353 : Ref sig .tc := ⟨.hbm, 590, rfl⟩
abbrev main_v354 : Ref sig .tc := ⟨.hbm, 591, rfl⟩
abbrev main_v355 : Ref sig .tc := ⟨.hbm, 592, rfl⟩
abbrev main_v356 : Ref sig .tc := ⟨.hbm, 593, rfl⟩
abbrev main_v357_0 : Ref sig .tc := ⟨.hbm, 594, rfl⟩
abbrev main_v357_1 : Ref sig .tc := ⟨.hbm, 595, rfl⟩
abbrev main_v358 : Ref sig .tc := ⟨.hbm, 596, rfl⟩
abbrev main_v359 : Ref sig .tc := ⟨.hbm, 597, rfl⟩
abbrev main_v360 : Ref sig .tc := ⟨.hbm, 598, rfl⟩
abbrev main_v361 : Ref sig .tc := ⟨.hbm, 599, rfl⟩
abbrev main_v362 : Ref sig .tc := ⟨.hbm, 600, rfl⟩
abbrev main_v363 : Ref sig .tc := ⟨.hbm, 601, rfl⟩
abbrev main_v364 : Ref sig .tc := ⟨.hbm, 602, rfl⟩
abbrev main_v365 : Ref sig .tc := ⟨.hbm, 603, rfl⟩
abbrev main_v366 : Ref sig .tc := ⟨.hbm, 604, rfl⟩
abbrev main_cst_81 : Ref sig .tc := ⟨.hbm, 605, rfl⟩
abbrev main_v367 : Ref sig .tc := ⟨.hbm, 606, rfl⟩
abbrev main_v368 : Ref sig .tc := ⟨.hbm, 607, rfl⟩
abbrev main_v369 : Ref sig .tc := ⟨.hbm, 608, rfl⟩
abbrev main_cst_82 : Ref sig .tc := ⟨.hbm, 609, rfl⟩
abbrev main_v370 : Ref sig .tc := ⟨.hbm, 610, rfl⟩
abbrev main_v371 : Ref sig .tc := ⟨.hbm, 611, rfl⟩
abbrev main_v372 : Ref sig .tc := ⟨.hbm, 612, rfl⟩
abbrev main_cst_83 : Ref sig .tc := ⟨.hbm, 613, rfl⟩
abbrev main_v373 : Ref sig .tc := ⟨.hbm, 614, rfl⟩
abbrev main_v374 : Ref sig .tc := ⟨.hbm, 615, rfl⟩
abbrev main_v375 : Ref sig .tc := ⟨.hbm, 616, rfl⟩
abbrev main_v376 : Ref sig .tc := ⟨.hbm, 617, rfl⟩
abbrev main_v377 : Ref sig .tc := ⟨.hbm, 618, rfl⟩
abbrev main_v378 : Ref sig .tc := ⟨.hbm, 619, rfl⟩
abbrev main_v379 : Ref sig .tc := ⟨.hbm, 620, rfl⟩
abbrev main_v380 : Ref sig .tc := ⟨.hbm, 621, rfl⟩
abbrev main_v381 : Ref sig .tc := ⟨.hbm, 622, rfl⟩
abbrev main_cst_84 : Ref sig .tc := ⟨.hbm, 623, rfl⟩
abbrev main_v382 : Ref sig .tc := ⟨.hbm, 624, rfl⟩
abbrev main_v383 : Ref sig .tc := ⟨.hbm, 625, rfl⟩
abbrev main_v384 : Ref sig .tc := ⟨.hbm, 626, rfl⟩
abbrev main_v385 : Ref sig .tc := ⟨.hbm, 627, rfl⟩
abbrev main_v386 : Ref sig .tc := ⟨.hbm, 628, rfl⟩
abbrev main_cst_85 : Ref sig .tc := ⟨.hbm, 629, rfl⟩
abbrev main_v387 : Ref sig .tc := ⟨.hbm, 630, rfl⟩
abbrev main_v388 : Ref sig .tc := ⟨.hbm, 631, rfl⟩
abbrev main_v389 : Ref sig .tc := ⟨.hbm, 632, rfl⟩
abbrev main_cst_86 : Ref sig .tc := ⟨.hbm, 633, rfl⟩
abbrev main_v390 : Ref sig .tc := ⟨.hbm, 634, rfl⟩
abbrev main_v391 : Ref sig .tc := ⟨.hbm, 635, rfl⟩
abbrev main_v392 : Ref sig .tc := ⟨.hbm, 636, rfl⟩
abbrev main_v393 : Ref sig .tc := ⟨.hbm, 637, rfl⟩
abbrev main_cst_87 : Ref sig .tc := ⟨.hbm, 638, rfl⟩
abbrev main_cst_88 : Ref sig .tc := ⟨.hbm, 639, rfl⟩
abbrev main_call22_v0 : Ref sig .tc := ⟨.hbm, 640, rfl⟩
abbrev main_call22_v1 : Ref sig .tc := ⟨.hbm, 641, rfl⟩
abbrev main_call22_v2 : Ref sig .tc := ⟨.hbm, 642, rfl⟩
abbrev main_call22_v3 : Ref sig .tc := ⟨.hbm, 643, rfl⟩
abbrev main_call22_v4 : Ref sig .tc := ⟨.hbm, 644, rfl⟩
abbrev main_v394 : Ref sig .tc := ⟨.hbm, 645, rfl⟩
abbrev main_v395 : Ref sig .tc := ⟨.hbm, 646, rfl⟩
abbrev main_v396 : Ref sig .tc := ⟨.hbm, 647, rfl⟩
abbrev main_cst_89 : Ref sig .tc := ⟨.hbm, 648, rfl⟩
abbrev main_v397 : Ref sig .tc := ⟨.hbm, 649, rfl⟩
abbrev main_v398 : Ref sig .tc := ⟨.hbm, 650, rfl⟩
abbrev main_v399 : Ref sig .tc := ⟨.hbm, 651, rfl⟩
abbrev main_v400 : Ref sig .tc := ⟨.hbm, 652, rfl⟩
abbrev main_cst_90 : Ref sig .tc := ⟨.hbm, 653, rfl⟩
abbrev main_v401 : Ref sig .tc := ⟨.hbm, 654, rfl⟩
abbrev main_v402 : Ref sig .tc := ⟨.hbm, 655, rfl⟩
abbrev main_v403 : Ref sig .tc := ⟨.hbm, 656, rfl⟩
abbrev main_cst_91 : Ref sig .tc := ⟨.hbm, 657, rfl⟩
abbrev main_v404 : Ref sig .tc := ⟨.hbm, 658, rfl⟩
abbrev main_v405 : Ref sig .tc := ⟨.hbm, 659, rfl⟩
abbrev main_v406 : Ref sig .tc := ⟨.hbm, 660, rfl⟩
abbrev main_v407 : Ref sig .tc := ⟨.hbm, 661, rfl⟩
abbrev main_cst_92 : Ref sig .tc := ⟨.hbm, 662, rfl⟩
abbrev main_v408 : Ref sig .tc := ⟨.hbm, 663, rfl⟩
abbrev main_v409 : Ref sig .tc := ⟨.hbm, 664, rfl⟩
abbrev main_cst_93 : Ref sig .tc := ⟨.hbm, 665, rfl⟩
abbrev main_v410 : Ref sig .tc := ⟨.hbm, 666, rfl⟩
abbrev main_v411 : Ref sig .tc := ⟨.hbm, 667, rfl⟩
abbrev main_cst_94 : Ref sig .tc := ⟨.hbm, 668, rfl⟩
abbrev main_v412 : Ref sig .tc := ⟨.hbm, 669, rfl⟩
abbrev main_v413 : Ref sig .tc := ⟨.hbm, 670, rfl⟩
abbrev main_v414 : Ref sig .tc := ⟨.hbm, 671, rfl⟩
abbrev main_v415 : Ref sig .tc := ⟨.hbm, 672, rfl⟩
abbrev main_cst_95 : Ref sig .tc := ⟨.hbm, 673, rfl⟩
abbrev main_v416 : Ref sig .tc := ⟨.hbm, 674, rfl⟩
abbrev main_v417 : Ref sig .tc := ⟨.hbm, 675, rfl⟩
abbrev main_cst_96 : Ref sig .tc := ⟨.hbm, 676, rfl⟩
abbrev main_v418 : Ref sig .tc := ⟨.hbm, 677, rfl⟩
abbrev main_v419 : Ref sig .tc := ⟨.hbm, 678, rfl⟩
abbrev main_v420 : Ref sig .tc := ⟨.hbm, 679, rfl⟩
abbrev main_cst_97 : Ref sig .tc := ⟨.hbm, 680, rfl⟩
abbrev main_v421 : Ref sig .tc := ⟨.hbm, 681, rfl⟩
abbrev main_v422 : Ref sig .tc := ⟨.hbm, 682, rfl⟩
abbrev main_cst_98 : Ref sig .tc := ⟨.hbm, 683, rfl⟩
abbrev main_v423 : Ref sig .tc := ⟨.hbm, 684, rfl⟩
abbrev main_v424 : Ref sig .tc := ⟨.hbm, 685, rfl⟩
abbrev main_v425 : Ref sig .tc := ⟨.hbm, 686, rfl⟩
abbrev main_cst_99 : Ref sig .tc := ⟨.hbm, 687, rfl⟩
abbrev main_v426 : Ref sig .tc := ⟨.hbm, 688, rfl⟩
abbrev main_v427 : Ref sig .tc := ⟨.hbm, 689, rfl⟩
abbrev main_cst_100 : Ref sig .tc := ⟨.hbm, 690, rfl⟩
abbrev main_v428 : Ref sig .tc := ⟨.hbm, 691, rfl⟩
abbrev main_v429 : Ref sig .tc := ⟨.hbm, 692, rfl⟩
abbrev main_v430 : Ref sig .tc := ⟨.hbm, 693, rfl⟩
abbrev main_call23_call0_cst : Ref sig .tc := ⟨.hbm, 694, rfl⟩
abbrev main_call23_call0_v0 : Ref sig .tc := ⟨.hbm, 695, rfl⟩
abbrev main_v431 : Ref sig .tc := ⟨.hbm, 696, rfl⟩
abbrev main_cst_101 : Ref sig .tc := ⟨.hbm, 697, rfl⟩
abbrev main_v432 : Ref sig .tc := ⟨.hbm, 698, rfl⟩
abbrev main_v433 : Ref sig .tc := ⟨.hbm, 699, rfl⟩
abbrev main_v434 : Ref sig .tc := ⟨.hbm, 700, rfl⟩
abbrev main_v435 : Ref sig .tc := ⟨.hbm, 701, rfl⟩
abbrev main_v436 : Ref sig .tc := ⟨.hbm, 702, rfl⟩
abbrev main_cst_102 : Ref sig .tc := ⟨.hbm, 703, rfl⟩
abbrev main_v437 : Ref sig .tc := ⟨.hbm, 704, rfl⟩
abbrev main_v438 : Ref sig .tc := ⟨.hbm, 705, rfl⟩
abbrev main_cst_103 : Ref sig .tc := ⟨.hbm, 706, rfl⟩
abbrev main_v439 : Ref sig .tc := ⟨.hbm, 707, rfl⟩
abbrev main_v440 : Ref sig .tc := ⟨.hbm, 708, rfl⟩
abbrev main_v441 : Ref sig .tc := ⟨.hbm, 709, rfl⟩
abbrev main_v442 : Ref sig .tc := ⟨.hbm, 710, rfl⟩
abbrev main_call24_call0_cst : Ref sig .tc := ⟨.hbm, 711, rfl⟩
abbrev main_call24_call0_v0 : Ref sig .tc := ⟨.hbm, 712, rfl⟩
abbrev main_v443 : Ref sig .tc := ⟨.hbm, 713, rfl⟩
abbrev main_v444 : Ref sig .tc := ⟨.hbm, 714, rfl⟩
abbrev main_cst_104 : Ref sig .tc := ⟨.hbm, 715, rfl⟩
abbrev main_v445 : Ref sig .tc := ⟨.hbm, 716, rfl⟩
abbrev main_v446 : Ref sig .tc := ⟨.hbm, 717, rfl⟩
abbrev main_cst_105 : Ref sig .tc := ⟨.hbm, 718, rfl⟩
abbrev main_cst_106 : Ref sig .tc := ⟨.hbm, 719, rfl⟩
abbrev main_call25_v0 : Ref sig .tc := ⟨.hbm, 720, rfl⟩
abbrev main_call25_v1 : Ref sig .tc := ⟨.hbm, 721, rfl⟩
abbrev main_call25_v2 : Ref sig .tc := ⟨.hbm, 722, rfl⟩
abbrev main_call25_cst : Ref sig .tc := ⟨.hbm, 723, rfl⟩
abbrev main_call25_v3 : Ref sig .tc := ⟨.hbm, 724, rfl⟩
abbrev main_call25_v4 : Ref sig .tc := ⟨.hbm, 725, rfl⟩
abbrev main_call25_cst_0 : Ref sig .tc := ⟨.hbm, 726, rfl⟩
abbrev main_call25_v5 : Ref sig .tc := ⟨.hbm, 727, rfl⟩
abbrev main_call25_v6 : Ref sig .tc := ⟨.hbm, 728, rfl⟩
abbrev main_call25_v7 : Ref sig .tc := ⟨.hbm, 729, rfl⟩
abbrev main_call25_cst_1 : Ref sig .tc := ⟨.hbm, 730, rfl⟩
abbrev main_call25_v8 : Ref sig .tc := ⟨.hbm, 731, rfl⟩
abbrev main_call25_v9 : Ref sig .tc := ⟨.hbm, 732, rfl⟩
abbrev main_call25_v10 : Ref sig .tc := ⟨.hbm, 733, rfl⟩
abbrev main_call25_v11 : Ref sig .tc := ⟨.hbm, 734, rfl⟩
abbrev main_call25_v12 : Ref sig .tc := ⟨.hbm, 735, rfl⟩
abbrev main_call25_v13 : Ref sig .tc := ⟨.hbm, 736, rfl⟩
abbrev main_call25_v14 : Ref sig .tc := ⟨.hbm, 737, rfl⟩
abbrev main_call25_v15 : Ref sig .tc := ⟨.hbm, 738, rfl⟩
abbrev main_call25_v16 : Ref sig .tc := ⟨.hbm, 739, rfl⟩
abbrev main_v447 : Ref sig .tc := ⟨.hbm, 740, rfl⟩
abbrev main_v448 : Ref sig .tc := ⟨.hbm, 741, rfl⟩
abbrev main_v449 : Ref sig .tc := ⟨.hbm, 742, rfl⟩
abbrev main_v450 : Ref sig .tc := ⟨.hbm, 743, rfl⟩
abbrev main_v451 : Ref sig .tc := ⟨.hbm, 744, rfl⟩
abbrev main_v452 : Ref sig .tc := ⟨.hbm, 745, rfl⟩
abbrev main_v453 : Ref sig .tc := ⟨.hbm, 746, rfl⟩
abbrev main_c_107 : Ref sig .tc := ⟨.hbm, 747, rfl⟩
abbrev main_v454 : Ref sig .tc := ⟨.hbm, 748, rfl⟩
abbrev main_c_108 : Ref sig .tc := ⟨.hbm, 749, rfl⟩
abbrev main_v455 : Ref sig .tc := ⟨.hbm, 750, rfl⟩
abbrev main_v456 : Ref sig .tc := ⟨.hbm, 751, rfl⟩
abbrev main_c_109 : Ref sig .tc := ⟨.hbm, 752, rfl⟩
abbrev main_v457 : Ref sig .tc := ⟨.hbm, 753, rfl⟩
abbrev main_v458 : Ref sig .tc := ⟨.hbm, 754, rfl⟩
abbrev main_c_110 : Ref sig .tc := ⟨.hbm, 755, rfl⟩
abbrev main_v459 : Ref sig .tc := ⟨.hbm, 756, rfl⟩
abbrev main_v460 : Ref sig .tc := ⟨.hbm, 757, rfl⟩
abbrev main_v461 : Ref sig .tc := ⟨.hbm, 758, rfl⟩
abbrev main_v462 : Ref sig .tc := ⟨.hbm, 759, rfl⟩
abbrev main_v463 : Ref sig .tc := ⟨.hbm, 760, rfl⟩
abbrev main_v464 : Ref sig .tc := ⟨.hbm, 761, rfl⟩
abbrev main_v465 : Ref sig .tc := ⟨.hbm, 762, rfl⟩
abbrev main_v466 : Ref sig .tc := ⟨.hbm, 763, rfl⟩
abbrev main_cst_111 : Ref sig .tc := ⟨.hbm, 764, rfl⟩
abbrev main_call26_v0 : Ref sig .tc := ⟨.hbm, 765, rfl⟩
abbrev main_call26_v1 : Ref sig .tc := ⟨.hbm, 766, rfl⟩
abbrev main_call26_v2 : Ref sig .tc := ⟨.hbm, 767, rfl⟩
abbrev main_v467 : Ref sig .tc := ⟨.hbm, 768, rfl⟩
abbrev main_cst_112 : Ref sig .tc := ⟨.hbm, 769, rfl⟩
abbrev main_v468 : Ref sig .tc := ⟨.hbm, 770, rfl⟩
abbrev main_v469 : Ref sig .tc := ⟨.hbm, 771, rfl⟩
abbrev main_v470 : Ref sig .tc := ⟨.hbm, 772, rfl⟩
abbrev main_v471 : Ref sig .tc := ⟨.hbm, 773, rfl⟩
abbrev main_v472 : Ref sig .tc := ⟨.hbm, 774, rfl⟩
abbrev main_v473 : Ref sig .tc := ⟨.hbm, 775, rfl⟩
abbrev main_cst_113 : Ref sig .tc := ⟨.hbm, 776, rfl⟩
abbrev main_call27_v0 : Ref sig .tc := ⟨.hbm, 777, rfl⟩
abbrev main_call27_v1 : Ref sig .tc := ⟨.hbm, 778, rfl⟩
abbrev main_call27_v2 : Ref sig .tc := ⟨.hbm, 779, rfl⟩
abbrev main_v474 : Ref sig .tc := ⟨.hbm, 780, rfl⟩
abbrev main_cst_114 : Ref sig .tc := ⟨.hbm, 781, rfl⟩
abbrev main_v475 : Ref sig .tc := ⟨.hbm, 782, rfl⟩
abbrev main_v476 : Ref sig .tc := ⟨.hbm, 783, rfl⟩
abbrev main_v477 : Ref sig .tc := ⟨.hbm, 784, rfl⟩
abbrev main_v478 : Ref sig .tc := ⟨.hbm, 785, rfl⟩
abbrev main_v479 : Ref sig .tc := ⟨.hbm, 786, rfl⟩
abbrev main_v480 : Ref sig .tc := ⟨.hbm, 787, rfl⟩
abbrev main_cst_115 : Ref sig .tc := ⟨.hbm, 788, rfl⟩
abbrev main_call28_v0 : Ref sig .tc := ⟨.hbm, 789, rfl⟩
abbrev main_call28_v1 : Ref sig .tc := ⟨.hbm, 790, rfl⟩
abbrev main_call28_v2 : Ref sig .tc := ⟨.hbm, 791, rfl⟩
abbrev main_v481 : Ref sig .tc := ⟨.hbm, 792, rfl⟩
abbrev main_cst_116 : Ref sig .tc := ⟨.hbm, 793, rfl⟩
abbrev main_v482 : Ref sig .tc := ⟨.hbm, 794, rfl⟩
abbrev main_v483 : Ref sig .tc := ⟨.hbm, 795, rfl⟩
abbrev main_v484 : Ref sig .tc := ⟨.hbm, 796, rfl⟩
abbrev main_v485 : Ref sig .tc := ⟨.hbm, 797, rfl⟩
abbrev main_v486 : Ref sig .tc := ⟨.hbm, 798, rfl⟩
abbrev main_v487 : Ref sig .tc := ⟨.hbm, 799, rfl⟩
abbrev main_cst_117 : Ref sig .tc := ⟨.hbm, 800, rfl⟩
abbrev main_call29_v0 : Ref sig .tc := ⟨.hbm, 801, rfl⟩
abbrev main_call29_v1 : Ref sig .tc := ⟨.hbm, 802, rfl⟩
abbrev main_call29_v2 : Ref sig .tc := ⟨.hbm, 803, rfl⟩
abbrev main_v488 : Ref sig .tc := ⟨.hbm, 804, rfl⟩
abbrev main_cst_118 : Ref sig .tc := ⟨.hbm, 805, rfl⟩
abbrev main_v489 : Ref sig .tc := ⟨.hbm, 806, rfl⟩
abbrev main_v490 : Ref sig .tc := ⟨.hbm, 807, rfl⟩
abbrev main_cst_119 : Ref sig .tc := ⟨.hbm, 808, rfl⟩
abbrev main_v491 : Ref sig .tc := ⟨.hbm, 809, rfl⟩
abbrev main_v492 : Ref sig .tc := ⟨.hbm, 810, rfl⟩
abbrev main_cst_120 : Ref sig .tc := ⟨.hbm, 811, rfl⟩
abbrev main_call30_v0 : Ref sig .tc := ⟨.hbm, 812, rfl⟩
abbrev main_call30_v1 : Ref sig .tc := ⟨.hbm, 813, rfl⟩
abbrev main_v493 : Ref sig .tc := ⟨.hbm, 814, rfl⟩
abbrev main_v494 : Ref sig .tc := ⟨.hbm, 815, rfl⟩
abbrev main_v495 : Ref sig .tc := ⟨.hbm, 816, rfl⟩
abbrev main_v496 : Ref sig .tc := ⟨.hbm, 817, rfl⟩
abbrev main_v497 : Ref sig .tc := ⟨.hbm, 818, rfl⟩
abbrev main_v498 : Ref sig .tc := ⟨.hbm, 819, rfl⟩
abbrev main_v499 : Ref sig .tc := ⟨.hbm, 820, rfl⟩
abbrev main_v500 : Ref sig .tc := ⟨.hbm, 821, rfl⟩
abbrev main_v501 : Ref sig .tc := ⟨.hbm, 822, rfl⟩
abbrev main_v502 : Ref sig .tc := ⟨.hbm, 823, rfl⟩
abbrev main_v503 : Ref sig .tc := ⟨.hbm, 824, rfl⟩
abbrev main_v504 : Ref sig .tc := ⟨.hbm, 825, rfl⟩
abbrev main_v505 : Ref sig .tc := ⟨.hbm, 826, rfl⟩
abbrev main_v506 : Ref sig .tc := ⟨.hbm, 827, rfl⟩
abbrev main_v507 : Ref sig .tc := ⟨.hbm, 828, rfl⟩
abbrev main_v508 : Ref sig .tc := ⟨.hbm, 829, rfl⟩
abbrev main_v509 : Ref sig .tc := ⟨.hbm, 830, rfl⟩
abbrev main_v510 : Ref sig .tc := ⟨.hbm, 831, rfl⟩
abbrev main_v511 : Ref sig .tc := ⟨.hbm, 832, rfl⟩
abbrev main_v512 : Ref sig .tc := ⟨.hbm, 833, rfl⟩
abbrev main_v513 : Ref sig .tc := ⟨.hbm, 834, rfl⟩
abbrev main_call31_cst : Ref sig .tc := ⟨.hbm, 835, rfl⟩
abbrev main_call31_v0 : Ref sig .tc := ⟨.hbm, 836, rfl⟩
abbrev main_call31_v1 : Ref sig .tc := ⟨.hbm, 837, rfl⟩
abbrev main_call31_v2 : Ref sig .tc := ⟨.hbm, 838, rfl⟩
abbrev main_call31_v3 : Ref sig .tc := ⟨.hbm, 839, rfl⟩
abbrev main_call31_v4 : Ref sig .tc := ⟨.hbm, 840, rfl⟩
abbrev main_call31_v5 : Ref sig .tc := ⟨.hbm, 841, rfl⟩
abbrev main_call31_v6 : Ref sig .tc := ⟨.hbm, 842, rfl⟩
abbrev main_call31_v7 : Ref sig .tc := ⟨.hbm, 843, rfl⟩
abbrev main_call31_v8 : Ref sig .tc := ⟨.hbm, 844, rfl⟩
abbrev main_call31_v9 : Ref sig .tc := ⟨.hbm, 845, rfl⟩
abbrev main_call31_v10 : Ref sig .tc := ⟨.hbm, 846, rfl⟩
abbrev main_call31_v11 : Ref sig .tc := ⟨.hbm, 847, rfl⟩
abbrev main_v514 : Ref sig .tc := ⟨.hbm, 848, rfl⟩
abbrev main_v515 : Ref sig .tc := ⟨.hbm, 849, rfl⟩
abbrev main_v516 : Ref sig .tc := ⟨.hbm, 850, rfl⟩
abbrev main_v517 : Ref sig .tc := ⟨.hbm, 851, rfl⟩
abbrev main_v518 : Ref sig .tc := ⟨.hbm, 852, rfl⟩
abbrev main_v519 : Ref sig .tc := ⟨.hbm, 853, rfl⟩
abbrev main_v520 : Ref sig .tc := ⟨.hbm, 854, rfl⟩
abbrev main_v521_0 : Ref sig .tc := ⟨.hbm, 855, rfl⟩
abbrev main_v521_1 : Ref sig .tc := ⟨.hbm, 856, rfl⟩
abbrev main_v522 : Ref sig .tc := ⟨.hbm, 857, rfl⟩
abbrev main_v523 : Ref sig .tc := ⟨.hbm, 858, rfl⟩
abbrev main_v524 : Ref sig .tc := ⟨.hbm, 859, rfl⟩
abbrev main_v525 : Ref sig .tc := ⟨.hbm, 860, rfl⟩
abbrev main_v526 : Ref sig .tc := ⟨.hbm, 861, rfl⟩
abbrev main_v527 : Ref sig .tc := ⟨.hbm, 862, rfl⟩
abbrev main_v528 : Ref sig .tc := ⟨.hbm, 863, rfl⟩
abbrev main_v529 : Ref sig .tc := ⟨.hbm, 864, rfl⟩
abbrev main_v530 : Ref sig .tc := ⟨.hbm, 865, rfl⟩
abbrev main_cst_121 : Ref sig .tc := ⟨.hbm, 866, rfl⟩
abbrev main_v531 : Ref sig .tc := ⟨.hbm, 867, rfl⟩
abbrev main_v532 : Ref sig .tc := ⟨.hbm, 868, rfl⟩
abbrev main_v533 : Ref sig .tc := ⟨.hbm, 869, rfl⟩
abbrev main_cst_122 : Ref sig .tc := ⟨.hbm, 870, rfl⟩
abbrev main_v534 : Ref sig .tc := ⟨.hbm, 871, rfl⟩
abbrev main_v535 : Ref sig .tc := ⟨.hbm, 872, rfl⟩
abbrev main_v536 : Ref sig .tc := ⟨.hbm, 873, rfl⟩
abbrev main_cst_123 : Ref sig .tc := ⟨.hbm, 874, rfl⟩
abbrev main_v537 : Ref sig .tc := ⟨.hbm, 875, rfl⟩
abbrev main_v538 : Ref sig .tc := ⟨.hbm, 876, rfl⟩
abbrev main_v539 : Ref sig .tc := ⟨.hbm, 877, rfl⟩
abbrev main_v540 : Ref sig .tc := ⟨.hbm, 878, rfl⟩
abbrev main_v541 : Ref sig .tc := ⟨.hbm, 879, rfl⟩
abbrev main_v542 : Ref sig .tc := ⟨.hbm, 880, rfl⟩
abbrev main_v543 : Ref sig .tc := ⟨.hbm, 881, rfl⟩
abbrev main_v544 : Ref sig .tc := ⟨.hbm, 882, rfl⟩
abbrev main_v545 : Ref sig .tc := ⟨.hbm, 883, rfl⟩
abbrev main_cst_124 : Ref sig .tc := ⟨.hbm, 884, rfl⟩
abbrev main_v546 : Ref sig .tc := ⟨.hbm, 885, rfl⟩
abbrev main_v547 : Ref sig .tc := ⟨.hbm, 886, rfl⟩
abbrev main_v548 : Ref sig .tc := ⟨.hbm, 887, rfl⟩
abbrev main_v549 : Ref sig .tc := ⟨.hbm, 888, rfl⟩
abbrev main_v550 : Ref sig .tc := ⟨.hbm, 889, rfl⟩
abbrev main_cst_125 : Ref sig .tc := ⟨.hbm, 890, rfl⟩
abbrev main_v551 : Ref sig .tc := ⟨.hbm, 891, rfl⟩
abbrev main_v552 : Ref sig .tc := ⟨.hbm, 892, rfl⟩
abbrev main_v553 : Ref sig .tc := ⟨.hbm, 893, rfl⟩
abbrev main_cst_126 : Ref sig .tc := ⟨.hbm, 894, rfl⟩
abbrev main_v554 : Ref sig .tc := ⟨.hbm, 895, rfl⟩
abbrev main_v555 : Ref sig .tc := ⟨.hbm, 896, rfl⟩
abbrev main_v556 : Ref sig .tc := ⟨.hbm, 897, rfl⟩
abbrev main_v557 : Ref sig .tc := ⟨.hbm, 898, rfl⟩
abbrev main_cst_127 : Ref sig .tc := ⟨.hbm, 899, rfl⟩
abbrev main_cst_128 : Ref sig .tc := ⟨.hbm, 900, rfl⟩
abbrev main_call32_v0 : Ref sig .tc := ⟨.hbm, 901, rfl⟩
abbrev main_call32_v1 : Ref sig .tc := ⟨.hbm, 902, rfl⟩
abbrev main_call32_v2 : Ref sig .tc := ⟨.hbm, 903, rfl⟩
abbrev main_call32_v3 : Ref sig .tc := ⟨.hbm, 904, rfl⟩
abbrev main_call32_v4 : Ref sig .tc := ⟨.hbm, 905, rfl⟩
abbrev main_v558 : Ref sig .tc := ⟨.hbm, 906, rfl⟩
abbrev main_v559 : Ref sig .tc := ⟨.hbm, 907, rfl⟩
abbrev main_v560 : Ref sig .tc := ⟨.hbm, 908, rfl⟩
abbrev main_cst_129 : Ref sig .tc := ⟨.hbm, 909, rfl⟩
abbrev main_v561 : Ref sig .tc := ⟨.hbm, 910, rfl⟩
abbrev main_v562 : Ref sig .tc := ⟨.hbm, 911, rfl⟩
abbrev main_v563 : Ref sig .tc := ⟨.hbm, 912, rfl⟩
abbrev main_v564 : Ref sig .tc := ⟨.hbm, 913, rfl⟩
abbrev main_cst_130 : Ref sig .tc := ⟨.hbm, 914, rfl⟩
abbrev main_v565 : Ref sig .tc := ⟨.hbm, 915, rfl⟩
abbrev main_v566 : Ref sig .tc := ⟨.hbm, 916, rfl⟩
abbrev main_v567 : Ref sig .tc := ⟨.hbm, 917, rfl⟩
abbrev main_cst_131 : Ref sig .tc := ⟨.hbm, 918, rfl⟩
abbrev main_v568 : Ref sig .tc := ⟨.hbm, 919, rfl⟩
abbrev main_v569 : Ref sig .tc := ⟨.hbm, 920, rfl⟩
abbrev main_v570 : Ref sig .tc := ⟨.hbm, 921, rfl⟩
abbrev main_v571 : Ref sig .tc := ⟨.hbm, 922, rfl⟩
abbrev main_cst_132 : Ref sig .tc := ⟨.hbm, 923, rfl⟩
abbrev main_v572 : Ref sig .tc := ⟨.hbm, 924, rfl⟩
abbrev main_v573 : Ref sig .tc := ⟨.hbm, 925, rfl⟩
abbrev main_cst_133 : Ref sig .tc := ⟨.hbm, 926, rfl⟩
abbrev main_v574 : Ref sig .tc := ⟨.hbm, 927, rfl⟩
abbrev main_v575 : Ref sig .tc := ⟨.hbm, 928, rfl⟩
abbrev main_cst_134 : Ref sig .tc := ⟨.hbm, 929, rfl⟩
abbrev main_v576 : Ref sig .tc := ⟨.hbm, 930, rfl⟩
abbrev main_v577 : Ref sig .tc := ⟨.hbm, 931, rfl⟩
abbrev main_v578 : Ref sig .tc := ⟨.hbm, 932, rfl⟩
abbrev main_v579 : Ref sig .tc := ⟨.hbm, 933, rfl⟩
abbrev main_cst_135 : Ref sig .tc := ⟨.hbm, 934, rfl⟩
abbrev main_v580 : Ref sig .tc := ⟨.hbm, 935, rfl⟩
abbrev main_v581 : Ref sig .tc := ⟨.hbm, 936, rfl⟩
abbrev main_cst_136 : Ref sig .tc := ⟨.hbm, 937, rfl⟩
abbrev main_v582 : Ref sig .tc := ⟨.hbm, 938, rfl⟩
abbrev main_v583 : Ref sig .tc := ⟨.hbm, 939, rfl⟩
abbrev main_v584 : Ref sig .tc := ⟨.hbm, 940, rfl⟩
abbrev main_cst_137 : Ref sig .tc := ⟨.hbm, 941, rfl⟩
abbrev main_v585 : Ref sig .tc := ⟨.hbm, 942, rfl⟩
abbrev main_v586 : Ref sig .tc := ⟨.hbm, 943, rfl⟩
abbrev main_cst_138 : Ref sig .tc := ⟨.hbm, 944, rfl⟩
abbrev main_v587 : Ref sig .tc := ⟨.hbm, 945, rfl⟩
abbrev main_v588 : Ref sig .tc := ⟨.hbm, 946, rfl⟩
abbrev main_v589 : Ref sig .tc := ⟨.hbm, 947, rfl⟩
abbrev main_cst_139 : Ref sig .tc := ⟨.hbm, 948, rfl⟩
abbrev main_v590 : Ref sig .tc := ⟨.hbm, 949, rfl⟩
abbrev main_v591 : Ref sig .tc := ⟨.hbm, 950, rfl⟩
abbrev main_cst_140 : Ref sig .tc := ⟨.hbm, 951, rfl⟩
abbrev main_v592 : Ref sig .tc := ⟨.hbm, 952, rfl⟩
abbrev main_v593 : Ref sig .tc := ⟨.hbm, 953, rfl⟩
abbrev main_v594 : Ref sig .tc := ⟨.hbm, 954, rfl⟩
abbrev main_call33_call0_cst : Ref sig .tc := ⟨.hbm, 955, rfl⟩
abbrev main_call33_call0_v0 : Ref sig .tc := ⟨.hbm, 956, rfl⟩
abbrev main_v595 : Ref sig .tc := ⟨.hbm, 957, rfl⟩
abbrev main_cst_141 : Ref sig .tc := ⟨.hbm, 958, rfl⟩
abbrev main_v596 : Ref sig .tc := ⟨.hbm, 959, rfl⟩
abbrev main_v597 : Ref sig .tc := ⟨.hbm, 960, rfl⟩
abbrev main_v598 : Ref sig .tc := ⟨.hbm, 961, rfl⟩
abbrev main_v599 : Ref sig .tc := ⟨.hbm, 962, rfl⟩
abbrev main_v600 : Ref sig .tc := ⟨.hbm, 963, rfl⟩
abbrev main_cst_142 : Ref sig .tc := ⟨.hbm, 964, rfl⟩
abbrev main_v601 : Ref sig .tc := ⟨.hbm, 965, rfl⟩
abbrev main_v602 : Ref sig .tc := ⟨.hbm, 966, rfl⟩
abbrev main_cst_143 : Ref sig .tc := ⟨.hbm, 967, rfl⟩
abbrev main_v603 : Ref sig .tc := ⟨.hbm, 968, rfl⟩
abbrev main_v604 : Ref sig .tc := ⟨.hbm, 969, rfl⟩
abbrev main_v605 : Ref sig .tc := ⟨.hbm, 970, rfl⟩
abbrev main_v606 : Ref sig .tc := ⟨.hbm, 971, rfl⟩
abbrev main_call34_call0_cst : Ref sig .tc := ⟨.hbm, 972, rfl⟩
abbrev main_call34_call0_v0 : Ref sig .tc := ⟨.hbm, 973, rfl⟩
abbrev main_v607 : Ref sig .tc := ⟨.hbm, 974, rfl⟩
abbrev main_v608 : Ref sig .tc := ⟨.hbm, 975, rfl⟩
abbrev main_cst_144 : Ref sig .tc := ⟨.hbm, 976, rfl⟩
abbrev main_v609 : Ref sig .tc := ⟨.hbm, 977, rfl⟩
abbrev main_v610 : Ref sig .tc := ⟨.hbm, 978, rfl⟩
abbrev main_cst_145 : Ref sig .tc := ⟨.hbm, 979, rfl⟩
abbrev main_cst_146 : Ref sig .tc := ⟨.hbm, 980, rfl⟩
abbrev main_call35_v0 : Ref sig .tc := ⟨.hbm, 981, rfl⟩
abbrev main_call35_v1 : Ref sig .tc := ⟨.hbm, 982, rfl⟩
abbrev main_call35_v2 : Ref sig .tc := ⟨.hbm, 983, rfl⟩
abbrev main_call35_cst : Ref sig .tc := ⟨.hbm, 984, rfl⟩
abbrev main_call35_v3 : Ref sig .tc := ⟨.hbm, 985, rfl⟩
abbrev main_call35_v4 : Ref sig .tc := ⟨.hbm, 986, rfl⟩
abbrev main_call35_cst_0 : Ref sig .tc := ⟨.hbm, 987, rfl⟩
abbrev main_call35_v5 : Ref sig .tc := ⟨.hbm, 988, rfl⟩
abbrev main_call35_v6 : Ref sig .tc := ⟨.hbm, 989, rfl⟩
abbrev main_call35_v7 : Ref sig .tc := ⟨.hbm, 990, rfl⟩
abbrev main_call35_cst_1 : Ref sig .tc := ⟨.hbm, 991, rfl⟩
abbrev main_call35_v8 : Ref sig .tc := ⟨.hbm, 992, rfl⟩
abbrev main_call35_v9 : Ref sig .tc := ⟨.hbm, 993, rfl⟩
abbrev main_call35_v10 : Ref sig .tc := ⟨.hbm, 994, rfl⟩
abbrev main_call35_v11 : Ref sig .tc := ⟨.hbm, 995, rfl⟩
abbrev main_call35_v12 : Ref sig .tc := ⟨.hbm, 996, rfl⟩
abbrev main_call35_v13 : Ref sig .tc := ⟨.hbm, 997, rfl⟩
abbrev main_call35_v14 : Ref sig .tc := ⟨.hbm, 998, rfl⟩
abbrev main_call35_v15 : Ref sig .tc := ⟨.hbm, 999, rfl⟩
abbrev main_call35_v16 : Ref sig .tc := ⟨.hbm, 1000, rfl⟩
abbrev main_v611 : Ref sig .tc := ⟨.hbm, 1001, rfl⟩
abbrev main_v612 : Ref sig .tc := ⟨.hbm, 1002, rfl⟩
abbrev main_v613 : Ref sig .tc := ⟨.hbm, 1003, rfl⟩
abbrev main_v614 : Ref sig .tc := ⟨.hbm, 1004, rfl⟩
abbrev main_v615 : Ref sig .tc := ⟨.hbm, 1005, rfl⟩
abbrev main_v616 : Ref sig .tc := ⟨.hbm, 1006, rfl⟩
abbrev main_v617 : Ref sig .tc := ⟨.hbm, 1007, rfl⟩
abbrev main_c_147 : Ref sig .tc := ⟨.hbm, 1008, rfl⟩
abbrev main_v618 : Ref sig .tc := ⟨.hbm, 1009, rfl⟩
abbrev main_c_148 : Ref sig .tc := ⟨.hbm, 1010, rfl⟩
abbrev main_v619 : Ref sig .tc := ⟨.hbm, 1011, rfl⟩
abbrev main_v620 : Ref sig .tc := ⟨.hbm, 1012, rfl⟩
abbrev main_c_149 : Ref sig .tc := ⟨.hbm, 1013, rfl⟩
abbrev main_v621 : Ref sig .tc := ⟨.hbm, 1014, rfl⟩
abbrev main_v622 : Ref sig .tc := ⟨.hbm, 1015, rfl⟩
abbrev main_c_150 : Ref sig .tc := ⟨.hbm, 1016, rfl⟩
abbrev main_v623 : Ref sig .tc := ⟨.hbm, 1017, rfl⟩
abbrev main_v624 : Ref sig .tc := ⟨.hbm, 1018, rfl⟩
abbrev main_v625 : Ref sig .tc := ⟨.hbm, 1019, rfl⟩
abbrev main_v626 : Ref sig .tc := ⟨.hbm, 1020, rfl⟩
abbrev main_v627 : Ref sig .tc := ⟨.hbm, 1021, rfl⟩
abbrev main_v628 : Ref sig .tc := ⟨.hbm, 1022, rfl⟩
abbrev main_v629 : Ref sig .tc := ⟨.hbm, 1023, rfl⟩
abbrev main_v630 : Ref sig .tc := ⟨.hbm, 1024, rfl⟩
abbrev main_cst_151 : Ref sig .tc := ⟨.hbm, 1025, rfl⟩
abbrev main_call36_v0 : Ref sig .tc := ⟨.hbm, 1026, rfl⟩
abbrev main_call36_v1 : Ref sig .tc := ⟨.hbm, 1027, rfl⟩
abbrev main_call36_v2 : Ref sig .tc := ⟨.hbm, 1028, rfl⟩
abbrev main_v631 : Ref sig .tc := ⟨.hbm, 1029, rfl⟩
abbrev main_cst_152 : Ref sig .tc := ⟨.hbm, 1030, rfl⟩
abbrev main_v632 : Ref sig .tc := ⟨.hbm, 1031, rfl⟩
abbrev main_v633 : Ref sig .tc := ⟨.hbm, 1032, rfl⟩
abbrev main_v634 : Ref sig .tc := ⟨.hbm, 1033, rfl⟩
abbrev main_v635 : Ref sig .tc := ⟨.hbm, 1034, rfl⟩
abbrev main_v636 : Ref sig .tc := ⟨.hbm, 1035, rfl⟩
abbrev main_v637 : Ref sig .tc := ⟨.hbm, 1036, rfl⟩
abbrev main_cst_153 : Ref sig .tc := ⟨.hbm, 1037, rfl⟩
abbrev main_call37_v0 : Ref sig .tc := ⟨.hbm, 1038, rfl⟩
abbrev main_call37_v1 : Ref sig .tc := ⟨.hbm, 1039, rfl⟩
abbrev main_call37_v2 : Ref sig .tc := ⟨.hbm, 1040, rfl⟩
abbrev main_v638 : Ref sig .tc := ⟨.hbm, 1041, rfl⟩
abbrev main_cst_154 : Ref sig .tc := ⟨.hbm, 1042, rfl⟩
abbrev main_v639 : Ref sig .tc := ⟨.hbm, 1043, rfl⟩
abbrev main_v640 : Ref sig .tc := ⟨.hbm, 1044, rfl⟩
abbrev main_v641 : Ref sig .tc := ⟨.hbm, 1045, rfl⟩
abbrev main_v642 : Ref sig .tc := ⟨.hbm, 1046, rfl⟩
abbrev main_v643 : Ref sig .tc := ⟨.hbm, 1047, rfl⟩
abbrev main_v644 : Ref sig .tc := ⟨.hbm, 1048, rfl⟩
abbrev main_cst_155 : Ref sig .tc := ⟨.hbm, 1049, rfl⟩
abbrev main_call38_v0 : Ref sig .tc := ⟨.hbm, 1050, rfl⟩
abbrev main_call38_v1 : Ref sig .tc := ⟨.hbm, 1051, rfl⟩
abbrev main_call38_v2 : Ref sig .tc := ⟨.hbm, 1052, rfl⟩
abbrev main_v645 : Ref sig .tc := ⟨.hbm, 1053, rfl⟩
abbrev main_cst_156 : Ref sig .tc := ⟨.hbm, 1054, rfl⟩
abbrev main_v646 : Ref sig .tc := ⟨.hbm, 1055, rfl⟩
abbrev main_v647 : Ref sig .tc := ⟨.hbm, 1056, rfl⟩
abbrev main_v648 : Ref sig .tc := ⟨.hbm, 1057, rfl⟩
abbrev main_v649 : Ref sig .tc := ⟨.hbm, 1058, rfl⟩
abbrev main_v650 : Ref sig .tc := ⟨.hbm, 1059, rfl⟩
abbrev main_v651 : Ref sig .tc := ⟨.hbm, 1060, rfl⟩
abbrev main_cst_157 : Ref sig .tc := ⟨.hbm, 1061, rfl⟩
abbrev main_call39_v0 : Ref sig .tc := ⟨.hbm, 1062, rfl⟩
abbrev main_call39_v1 : Ref sig .tc := ⟨.hbm, 1063, rfl⟩
abbrev main_call39_v2 : Ref sig .tc := ⟨.hbm, 1064, rfl⟩
abbrev main_v652 : Ref sig .tc := ⟨.hbm, 1065, rfl⟩
abbrev main_cst_158 : Ref sig .tc := ⟨.hbm, 1066, rfl⟩
abbrev main_v653 : Ref sig .tc := ⟨.hbm, 1067, rfl⟩
abbrev main_v654 : Ref sig .tc := ⟨.hbm, 1068, rfl⟩
abbrev main_cst_159 : Ref sig .tc := ⟨.hbm, 1069, rfl⟩
abbrev main_v655 : Ref sig .tc := ⟨.hbm, 1070, rfl⟩
abbrev main_v656 : Ref sig .tc := ⟨.hbm, 1071, rfl⟩
abbrev main_cst_160 : Ref sig .tc := ⟨.hbm, 1072, rfl⟩
abbrev main_call40_v0 : Ref sig .tc := ⟨.hbm, 1073, rfl⟩
abbrev main_call40_v1 : Ref sig .tc := ⟨.hbm, 1074, rfl⟩
abbrev main_v657 : Ref sig .tc := ⟨.hbm, 1075, rfl⟩
abbrev main_v658 : Ref sig .tc := ⟨.hbm, 1076, rfl⟩
abbrev main_v659 : Ref sig .tc := ⟨.hbm, 1077, rfl⟩
abbrev main_v660 : Ref sig .tc := ⟨.hbm, 1078, rfl⟩
abbrev main_v661 : Ref sig .tc := ⟨.hbm, 1079, rfl⟩
abbrev main_v662 : Ref sig .tc := ⟨.hbm, 1080, rfl⟩
abbrev main_v663 : Ref sig .tc := ⟨.hbm, 1081, rfl⟩
abbrev main_v664 : Ref sig .tc := ⟨.hbm, 1082, rfl⟩
abbrev main_v665 : Ref sig .tc := ⟨.hbm, 1083, rfl⟩
abbrev main_v666 : Ref sig .tc := ⟨.hbm, 1084, rfl⟩

abbrev nD : Nat := 1
abbrev τ : Topo := Topo.v7x

variable {F : FTy → Type} [FloatOps F]
-- ==== Proof.Model.lean ====
/- The real mathematics of one ray: what one round of resampling computes, and that the two ways of
   computing it (the kernel's and the reference's) agree over the reals. Nothing here mentions a program. -/
module

public import Mathlib.Analysis.SpecialFunctions.Log.Basic
public import Mathlib.Analysis.SpecialFunctions.Exp
public import Mathlib.Algebra.BigOperators.Intervals
public import Mathlib.Algebra.BigOperators.Field
public import Mathlib.Tactic.FieldSimp
public import Mathlib.Tactic.Linarith
public import Mathlib.Tactic.Positivity
public import Mathlib.Tactic.Ring
public import Mathlib.Tactic.NormNum

@[expose] public section

noncomputable section

namespace Cert.Proof

open Finset
open scoped BigOperators Classical

/-- One where `p` holds, zero elsewhere. -/
def ind (p : Prop) : ℝ := if p then 1 else 0

/-- The small number the sampler adds to denominators and weights. -/
def eps : ℝ := 10995116 / 2 ^ 40

/-- The small number added to the factors of the transmittance. -/
def del : ℝ := 14073749 / 2 ^ 47

theorem eps_pos : 0 < eps := by unfold eps; norm_num
theorem eps_le_one : eps < 1 := by unfold eps; norm_num
theorem del_pos : 0 < del := by unfold del; norm_num

/-- A sequence moved right by `k` places, `c` put in front. -/
def shl (c : ℝ) (k : ℕ) (f : ℕ → ℝ) (j : ℕ) : ℝ := if j < k then c else f (j - k)

/-- `g` on the first `n` places, then `h`. -/
def cat (n : ℕ) (g h : ℕ → ℝ) (j : ℕ) : ℝ := if j < n then g j else h (j - n)

/-- One ray and the network it is traced through. -/
structure Ray where
  o : ℕ → ℝ
  d : ℕ → ℝ
  W : ℕ → ℕ → ℝ
  b1 : ℕ → ℝ
  w2 : ℕ → ℝ
  b2 : ℝ
  near : ℝ
  far : ℝ

/-- log(1 + exp x), written so that it does not overflow. -/
def softplus (x : ℝ) : ℝ := max x 0 + Real.log (1 + Real.exp (-|x|))

/-- The network's value at the point of parameter `z`. -/
def Ray.sdf (R : Ray) (z : ℝ) : ℝ :=
  (∑ k ∈ range 256, softplus ((∑ i ∈ range 3, (R.o i + R.d i * z) * R.W i k) + R.b1 k) * R.w2 k) + R.b2

/-- The squared distance from the origin of the point of parameter `z`. -/
def Ray.rad2 (R : Ray) (z : ℝ) : ℝ := ∑ i ∈ range 3, (R.o i + R.d i * z) * (R.o i + R.d i * z)

/-- Whether interval `j` touches the unit ball. -/
def Ray.inside (R : Ray) (z : ℕ → ℝ) (j : ℕ) : ℝ := ind (R.rad2 (z j) < 1 ∨ R.rad2 (z (j + 1)) < 1)

/-- The raw slope of the distance on interval `j`. -/
def cosr (z s : ℕ → ℝ) (j : ℕ) : ℝ := (s (j + 1) - s j) / (z (j + 1) - z j + eps)

/-- The clipped slope, zero outside the ball. -/
def Ray.slope (R : Ray) (z s : ℕ → ℝ) (j : ℕ) : ℝ :=
  min 0 (max (-1000) (min (shl 0 1 (cosr z s) j) (cosr z s j))) * R.inside z j

/-- The estimated distance at the near end of interval `j`. -/
def Ray.pe (R : Ray) (z s : ℕ → ℝ) (j : ℕ) : ℝ :=
  (s j + s (j + 1)) * (1 / 2) - R.slope z s j * (z (j + 1) - z j) * (1 / 2)

/-- The estimated distance at the far end of interval `j`. -/
def Ray.ne (R : Ray) (z s : ℕ → ℝ) (j : ℕ) : ℝ :=
  (s j + s (j + 1)) * (1 / 2) + R.slope z s j * (z (j + 1) - z j) * (1 / 2)

/-- The logistic function. -/
def sg (x : ℝ) : ℝ := 1 / (1 + Real.exp (-x))

/-- The opacity from the two estimates. -/
def alphaOf (v p n : ℝ) : ℝ := (sg (p * v) - sg (n * v) + eps) / (sg (p * v) + eps)

/-- The opacity as the kernel computes it, one division in place of three. -/
def alphaK (v p n : ℝ) : ℝ :=
  ((Real.exp ((0 - n) * v) - Real.exp ((0 - p) * v))
      + eps * (1 + Real.exp ((0 - p) * v)) * (1 + Real.exp ((0 - n) * v)))
    / ((1 + Real.exp ((0 - n) * v)) * (1 + eps * (1 + Real.exp ((0 - p) * v))))

theorem alphaK_eq (v p n : ℝ) : alphaK v p n = alphaOf v p n := by
  unfold alphaK alphaOf sg
  have e1 : (0 - n) * v = -(n * v) := by ring
  have e2 : (0 - p) * v = -(p * v) := by ring
  rw [e1, e2]
  have h1 := Real.exp_pos (-(n * v))
  have h2 := Real.exp_pos (-(p * v))
  have h3 := eps_pos
  generalize Real.exp (-(n * v)) = y at *
  generalize Real.exp (-(p * v)) = x at *
  have a1 : (1 + y) ≠ 0 := by positivity
  have a2 : (1 + x) ≠ 0 := by positivity
  have a3 : (1 + eps * (1 + x)) ≠ 0 := by positivity
  have a4 : 1 / (1 + x) + eps ≠ 0 := by positivity
  rw [div_eq_div_iff (mul_ne_zero a1 a3) a4]
  field_simp
  ring

theorem sg_pos (x : ℝ) : 0 < sg x := by unfold sg; have := Real.exp_pos (-x); positivity
theorem sg_mono {x y : ℝ} (h : x ≤ y) : sg x ≤ sg y := by
  unfold sg
  have h1 := Real.exp_pos (-y)
  have h2 : Real.exp (-y) ≤ Real.exp (-x) := Real.exp_le_exp.mpr (by linarith)
  exact one_div_le_one_div_of_le (by positivity) (by linarith)

theorem alphaOf_nonneg {v p n : ℝ} (hv : 0 ≤ v) (h : n ≤ p) : 0 ≤ alphaOf v p n := by
  unfold alphaOf
  have h1 := sg_mono (mul_le_mul_of_nonneg_right h hv)
  have h2 := sg_pos (p * v)
  have h3 := eps_pos
  exact div_nonneg (by linarith) (by linarith)

theorem one_sub_alphaOf_pos (v p n : ℝ) : 0 < 1 - alphaOf v p n + del := by
  unfold alphaOf
  have h2 := sg_pos (p * v)
  have h4 := sg_pos (n * v)
  have h3 := eps_pos
  have h5 := del_pos
  have : 1 - (sg (p * v) - sg (n * v) + eps) / (sg (p * v) + eps) = sg (n * v) / (sg (p * v) + eps) := by
    field_simp; ring
  rw [this]; positivity

theorem Ray.inside_nonneg (R : Ray) (z : ℕ → ℝ) (j : ℕ) : 0 ≤ R.inside z j := by
  unfold Ray.inside ind; split <;> norm_num

theorem Ray.slope_nonpos (R : Ray) (z s : ℕ → ℝ) (j : ℕ) : R.slope z s j ≤ 0 :=
  mul_nonpos_of_nonpos_of_nonneg (min_le_left _ _) (R.inside_nonneg z j)

theorem Ray.ne_le_pe (R : Ray) (z s : ℕ → ℝ) (j : ℕ) (h : z j ≤ z (j + 1)) : R.ne z s j ≤ R.pe z s j := by
  unfold Ray.ne Ray.pe
  have := mul_nonpos_of_nonpos_of_nonneg (R.slope_nonpos z s j) (sub_nonneg.mpr h)
  linarith

/-! ## The running product -/

/-- The product of the last `w` values up to place `j`. -/
def win (w : ℕ) (f : ℕ → ℝ) (j : ℕ) : ℝ := ∏ i ∈ Ico (j + 1 - w) (j + 1), f i

theorem win_one (f : ℕ → ℝ) : win 1 f = f := by
  funext j; unfold win; simp

theorem win_double (w : ℕ) (f : ℕ → ℝ) (j : ℕ) : win w f j * shl 1 w (win w f) j = win (2 * w) f j := by
  unfold shl
  split
  · next h =>
    unfold win
    rw [mul_one, show j + 1 - w = 0 by omega, show j + 1 - 2 * w = 0 by omega]
  · next h =>
    unfold win
    rw [mul_comm, show j - w + 1 = j + 1 - w by omega, show j + 1 - w - w = j + 1 - 2 * w by omega]
    exact prod_Ico_consecutive f (by omega) (by omega)

theorem win_all {w : ℕ} (f : ℕ → ℝ) {j : ℕ} (h : j < w) : win w f j = ∏ i ∈ range (j + 1), f i := by
  unfold win; rw [show j + 1 - w = 0 by omega, range_eq_Ico]

/-- The transmittance before interval `j`. -/
def trans (a : ℕ → ℝ) (j : ℕ) : ℝ := ∏ i ∈ range j, (1 - a i + del)

theorem prod_shl (g : ℕ → ℝ) (j : ℕ) : ∏ i ∈ range (j + 1), shl 1 1 g i = ∏ i ∈ range j, g i := by
  rw [prod_range_succ']
  simp [shl]

theorem exp_sum_log (a : ℕ → ℝ) (ha : ∀ i, 0 < 1 - a i + del) (j : ℕ) :
    Real.exp (∑ i ∈ range j, Real.log (1 - a i + del)) = trans a j := by
  unfold trans
  rw [Real.exp_sum]
  exact prod_congr rfl fun i _ => Real.exp_log (ha i)

theorem trans_pos (a : ℕ → ℝ) (ha : ∀ i, 0 < 1 - a i + del) (j : ℕ) : 0 < trans a j :=
  prod_pos fun i _ => ha i

/-! ## Counting along a monotone sequence -/

/-- How many of the first `m` places satisfy `p`. -/
def count (m : ℕ) (p : ℕ → Prop) : ℕ := ((range m).filter p).card

theorem count_le (m : ℕ) (p : ℕ → Prop) : count m p ≤ m := by
  unfold count; simpa using card_filter_le (range m) p

theorem lt_count {m : ℕ} {p : ℕ → Prop} (hp : ∀ i j, i ≤ j → j < m → p j → p i) {j : ℕ} (hj : j < m) :
    p j ↔ j < count m p := by
  unfold count
  constructor
  · intro h
    have : range (j + 1) ⊆ (range m).filter p := fun i hi => by
      simp only [mem_range, mem_filter] at *; exact ⟨by omega, hp i j (by omega) hj h⟩
    simpa using card_le_card this
  · intro h
    by_contra hn
    have : (range m).filter p ⊆ range j := fun i hi => by
      simp only [mem_range, mem_filter] at *
      by_contra hij
      exact hn (hp j i (by omega) hi.1 hi.2)
    have := card_le_card this
    simp at this; omega

theorem count_mono {m : ℕ} {p q : ℕ → Prop} (h : ∀ j, p j → q j) : count m p ≤ count m q := by
  unfold count
  exact card_le_card fun i hi => by simp only [mem_filter] at *; exact ⟨hi.1, h i hi.2⟩

theorem sum_ind (m : ℕ) (p : ℕ → Prop) : ∑ j ∈ range m, ind (p j) = (count m p : ℝ) := by
  unfold ind count
  rw [sum_ite, sum_const_zero, add_zero, sum_const, nsmul_eq_mul, mul_one]

/-- The sum of the steps of `a` up to a count is `a` at its last place. -/
theorem sum_steps (m : ℕ) (p : ℕ → Prop) (hp : ∀ i j, i ≤ j → j < m → p j → p i) (a : ℕ → ℝ) (h : 0 < count m p) :
    ∑ j ∈ range m, ind (p j) * (a j - shl 0 1 a j) = a (count m p - 1) := by
  have e : ∀ j ∈ range m, ind (p j) * (a j - shl 0 1 a j) = if j ∈ range (count m p) then (a j - shl 0 1 a j) else 0 := by
    intro j hj
    have := lt_count hp (mem_range.mp hj)
    simp only [mem_range, ind]
    by_cases hpj : p j
    · rw [if_pos hpj, if_pos (this.mp hpj), one_mul]
    · rw [if_neg hpj, if_neg (fun h => hpj (this.mpr h)), zero_mul]
  rw [sum_congr rfl e, ← sum_filter]
  have e2 : (range m).filter (fun j => j ∈ range (count m p)) = range (count m p) := by
    ext j; have := count_le m p; simp only [mem_filter, mem_range]; omega
  rw [e2]
  obtain ⟨c, hc⟩ : ∃ c, count m p = c + 1 := ⟨count m p - 1, by omega⟩
  rw [hc]
  have : ∀ c, ∑ j ∈ range (c + 1), (a j - shl 0 1 a j) = a c := by
    intro c
    induction c with
    | zero => simp [shl]
    | succ c ih => rw [sum_range_succ, ih]; simp [shl]
  rw [this]; rfl

/-! ## The inverse distribution -/

/-- The cumulative distribution of the weights `w` over `m` intervals. -/
def cdf (m : ℕ) (w : ℕ → ℝ) (j : ℕ) : ℝ := ∑ i ∈ range j, w i / ∑ i ∈ range m, w i

section Inverse

variable {m : ℕ} {w : ℕ → ℝ} (hw : ∀ j, j < m → 0 < w j) (hm : 0 < m)

include hw hm in
theorem total_pos : 0 < ∑ i ∈ range m, w i :=
  sum_pos (fun i hi => hw i (mem_range.mp hi)) ⟨0, mem_range.mpr hm⟩

include hw hm in
theorem cdf_step {j : ℕ} (hj : j < m) : cdf m w j ≤ cdf m w (j + 1) := by
  unfold cdf
  rw [sum_range_succ]
  have := div_pos (hw j hj) (total_pos hw hm)
  linarith

include hw hm in
theorem cdf_mono {i j : ℕ} (hij : i ≤ j) (hj : j ≤ m) : cdf m w i ≤ cdf m w j := by
  induction j with
  | zero => rw [show i = 0 by omega]
  | succ j ih =>
    rcases Nat.lt_or_ge i (j + 1) with h | h
    · exact (ih (by omega) (by omega)).trans (cdf_step hw hm (by omega))
    · rw [show i = j + 1 by omega]

theorem cdf_zero : cdf m w 0 = 0 := by simp [cdf]

include hw hm in
theorem cdf_last : cdf m w m = 1 := by
  unfold cdf
  rw [← sum_div]
  exact div_self (total_pos hw hm).ne'

/-- The width of interval `j` in the distribution, one where it is tiny. -/
def den (m : ℕ) (w : ℕ → ℝ) (j : ℕ) : ℝ :=
  if cdf m w (j + 1) - cdf m w j < eps then 1 else cdf m w (j + 1) - cdf m w j

theorem den_pos (m : ℕ) (w : ℕ → ℝ) (j : ℕ) : 0 < den m w j := by
  unfold den
  have := eps_pos
  split
  · norm_num
  · next h => rw [not_lt] at h; linarith

/-- The `k`-th of the sixteen evenly spaced levels. -/
def lev (k : ℕ) : ℝ := 1 / 32 + 1 / 16 * (k : ℝ)

theorem lev_nonneg (k : ℕ) : 0 ≤ lev k := by unfold lev; positivity
theorem lev_lt {k : ℕ} (hk : k < 16) : lev k < 1 := by
  unfold lev
  have : (k : ℝ) ≤ 15 := by exact_mod_cast (by omega : k ≤ 15)
  linarith
theorem lev_mono {k l : ℕ} (h : k ≤ l) : lev k ≤ lev l := by
  unfold lev
  have : (k : ℝ) ≤ l := by exact_mod_cast h
  linarith

/-- How many of the distribution's first `m` values are at most level `k`. -/
def bin (m : ℕ) (w : ℕ → ℝ) (k : ℕ) : ℕ := count m fun j => cdf m w j ≤ lev k

include hw hm in
theorem bin_down (k : ℕ) : ∀ i j, i ≤ j → j < m → cdf m w j ≤ lev k → cdf m w i ≤ lev k :=
  fun _ _ hij hj h => (cdf_mono hw hm hij hj.le).trans h

include hw hm in
theorem bin_pos (k : ℕ) : 0 < bin m w k := by
  refine (lt_count (bin_down hw hm k) hm).mp ?_
  rw [cdf_zero]; exact lev_nonneg k

theorem bin_le (k : ℕ) : bin m w k ≤ m := count_le _ _

include hw hm in
theorem cdf_bin (k : ℕ) : cdf m w (bin m w k - 1) ≤ lev k := by
  have h1 := bin_pos hw hm k
  have h2 := bin_le (m := m) (w := w) k
  exact (lt_count (bin_down hw hm k) (by omega)).mpr (show bin m w k - 1 < bin m w k by omega)

include hw hm in
theorem lt_cdf_bin {k : ℕ} (hk : k < 16) : lev k < cdf m w (bin m w k) := by
  have h2 := bin_le (m := m) (w := w) k
  rcases Nat.lt_or_ge (bin m w k) m with h | h
  · by_contra hn
    rw [not_lt] at hn
    exact absurd ((lt_count (bin_down hw hm k) h).mp hn) (lt_irrefl _)
  · rw [show bin m w k = m by omega, cdf_last hw hm]; exact lev_lt hk

/-- The new sample of level `k`. -/
def newz (m : ℕ) (w z : ℕ → ℝ) (k : ℕ) : ℝ :=
  z (bin m w k - 1) + (lev k - cdf m w (bin m w k - 1)) / den m w (bin m w k - 1) * (z (bin m w k) - z (bin m w k - 1))

/-- The slope of the inverse distribution on interval `j`. -/
def bb (m : ℕ) (w z : ℕ → ℝ) (j : ℕ) : ℝ := (z (j + 1) - z j) / den m w j

/-- The offset of the inverse distribution on interval `j`. -/
def aa (m : ℕ) (w z : ℕ → ℝ) (j : ℕ) : ℝ := z j - cdf m w j * bb m w z j

/-- The new sample as the kernel sums it, from the steps of slope and offset. -/
def newK (m : ℕ) (w z : ℕ → ℝ) (k : ℕ) : ℝ :=
  (∑ j ∈ range m, ind (cdf m w j ≤ lev k) * (aa m w z j - shl 0 1 (aa m w z) j))
    + (∑ j ∈ range m, ind (cdf m w j ≤ lev k) * (bb m w z j - shl 0 1 (bb m w z) j)) * lev k

include hw hm in
theorem newK_eq (z : ℕ → ℝ) (k : ℕ) : newK m w z k = newz m w z k := by
  unfold newK newz
  have hb := bin_pos hw hm k
  rw [sum_steps m _ (bin_down hw hm k) _ hb, sum_steps m _ (bin_down hw hm k) _ hb]
  show aa m w z (bin m w k - 1) + bb m w z (bin m w k - 1) * lev k = _
  unfold aa bb
  rw [show bin m w k - 1 + 1 = bin m w k by omega]
  ring

include hw hm in
theorem newz_between (z : ℕ → ℝ) (hz : ∀ j, j < m → z j ≤ z (j + 1)) {k : ℕ} (hk : k < 16) :
    z (bin m w k - 1) ≤ newz m w z k ∧ newz m w z k ≤ z (bin m w k) := by
  have hb := bin_pos hw hm k
  have hl := bin_le (m := m) (w := w) k
  have h1 := cdf_bin hw hm k
  have h2 := lt_cdf_bin hw hm hk
  have h3 := den_pos m w (bin m w k - 1)
  have h4 := hz (bin m w k - 1) (by omega)
  rw [show bin m w k - 1 + 1 = bin m w k by omega] at h4
  have h0 : 0 ≤ (lev k - cdf m w (bin m w k - 1)) / den m w (bin m w k - 1) :=
    div_nonneg (by linarith) h3.le
  have h5 : (lev k - cdf m w (bin m w k - 1)) / den m w (bin m w k - 1) ≤ 1 := by
    rw [div_le_one h3]
    unfold den
    rw [show bin m w k - 1 + 1 = bin m w k by omega]
    have := eps_le_one
    split <;> linarith
  unfold newz
  have h6 : 0 ≤ z (bin m w k) - z (bin m w k - 1) := by linarith
  constructor
  · nlinarith [mul_nonneg h0 h6]
  · nlinarith [mul_le_mul_of_nonneg_right h5 h6]

/-- A sequence that does not step down is monotone. -/
theorem mono_of_step {n : ℕ} {z : ℕ → ℝ} (hz : ∀ j, j + 1 < n → z j ≤ z (j + 1)) {i j : ℕ} (hij : i ≤ j) (hj : j < n) : z i ≤ z j := by
  induction j with
  | zero => rw [show i = 0 by omega]
  | succ j ih =>
    rcases Nat.lt_or_ge i (j + 1) with h | h
    · exact (ih (by omega) (by omega)).trans (hz j hj)
    · rw [show i = j + 1 by omega]

include hw hm in
theorem newz_mono (z : ℕ → ℝ) (hz : ∀ j, j < m → z j ≤ z (j + 1)) {k l : ℕ} (hkl : k ≤ l) (hl : l < 16) :
    newz m w z k ≤ newz m w z l := by
  have hb := bin_pos hw hm k
  have hle := bin_le (m := m) (w := w) l
  have hbin : bin m w k ≤ bin m w l := count_mono fun j h => h.trans (lev_mono hkl)
  rcases Nat.lt_or_ge (bin m w k) (bin m w l) with h | h
  · have h1 := (newz_between hw hm z hz (show k < 16 by omega)).2
    have h2 := (newz_between hw hm z hz hl).1
    have h3 : z (bin m w k) ≤ z (bin m w l - 1) :=
      mono_of_step (n := m + 1) (fun j hj => hz j (by omega)) (by omega) (by omega)
    linarith
  · have e : bin m w l = bin m w k := by omega
    unfold newz
    rw [e]
    have h4 := hz (bin m w k - 1) (by omega)
    rw [show bin m w k - 1 + 1 = bin m w k by omega] at h4
    have h3 := den_pos m w (bin m w k - 1)
    have h5 := lev_mono hkl
    have : (lev k - cdf m w (bin m w k - 1)) / den m w (bin m w k - 1) ≤ (lev l - cdf m w (bin m w k - 1)) / den m w (bin m w k - 1) :=
      div_le_div_of_nonneg_right (by linarith) h3.le
    have := mul_le_mul_of_nonneg_right this (sub_nonneg.mpr h4)
    linarith

end Inverse

/-! ## The merge -/

section Merge

variable (n : ℕ) (z v : ℕ → ℝ)

/-- The place of new sample `k` among all. -/
def rnk (k : ℕ) : ℕ := count n (fun j => z j ≤ v k) + k

/-- How many new samples are placed at or before `p`. -/
def cum (p : ℕ) : ℕ := count 16 fun k => rnk n z v k ≤ p

/-- Whether place `p` holds a new sample. -/
def isNew (p : ℕ) : Prop := 0 < cum n z v p ∧ rnk n z v (cum n z v p - 1) = p

/-- Which of the old samples followed by the new ones comes to place `p`. -/
def src (p : ℕ) : ℕ := if isNew n z v p then n + (cum n z v p - 1) else p - cum n z v p

variable {n z v} (hz : ∀ i j, i ≤ j → j < n → z i ≤ z j) (hv : ∀ k l, k ≤ l → l < 16 → v k ≤ v l)

include hv in
theorem rnk_lt {k l : ℕ} (h : k < l) (hl : l < 16) : rnk n z v k < rnk n z v l := by
  unfold rnk
  have : count n (fun j => z j ≤ v k) ≤ count n (fun j => z j ≤ v l) := count_mono fun j hj => hj.trans (hv k l h.le hl)
  omega

include hv in
theorem rnk_le {k l : ℕ} (h : k ≤ l) (hl : l < 16) : rnk n z v k ≤ rnk n z v l := by
  rcases Nat.lt_or_ge k l with h' | h'
  · exact (rnk_lt hv h' hl).le
  · rw [show k = l by omega]

theorem rnk_bound {k : ℕ} (hk : k < 16) : rnk n z v k < n + 16 := by
  unfold rnk; have := count_le n fun j => z j ≤ v k; omega

include hv in
theorem lt_cum {p k : ℕ} (hk : k < 16) : rnk n z v k ≤ p ↔ k < cum n z v p :=
  lt_count (fun _ _ hij hj h => (rnk_le hv hij hj).trans h) hk

theorem cum_le (p : ℕ) : cum n z v p ≤ 16 := count_le _ _

include hv in
theorem isNew_of {p k : ℕ} (hk : k < 16) (h : rnk n z v k = p) : isNew n z v p ∧ k = cum n z v p - 1 := by
  have h1 := (lt_cum (n := n) (z := z) hv (p := p) hk).mp h.le
  have h2 := cum_le (n := n) (z := z) (v := v) p
  have : k = cum n z v p - 1 := by
    by_contra hne
    have h3 := rnk_lt (n := n) (z := z) hv (show k < cum n z v p - 1 by omega) (by omega)
    have h4 := (lt_cum (n := n) (z := z) hv (p := p) (show cum n z v p - 1 < 16 by omega)).mpr (by omega)
    omega
  exact ⟨⟨by omega, this ▸ h⟩, this⟩

include hv hz in
/-- At an old place the source is an old sample, after every new sample placed before it and before the rest. -/
theorem old_place {p : ℕ} (hp : p < n + 16) (hold : ¬ isNew n z v p) :
    cum n z v p ≤ p ∧ p - cum n z v p < n
      ∧ (∀ k, k < 16 → k < cum n z v p → v k < z (p - cum n z v p))
      ∧ (∀ k, k < 16 → cum n z v p ≤ k → z (p - cum n z v p) ≤ v k) := by
  have hc := cum_le (n := n) (z := z) (v := v) p
  have hA : 0 < cum n z v p → rnk n z v (cum n z v p - 1) < p := fun h0 => by
    have h4 := (lt_cum (n := n) (z := z) hv (p := p) (show cum n z v p - 1 < 16 by omega)).mpr (by omega)
    have : rnk n z v (cum n z v p - 1) ≠ p := fun e => hold ⟨h0, e⟩
    omega
  have hB : ∀ k, k < 16 → cum n z v p ≤ k → p < rnk n z v k := fun k hk h => by
    by_contra hn
    have := (lt_cum (n := n) (z := z) hv (p := p) hk).mp (by omega)
    omega
  have h1 : cum n z v p ≤ p := by
    rcases Nat.eq_zero_or_pos (cum n z v p) with h | h
    · omega
    · have := hA h; unfold rnk at this; omega
  have hzd : ∀ k, ∀ i j, i ≤ j → j < n → z j ≤ v k → z i ≤ v k := fun k i j hij hj h => (hz i j hij hj).trans h
  have h2 : p - cum n z v p < n := by
    rcases Nat.lt_or_ge (cum n z v p) 16 with h | h
    · have := hB _ h le_rfl
      unfold rnk at this
      have := count_le n fun j => z j ≤ v (cum n z v p)
      omega
    · omega
  refine ⟨h1, h2, fun k hk hkc => ?_, fun k hk hkc => ?_⟩
  · have h3 := hA (by omega)
    have h4 : v k ≤ v (cum n z v p - 1) := hv _ _ (by omega) (by omega)
    refine lt_of_le_of_lt h4 ?_
    by_contra hn
    rw [not_lt] at hn
    have := (lt_count (hzd (cum n z v p - 1)) h2).mp hn
    unfold rnk at h3
    omega
  · have h3 := hB _ (lt_of_le_of_lt hkc hk) le_rfl
    have h4 : v (cum n z v p) ≤ v k := hv _ _ hkc hk
    refine le_trans ?_ h4
    refine (lt_count (hzd _) h2).mpr ?_
    unfold rnk at h3
    omega

include hv hz in
theorem src_lt {p : ℕ} (hp : p < n + 16) : src n z v p < n + 16 := by
  unfold src
  split
  · have := cum_le (n := n) (z := z) (v := v) p
    next h => have := h.1; omega
  · next h => have := (old_place hz hv hp h).2.1; omega

theorem cum_mono {p q : ℕ} (h : p ≤ q) : cum n z v p ≤ cum n z v q := count_mono fun _ hk => hk.trans h

include hv in
/-- Strictly between an old place and a later old place there is no room for more new samples than places. -/
theorem cum_gap {p q : ℕ} (h : p < q) (hq : ¬ isNew n z v q) : cum n z v q + p < cum n z v p + q := by
  have hc := cum_le (n := n) (z := z) (v := v) q
  have hm := cum_mono (n := n) (z := z) (v := v) h.le
  -- the ranks of the new samples cum p .. cum q - 1 climb strictly from above p to below q
  have hA : ∀ t, cum n z v p + t < cum n z v q → p + 1 + t ≤ rnk n z v (cum n z v p + t) := by
    intro t
    induction t with
    | zero =>
      intro ht
      by_contra hn
      have := (lt_cum (n := n) (z := z) hv (p := p) (k := cum n z v p) (by omega)).mp (by simpa using (by omega : rnk n z v (cum n z v p + 0) ≤ p))
      omega
    | succ t ih =>
      intro ht
      have h1 := ih (by omega)
      have h2 := rnk_lt (n := n) (z := z) hv (show cum n z v p + t < cum n z v p + (t + 1) by omega) (by omega)
      omega
  rcases Nat.lt_or_ge (cum n z v p) (cum n z v q) with h1 | h1
  · have h2 := hA (cum n z v q - 1 - cum n z v p) (by omega)
    rw [show cum n z v p + (cum n z v q - 1 - cum n z v p) = cum n z v q - 1 by omega] at h2
    have h4 := (lt_cum (n := n) (z := z) hv (p := q) (show cum n z v q - 1 < 16 by omega)).mpr (by omega)
    have h5 : rnk n z v (cum n z v q - 1) ≠ q := fun e => hq ⟨by omega, e⟩
    omega
  · omega

include hv hz in
/-- The sources come in the stable order of their keys. -/
theorem src_before {p q : ℕ} (hpq : p < q) (hq : q < n + 16) :
    cat n z v (src n z v p) < cat n z v (src n z v q)
      ∨ (cat n z v (src n z v p) = cat n z v (src n z v q) ∧ src n z v p < src n z v q) := by
  have hcp := cum_le (n := n) (z := z) (v := v) p
  have hcq := cum_le (n := n) (z := z) (v := v) q
  have hcm := cum_mono (n := n) (z := z) (v := v) hpq.le
  have lex : ∀ {a b : ℝ} {i j : ℕ}, a ≤ b → i < j → a < b ∨ (a = b ∧ i < j) := fun h h' =>
    (lt_or_eq_of_le h).imp id fun e => ⟨e, h'⟩
  by_cases hnp : isNew n z v p <;> by_cases hnq : isNew n z v q
  · have h1 : cum n z v p - 1 < cum n z v q - 1 := by
      by_contra hn
      have h2 := hnp.2; have h3 := hnq.2
      rw [show cum n z v q - 1 = cum n z v p - 1 by omega] at h3
      omega
    have := hnp.1
    have := hnq.1
    simp only [src, if_pos hnp, if_pos hnq, cat, if_neg (show ¬ n + (cum n z v p - 1) < n by omega),
      if_neg (show ¬ n + (cum n z v q - 1) < n by omega), Nat.add_sub_cancel_left]
    exact lex (hv _ _ h1.le (by omega)) (by omega)
  · obtain ⟨h1, h2, h3, h4⟩ := old_place hz hv hq hnq
    have := hnp.1
    simp only [src, if_pos hnp, if_neg hnq, cat, if_neg (show ¬ n + (cum n z v p - 1) < n by omega),
      if_pos h2, Nat.add_sub_cancel_left]
    exact Or.inl (h3 _ (by omega) (by omega))
  · obtain ⟨h1, h2, h3, h4⟩ := old_place hz hv (by omega) hnp
    have := hnq.1
    have h5 : cum n z v p ≤ cum n z v q - 1 := by
      by_contra hn
      have h6 := (lt_cum (n := n) (z := z) hv (p := p) (k := cum n z v q - 1) (by omega)).mpr (by omega)
      have h7 := hnq.2
      omega
    simp only [src, if_neg hnp, if_pos hnq, cat, if_neg (show ¬ n + (cum n z v q - 1) < n by omega),
      if_pos h2, Nat.add_sub_cancel_left]
    exact lex (h4 _ (by omega) h5) (by omega)
  · obtain ⟨h1, h2, -⟩ := old_place hz hv (by omega) hnp
    obtain ⟨h1', h2', -⟩ := old_place hz hv hq hnq
    have h5 := cum_gap hv hpq hnq
    have h6 : p - cum n z v p < q - cum n z v q := by omega
    simp only [src, if_neg hnp, if_neg hnq, cat, if_pos h2, if_pos h2']
    exact lex (hz _ _ h6.le h2') h6

variable (n z v) in
/-- The rank of new sample `k` as the kernel counts it. -/
def rnkR (k : ℕ) : ℝ := (∑ j ∈ range n, ind (z j ≤ v k)) + (k : ℝ)

variable (n z v) in
/-- The running count of new samples as the kernel sums it. -/
def cumR (p : ℕ) : ℝ := ∑ q ∈ range (n + 16), (∑ k ∈ range 16, ind (rnkR n z v k = (q : ℝ))) * ind ((q : ℝ) ≤ (p : ℝ))

variable (n z v) in
/-- The merged row as the kernel builds it: new samples by rank, old samples moved by the running count. -/
def mergeK (G H : ℕ → ℝ) (p : ℕ) : ℝ :=
  (∑ k ∈ range 16, ind (rnkR n z v k = (p : ℝ)) * H k)
    + (1 - ∑ k ∈ range 16, ind (rnkR n z v k = (p : ℝ)))
      * ∑ s ∈ range 17, ind (cumR n z v p = (s : ℝ)) * shl 0 s (cat n G fun _ => 0) p

variable (n z v) in
theorem rnkR_eq (k : ℕ) : rnkR n z v k = ((rnk n z v k : ℕ) : ℝ) := by
  unfold rnkR rnk
  rw [sum_ind n fun j => z j ≤ v k, Nat.cast_add]

theorem cumR_eq (p : ℕ) : cumR n z v p = ((cum n z v p : ℕ) : ℝ) := by
  unfold cumR cum
  rw [← sum_ind]
  simp only [sum_mul]
  rw [sum_comm]
  refine sum_congr rfl fun k hk => ?_
  have hr := rnk_bound (n := n) (z := z) (v := v) (mem_range.mp hk)
  rw [sum_eq_single (rnk n z v k)]
  · rw [rnkR_eq]; simp [ind]
  · intro q _ hq
    rw [rnkR_eq]
    have : ¬ (((rnk n z v k : ℕ) : ℝ) = (q : ℝ)) := fun e => hq (by exact_mod_cast e.symm)
    simp [ind, this]
  · intro h; exact absurd (mem_range.mpr hr) h

/-- A sum of one-hot terms picks its one value. -/
theorem sum_onehot {m : ℕ} {i : ℕ} (hi : i < m) (p : ℕ → Prop) (hp : ∀ k, k < m → (p k ↔ k = i)) (f : ℕ → ℝ) :
    ∑ k ∈ range m, ind (p k) * f k = f i := by
  rw [sum_eq_single i]
  · rw [ind, if_pos ((hp i hi).mpr rfl), one_mul]
  · intro k hk hne
    rw [ind, if_neg (fun h => hne ((hp k (mem_range.mp hk)).mp h)), zero_mul]
  · intro h; exact absurd (mem_range.mpr hi) h

include hv hz in
theorem mergeK_eq (G H : ℕ → ℝ) {p : ℕ} (hp : p < n + 16) : mergeK n z v G H p = cat n G H (src n z v p) := by
  have hc := cum_le (n := n) (z := z) (v := v) p
  unfold mergeK
  have hold : ∑ s ∈ range 17, ind (cumR n z v p = (s : ℝ)) * shl 0 s (cat n G fun _ => 0) p
      = shl 0 (cum n z v p) (cat n G fun _ => 0) p :=
    sum_onehot (by omega) _ (fun s _ => by rw [cumR_eq]; exact ⟨fun e => by exact_mod_cast e.symm, fun e => by rw [e]⟩)
      fun s => shl 0 s (cat n G fun _ => 0) p
  rw [hold]
  by_cases hn : isNew n z v p
  · have hk : cum n z v p - 1 < 16 := by have := hn.1; omega
    have hiff : ∀ k, k < 16 → (rnkR n z v k = (p : ℝ) ↔ k = cum n z v p - 1) := fun k hk' => by
      rw [rnkR_eq]
      constructor
      · intro e; exact (isNew_of hv hk' (by exact_mod_cast e)).2
      · intro e; rw [e]; exact_mod_cast hn.2
    have h1 := sum_onehot hk _ hiff H
    have h2 : ∑ k ∈ range 16, ind (rnkR n z v k = (p : ℝ)) = 1 := by
      simpa using sum_onehot hk _ hiff fun _ => 1
    rw [h1, h2]
    simp only [src, if_pos hn, cat, if_neg (show ¬ n + (cum n z v p - 1) < n by omega), Nat.add_sub_cancel_left]
    ring
  · have hno : ∀ k, k ∈ range 16 → ind (rnkR n z v k = (p : ℝ)) = 0 := fun k hk => by
      rw [ind, if_neg]
      rw [rnkR_eq]
      intro e
      exact hn (isNew_of hv (mem_range.mp hk) (by exact_mod_cast e)).1
    have h1 : ∑ k ∈ range 16, ind (rnkR n z v k = (p : ℝ)) * H k = 0 :=
      sum_eq_zero fun k hk => by rw [hno k hk, zero_mul]
    rw [h1, sum_eq_zero hno]
    obtain ⟨h2, h3, -⟩ := old_place hz hv hp hn
    simp only [src, if_neg hn, shl, if_neg (show ¬ p < cum n z v p by omega), cat, if_pos h3]
    ring

include hv hz in
theorem merged_step {p : ℕ} (hp : p + 1 < n + 16) : cat n z v (src n z v p) ≤ cat n z v (src n z v (p + 1)) := by
  rcases src_before hz hv (Nat.lt_succ_self p) hp with h | h
  · exact h.le
  · exact h.1.le

end Merge

/-! ## One round -/

/-- The opacity of interval `j`. -/
def Ray.alpha (R : Ray) (v : ℝ) (z : ℕ → ℝ) (j : ℕ) : ℝ :=
  alphaOf v (R.pe z (fun i => R.sdf (z i)) j) (R.ne z (fun i => R.sdf (z i)) j)

/-- The weight of interval `j`. -/
def Ray.wt (R : Ray) (v : ℝ) (z : ℕ → ℝ) (j : ℕ) : ℝ := R.alpha v z j * trans (R.alpha v z) j + eps

/-- The sixteen new samples of a round over `m` intervals. -/
def Ray.fresh (R : Ray) (m : ℕ) (v : ℝ) (z : ℕ → ℝ) (k : ℕ) : ℝ := newz m (R.wt v z) z k

/-- The samples after a round: old and new in order. -/
def Ray.round (R : Ray) (m : ℕ) (v : ℝ) (z : ℕ → ℝ) (p : ℕ) : ℝ :=
  cat (m + 1) z (R.fresh m v z) (src (m + 1) z (R.fresh m v z) p)

section Round

variable (R : Ray) {m : ℕ} {v : ℝ} {z : ℕ → ℝ} (hm : 0 < m) (hv : 0 ≤ v) (hz : ∀ j, j < m → z j ≤ z (j + 1))

theorem Ray.factor_pos (j : ℕ) : 0 < 1 - R.alpha v z j + del := one_sub_alphaOf_pos _ _ _

include hv hz in
theorem Ray.wt_pos (j : ℕ) (hj : j < m) : 0 < R.wt v z j := by
  unfold Ray.wt
  have h1 : 0 ≤ R.alpha v z j := alphaOf_nonneg hv (R.ne_le_pe _ _ _ (hz j hj))
  have h2 := trans_pos (R.alpha v z) (fun i => R.factor_pos i) j
  have h3 := eps_pos
  have := mul_nonneg h1 h2.le
  linarith

include hm hv hz in
theorem Ray.fresh_mono {k l : ℕ} (hkl : k ≤ l) (hl : l < 16) : R.fresh m v z k ≤ R.fresh m v z l :=
  newz_mono (R.wt_pos hv hz) hm z hz hkl hl

include hz in
theorem old_mono {i j : ℕ} (hij : i ≤ j) (hj : j < m + 1) : z i ≤ z j :=
  mono_of_step (n := m + 1) (fun j hj => hz j (by omega)) hij hj

include hm hv hz in
theorem Ray.round_step {p : ℕ} (hp : p < m + 16) : R.round m v z p ≤ R.round m v z (p + 1) :=
  merged_step (fun _ _ => old_mono hz) (fun _ _ => R.fresh_mono hm hv hz) (by omega)

include hm hv hz in
theorem Ray.mergeK_round {p : ℕ} (hp : p < m + 1 + 16) :
    mergeK (m + 1) z (R.fresh m v z) z (R.fresh m v z) p = R.round m v z p :=
  mergeK_eq (fun _ _ => old_mono hz) (fun _ _ => R.fresh_mono hm hv hz) z _ hp

include hm hv hz in
theorem Ray.mergeK_sdf {p : ℕ} (hp : p < m + 1 + 16) :
    mergeK (m + 1) z (R.fresh m v z) (fun i => R.sdf (z i)) (fun k => R.sdf (R.fresh m v z k)) p = R.sdf (R.round m v z p) := by
  rw [mergeK_eq (fun _ _ => old_mono hz) (fun _ _ => R.fresh_mono hm hv hz) _ _ hp]
  unfold Ray.round cat
  split <;> rfl

end Round

/-- The evenly spaced first samples. -/
def Ray.start (R : Ray) (j : ℕ) : ℝ := R.near * (1 - (j : ℝ) * (1 / 63)) + R.far * ((j : ℝ) * (1 / 63))

theorem Ray.start_step (R : Ray) (h : R.near ≤ R.far) (j : ℕ) : R.start j ≤ R.start (j + 1) := by
  unfold Ray.start; push_cast; nlinarith

end Cert.Proof

end
-- ==== Proof.Ops.lean ====
/- Elements of vectors at the ideal values that are real numbers: what each vector operation does to them,
   one lemma an operation, so that a chain of operations is read by a chain of lemmas. -/
module

public import proofs.«01_k».proof.Proof.Model
public import Idealize.ShloMosaic.PureOps.Ideal.Laws
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.Pipeline.Value
public import Idealize.ShloMosaic.Lib.IdealHost

@[expose] public section

noncomputable section

namespace Cert.Proof

open Idealize.ShloMosaic Idealize.ShloMosaic.ValueIdx
open Finset
open scoped BigOperators Classical

/-! ## One element -/

section Elem

variable {s : Shape} {x y : FVec Ideal s .f32} {i : s.Idx} {a b : ℝ}

theorem add_val (hx : x i = (a : EReal)) (hy : y i = (b : EReal)) : addf x y i = ((a + b : ℝ) : EReal) := by
  rw [addf_apply, hx, hy, EReal.coe_add]
theorem sub_val (hx : x i = (a : EReal)) (hy : y i = (b : EReal)) : subf x y i = ((a - b : ℝ) : EReal) := by
  rw [subf_apply, hx, hy, EReal.coe_sub]
theorem mul_val (hx : x i = (a : EReal)) (hy : y i = (b : EReal)) : mulf x y i = ((a * b : ℝ) : EReal) := by
  rw [mulf_apply, hx, hy, EReal.coe_mul]
theorem max_val (hx : x i = (a : EReal)) (hy : y i = (b : EReal)) : maximumf x y i = ((max a b : ℝ) : EReal) := by
  rw [maximumf_apply, hx, hy]; exact (EReal.coe_strictMono.monotone.map_max).symm
theorem min_val (hx : x i = (a : EReal)) (hy : y i = (b : EReal)) : minimumf x y i = ((min a b : ℝ) : EReal) := by
  rw [minimumf_apply, hx, hy]; exact (EReal.coe_strictMono.monotone.map_min).symm
/-- A lower bound of minus infinity bounds nothing. -/
theorem max_bot_val (hx : x i = ⊥) (hy : y i = (b : EReal)) : maximumf x y i = (b : EReal) := by
  rw [maximumf_apply, hx, hy]; exact max_eq_right bot_le
/-- An upper bound of plus infinity bounds nothing. -/
theorem min_top_val (hx : x i = ⊤) (hy : y i = (b : EReal)) : minimumf x y i = (b : EReal) := by
  rw [minimumf_apply, hx, hy]; exact min_eq_right le_top

theorem div_coe {a b : ℝ} (h : b ≠ 0) : Ideal.div (a : EReal) (b : EReal) = ((a / b : ℝ) : EReal) := by
  unfold Ideal.div
  rw [if_neg (by exact_mod_cast h), ← EReal.coe_inv, ← EReal.coe_mul, div_eq_mul_inv]
theorem div_val (hx : x i = (a : EReal)) (hy : y i = (b : EReal)) (h : b ≠ 0) : divf x y i = ((a / b : ℝ) : EReal) := by
  rw [divf_apply, hx, hy, div_coe h]
theorem exp_val (hx : x i = (a : EReal)) : exp x i = ((Real.exp a : ℝ) : EReal) := by
  show Ideal.exp (x i) = _
  rw [hx]; rfl
theorem log_coe {a : ℝ} (h : 0 < a) : Ideal.log (a : EReal) = ((Real.log a : ℝ) : EReal) := by
  show (if a ≤ 0 then ⊥ else ((Real.log a : ℝ) : EReal)) = _
  rw [if_neg (not_le.mpr h)]
theorem log_val (hx : x i = (a : EReal)) (h : 0 < a) : log x i = ((Real.log a : ℝ) : EReal) := by
  show Ideal.log (x i) = _
  rw [hx, log_coe h]
theorem abs_coe (a : ℝ) : max (a : EReal) (-(a : EReal)) = ((|a| : ℝ) : EReal) := by
  rw [← EReal.coe_neg, abs_eq_max_neg]; exact (EReal.coe_strictMono.monotone.map_max).symm
theorem abs_val (hx : x i = (a : EReal)) : absf x i = ((|a| : ℝ) : EReal) := by
  show FloatOps.absf (x i) = _
  rw [hx]; exact abs_coe a

theorem bc_val {c : Ideal .f32} (hc : c = (a : EReal)) : (broadcast s c : FVec Ideal s .f32) i = (a : EReal) := hc

/-- A comparison's bit widened and converted is one or zero. -/
theorem bit_val (p : Prop) {hd : Decidable p} {c : IVec s 1} (hc : c i = BitVec.ofBool (decide p)) (h : 1 < 32) :
    (sitofp .f32 (extui 32 c h) : FVec Ideal s .f32) i = ((ind p : ℝ) : EReal) := by
  rw [sitofp_apply, extui_apply, hc]
  show ((((BitVec.ofBool (decide p)).setWidth 32).toInt : ℝ) : EReal) = _
  unfold ind
  by_cases hp : p
  · rw [if_pos hp, decide_eq_true hp, show ((BitVec.ofBool true).setWidth 32).toInt = 1 by decide]
    norm_num
  · rw [if_neg hp, decide_eq_false hp, show ((BitVec.ofBool false).setWidth 32).toInt = 0 by decide]
    norm_num

theorem olt_val (hx : x i = (a : EReal)) (hy : y i = (b : EReal)) : cmpf .olt x y i = BitVec.ofBool (decide (a < b)) := by
  rw [cmpf_apply, hx, hy]
  show BitVec.ofBool (decide ((a : EReal) < b)) = _
  congr 1; simp only [EReal.coe_lt_coe_iff]
theorem ole_val (hx : x i = (a : EReal)) (hy : y i = (b : EReal)) : cmpf .ole x y i = BitVec.ofBool (decide (a ≤ b)) := by
  rw [cmpf_apply, hx, hy]
  show BitVec.ofBool (decide ((a : EReal) ≤ b)) = _
  congr 1; simp only [EReal.coe_le_coe_iff]
theorem oeq_val (hx : x i = (a : EReal)) (hy : y i = (b : EReal)) : cmpf .oeq x y i = BitVec.ofBool (decide (a = b)) := by
  rw [cmpf_apply, hx, hy]
  show BitVec.ofBool (decide ((a : EReal) = b)) = _
  congr 1; simp only [EReal.coe_eq_coe_iff]
theorem or_val {c d : IVec s 1} {p q : Prop} (hc : c i = BitVec.ofBool (decide p)) (hd : d i = BitVec.ofBool (decide q)) :
    ori c d i = BitVec.ofBool (decide (p ∨ q)) := by
  show c i ||| d i = _
  rw [hc, hd]
  by_cases hp : p <;> by_cases hq : q <;> simp [hp, hq]
theorem select_val {c : IVec s 1} {p : Prop} (hc : c i = BitVec.ofBool (decide p)) (hx : x i = (a : EReal)) (hy : y i = (b : EReal)) :
    select c x y i = (((if p then a else b : ℝ)) : EReal) := by
  rw [select_apply, hc]
  by_cases hp : p
  · rw [decide_eq_true hp, if_pos hp]; exact hx
  · rw [decide_eq_false hp, if_neg hp]; exact hy

end Elem

/-- A vector's number of its place along one axis. -/
theorem iota_val {κ : Kind} {s : Shape} {d : Fin s.rank} (h : s.Iotas κ 32 [d]) (i : s.Idx) (j : ℕ) (hj : (i d).val = j) (hlt : j < 2 ^ 31) :
    (sitofp .f32 (iota κ s 32 [d] h) : FVec Ideal s .f32) i = ((j : ℝ) : EReal) := by
  rw [sitofp_apply, iota_single_apply, hj]
  show (((BitVec.ofNat 32 j).toInt : ℝ) : EReal) = _
  have : (BitVec.ofNat 32 j).toInt = (j : ℤ) := by
    rw [BitVec.toInt_eq_toNat_of_lt] <;> simp [BitVec.toNat_ofNat] <;> omega
  rw [this]; norm_num

/-! ## The words of the constants -/

/-- A word read as a number. -/
abbrev kw {F : FTy → Type} [FloatOps F] (b : BitVec 32) : F .f32 := Scalar.ofBits .f32 b

/-- A word read as an ideal number. -/
abbrev wd (b : BitVec 32) : Ideal .f32 := kw b

theorem wd_0 : wd 0x00000000#32 = ((0 : ℝ) : EReal) := by
  show Ideal.ofBits .f32 _ = _; simp [Ideal.ofBits, Ideal.ieee]
theorem wd_1 : wd 0x3F800000#32 = ((1 : ℝ) : EReal) := by
  show Ideal.ofBits .f32 _ = _; simp [Ideal.ofBits, Ideal.ieee, -EReal.coe_mul]; norm_num
theorem wd_2 : wd 0x40000000#32 = ((2 : ℝ) : EReal) := by
  show Ideal.ofBits .f32 _ = _; simp [Ideal.ofBits, Ideal.ieee, -EReal.coe_mul]; norm_num
theorem wd_half : wd 0x3F000000#32 = ((1 / 2 : ℝ) : EReal) := by
  show Ideal.ofBits .f32 _ = _; simp [Ideal.ofBits, Ideal.ieee, -EReal.coe_mul]; norm_num
theorem wd_eps : wd 0x3727C5AC#32 = ((eps : ℝ) : EReal) := by
  show Ideal.ofBits .f32 _ = _; simp [Ideal.ofBits, Ideal.ieee, -EReal.coe_mul, eps]; norm_num
theorem wd_del : wd 0x33D6BF95#32 = ((del : ℝ) : EReal) := by
  show Ideal.ofBits .f32 _ = _; simp [Ideal.ofBits, Ideal.ieee, -EReal.coe_mul, del]; norm_num
theorem wd_m1000 : wd 0xC47A0000#32 = ((-1000 : ℝ) : EReal) := by
  show Ideal.ofBits .f32 _ = _; simp [Ideal.ofBits, Ideal.ieee, -EReal.coe_mul, -EReal.coe_neg]; norm_num
theorem wd_16th : wd 0x3D800000#32 = ((1 / 16 : ℝ) : EReal) := by
  show Ideal.ofBits .f32 _ = _; simp [Ideal.ofBits, Ideal.ieee, -EReal.coe_mul]; norm_num
theorem wd_32nd : wd 0x3D000000#32 = ((1 / 32 : ℝ) : EReal) := by
  show Ideal.ofBits .f32 _ = _; simp [Ideal.ofBits, Ideal.ieee, -EReal.coe_mul]; norm_num

/-- The word of a small whole number. -/
def small : ℕ → BitVec 32
  | 0 => 0x00000000#32 | 1 => 0x3F800000#32 | 2 => 0x40000000#32 | 3 => 0x40400000#32
  | 4 => 0x40800000#32 | 5 => 0x40A00000#32 | 6 => 0x40C00000#32 | 7 => 0x40E00000#32
  | 8 => 0x41000000#32 | 9 => 0x41100000#32 | 10 => 0x41200000#32 | 11 => 0x41300000#32
  | 12 => 0x41400000#32 | 13 => 0x41500000#32 | 14 => 0x41600000#32 | 15 => 0x41700000#32
  | _ => 0x41800000#32

theorem wd_small {s : ℕ} (hs : s < 17) : wd (small s) = ((s : ℝ) : EReal) := by
  show Ideal.ofBits .f32 _ = _
  interval_cases s <;> (simp [small, Ideal.ofBits, Ideal.ieee, -EReal.coe_mul]; try norm_num)

/-! ## Rows -/

/-- The plane of `B` rows of `n` places. -/
abbrev P2 (B n : ℕ) : Shape := ⟨2, ![B, n]⟩
/-- `B` planes of `K` rows of `n` places. -/
abbrev P3 (B K n : ℕ) : Shape := ⟨3, ![B, K, n]⟩
/-- `B` places. -/
abbrev P1 (B : ℕ) : Shape := ⟨1, ![B]⟩

/-- Row `r` of `v` holds the numbers `f`. -/
def Row {B n : ℕ} (r : Fin B) (v : FVec Ideal (P2 B n) .f32) (f : ℕ → ℝ) : Prop :=
  ∀ j (h : j < n), v (ix2 r ⟨j, h⟩) = ((f j : ℝ) : EReal)

/-- Plane `r` of `v` holds the numbers `f`. -/
def Row3 {B K n : ℕ} (r : Fin B) (v : FVec Ideal (P3 B K n) .f32) (f : ℕ → ℕ → ℝ) : Prop :=
  ∀ k (hk : k < K) j (h : j < n), v (ix3 r ⟨k, hk⟩ ⟨j, h⟩) = ((f k j : ℝ) : EReal)

theorem Row.congr {B n : ℕ} {r : Fin B} {v : FVec Ideal (P2 B n) .f32} {f g : ℕ → ℝ} (h : Row r v f) (e : ∀ j, j < n → f j = g j) : Row r v g :=
  fun j hj => (h j hj).trans (by rw [e j hj])

/-- A sum of reals, taken in the extended reals. -/
theorem sum_coe {n : ℕ} {g : Fin n → EReal} {f : ℕ → ℝ} (h : ∀ k : Fin n, g k = ((f k.val : ℝ) : EReal)) :
    ∑ k, g k = ((∑ k ∈ range n, f k : ℝ) : EReal) := by
  rw [Finset.sum_range f]
  have : ∀ t : Finset (Fin n), ((∑ k ∈ t, f k.val : ℝ) : EReal) = ∑ k ∈ t, ((f k.val : ℝ) : EReal) := fun t => by
    induction t using Finset.induction_on with
    | empty => simp
    | insert a t ha ih => rw [sum_insert ha, sum_insert ha, EReal.coe_add, ih]
  rw [this]
  exact sum_congr rfl fun k _ => h k

variable {F : FTy → Type} [FloatOps F]

section Facts

theorem slices_L (B : ℕ) {n k : ℕ} (h : k ≤ n) : (P2 B n).Slices ![0, 0] (P2 B k) := ⟨rfl, fun a => by fin_cases a <;> simp [h]⟩
theorem slices_R (B : ℕ) {n k : ℕ} (h : 1 + k ≤ n) : (P2 B n).Slices ![0, 1] (P2 B k) := ⟨rfl, fun a => by fin_cases a <;> simp [h]⟩
theorem besides (B : ℕ) {a b n : ℕ} (h : a + b = n) : Shape.Concatenates [P2 B a, P2 B b] (P2 B n) 1 :=
  ⟨by simp, by
    intro s hs
    simp only [List.mem_cons, List.not_mem_nil, or_false] at hs
    rcases hs with rfl | rfl
    · exact ⟨rfl, fun c hc => by fin_cases c <;> first | rfl | exact absurd rfl hc⟩
    · exact ⟨rfl, fun c hc => by fin_cases c <;> first | rfl | exact absurd rfl hc⟩,
   by simp [h]⟩
theorem casts_mid (B n : ℕ) : (P2 B n).ShapeCasts (P3 B 1 n) := by simp [Shape.ShapeCasts, Shape.numel, Fin.prod_univ_succ]
theorem casts_last (B n : ℕ) : (P2 B n).ShapeCasts (P3 B n 1) := by simp [Shape.ShapeCasts, Shape.numel, Fin.prod_univ_succ]
theorem casts_col (B : ℕ) : (P1 B).ShapeCasts (P2 B 1) := by simp [Shape.ShapeCasts, Shape.numel]
theorem goes_mid (B K n : ℕ) : (P3 B 1 n).Broadcasts (P3 B K n) := ⟨by simp, fun a => by fin_cases a <;> simp⟩
theorem goes_last (B K n : ℕ) : (P3 B K 1).Broadcasts (P3 B K n) := ⟨by simp, fun a => by fin_cases a <;> simp⟩
theorem goes_rows (B n : ℕ) : (P2 1 n).Broadcasts (P2 B n) := ⟨by simp, fun a => by fin_cases a <;> simp⟩
theorem goes_cols (B n : ℕ) : (P2 B 1).Broadcasts (P2 B n) := ⟨by simp, fun a => by fin_cases a <;> simp⟩
theorem goes_one (B K n : ℕ) : (P3 1 1 n).Broadcasts (P3 B K n) := ⟨by simp, fun a => by fin_cases a <;> simp⟩
theorem goes_col3 (B K n : ℕ) : (P3 1 K 1).Broadcasts (P3 B K n) := ⟨by simp, fun a => by fin_cases a <;> simp⟩
theorem sums_row (B n : ℕ) : (P2 B n).Reduces [1] (P1 B) := ⟨rfl, by simp, fun a => by fin_cases a; rfl⟩
theorem sums_last (B K n : ℕ) : (P3 B K n).Reduces [2] (P2 B K) := ⟨rfl, by simp, fun a => by fin_cases a <;> rfl⟩
theorem sums_mid (B K n : ℕ) : (P3 B K n).Reduces [1] (P2 B n) := ⟨rfl, by simp, fun a => by fin_cases a <;> rfl⟩
theorem iotas_cols (B n : ℕ) : (P2 B n).Iotas .tc 32 [1] := ⟨by simp, by simp, by simp⟩
theorem iotas_rows (B n : ℕ) : (P2 B n).Iotas .tc 32 [0] := ⟨by simp, by simp, by simp⟩
theorem iotas_mid (B K n : ℕ) : (P3 B K n).Iotas .tc 32 [1] := ⟨by simp, by simp, by simp⟩

end Facts

section Layout

/-- The first `k` columns. -/
def cutL {B n : ℕ} (k : ℕ) (h : k ≤ n) (x : FVec F (P2 B n) .f32) : FVec F (P2 B k) .f32 :=
  extractStridedSlice (P2 B k) ![0, 0] x (slices_L B h)

/-- The columns from the second on. -/
def cutR {B n : ℕ} (k : ℕ) (h : 1 + k ≤ n) (x : FVec F (P2 B n) .f32) : FVec F (P2 B k) .f32 :=
  extractStridedSlice (P2 B k) ![0, 1] x (slices_R B h)

/-- Two planes side by side. -/
def beside {B a b n : ℕ} (h : a + b = n) (x : FVec F (P2 B a) .f32) (y : FVec F (P2 B b) .f32) : FVec F (P2 B n) .f32 :=
  concatenate (P2 B n) 1 [⟨P2 B a, x⟩, ⟨P2 B b, y⟩] (besides B h)

/-- Columns moved right by `k`, the value `c` put in front. -/
def push {B n : ℕ} (k l : ℕ) (h : k + l = n) (c : F .f32) (x : FVec F (P2 B n) .f32) : FVec F (P2 B n) .f32 :=
  beside h (broadcast (P2 B k) c) (cutL l (by omega) x)

variable {B n : ℕ} {r : Fin B}

theorem cutL_row {x : FVec Ideal (P2 B n) .f32} {f : ℕ → ℝ} (hx : Row r x f) (k : ℕ) (h : k ≤ n) : Row r (cutL k h x) f :=
  fun j hj => (slice2_axis1_apply 0 x _ r ⟨j, hj⟩ ⟨j, by omega⟩ (by simp)).trans (hx j (by omega))

theorem cutR_row {x : FVec Ideal (P2 B n) .f32} {f : ℕ → ℝ} (hx : Row r x f) (k : ℕ) (h : 1 + k ≤ n) :
    Row r (cutR k h x) fun j => f (j + 1) :=
  fun j hj => (slice2_axis1_apply 1 x _ r ⟨j, hj⟩ ⟨j + 1, by omega⟩ (by simp; omega)).trans (hx (j + 1) (by omega))

theorem beside_row {a b : ℕ} (h : a + b = n) {x : FVec Ideal (P2 B a) .f32} {y : FVec Ideal (P2 B b) .f32} {f g : ℕ → ℝ}
    (hx : Row r x f) (hy : Row r y g) : Row r (beside h x y) (cat a f g) := by
  intro j hj
  unfold beside cat
  split
  · next hl =>
    exact (concatenate_pair_apply_left (1 : Fin (P2 B n).rank) x y _ _ rfl (ix2 r ⟨j, hl⟩) (fun c => by fin_cases c <;> rfl)).trans (hx j hl)
  · next hl =>
    refine (concatenate_pair_apply_right (1 : Fin (P2 B n).rank) x y _ _ rfl rfl (ix2 r ⟨j - a, by omega⟩) (fun c hc => ?_) ?_).trans (hy (j - a) (by omega))
    · fin_cases c
      · rfl
      · exact absurd rfl hc
    · show j - a + a = j
      omega

theorem bc_row {c : Ideal .f32} {a : ℝ} (hc : c = (a : EReal)) : Row r (broadcast (P2 B n) c) fun _ => a := fun _ _ => hc

theorem push_row {k l : ℕ} (h : k + l = n) {c : Ideal .f32} {a : ℝ} (hc : c = (a : EReal)) {x : FVec Ideal (P2 B n) .f32} {f : ℕ → ℝ}
    (hx : Row r x f) : Row r (push k l h c x) (shl a k f) :=
  (beside_row h (bc_row hc) (cutL_row hx l (by omega))).congr fun j _ => rfl

end Layout

section Lift

/-- A plane laid over a new middle axis of `K`. -/
def overMid {B n : ℕ} (K : ℕ) (x : FVec F (P2 B n) .f32) : FVec F (P3 B K n) .f32 :=
  broadcastTo (P3 B K n) (shapeCast (P3 B 1 n) x (casts_mid B n))
    (goes_mid B K n)

/-- A plane laid over a new last axis of `n`. -/
def overLast {B K : ℕ} (n : ℕ) (x : FVec F (P2 B K) .f32) : FVec F (P3 B K n) .f32 :=
  broadcastTo (P3 B K n) (shapeCast (P3 B K 1) x (casts_last B K))
    (goes_last B K n)

/-- One row laid over `B` rows. -/
def overRows {n : ℕ} (B : ℕ) (x : FVec F (P2 1 n) .f32) : FVec F (P2 B n) .f32 :=
  broadcastTo (P2 B n) x (goes_rows B n)

/-- One column laid over `n` columns. -/
def overCols {B : ℕ} (n : ℕ) (x : FVec F (P2 B 1) .f32) : FVec F (P2 B n) .f32 :=
  broadcastTo (P2 B n) x (goes_cols B n)

/-- The sum of each row, as a column. -/
def rowSum {B n : ℕ} (x : FVec F (P2 B n) .f32) : FVec F (P2 B 1) .f32 :=
  shapeCast (P2 B 1) (multiReduction .add [1] (P1 B) x 0x00000000#32 (sums_row B n) (.inl rfl) rfl)
    (casts_col B)

/-- The sums along the last axis. -/
def lastSum {B K n : ℕ} (x : FVec F (P3 B K n) .f32) : FVec F (P2 B K) .f32 :=
  multiReduction .add [2] (P2 B K) x 0x00000000#32 (sums_last B K n) (.inl rfl) rfl

/-- The sums along the middle axis. -/
def midSum {B K n : ℕ} (x : FVec F (P3 B K n) .f32) : FVec F (P2 B n) .f32 :=
  multiReduction .add [1] (P2 B n) x 0x00000000#32 (sums_mid B K n) (.inl rfl) rfl

variable {B K n : ℕ} {r : Fin B}

/-- One row laid over `B` planes of `K` rows. -/
def overAll {n : ℕ} (B K : ℕ) (x : FVec F (P2 1 n) .f32) : FVec F (P3 B K n) .f32 :=
  broadcastTo (P3 B K n) (shapeCast (P3 1 1 n) x (casts_mid 1 n)) (goes_one B K n)

theorem overAll_row {B K n : ℕ} {r : Fin B} {x : FVec Ideal (P2 1 n) .f32} {f : ℕ → ℝ} (hx : Row 0 x f) :
    Row3 r (overAll B K x) fun _ j => f j := by
  intro k hk j hj
  unfold overAll
  rw [broadcastTo_apply _ _ _ (ix3 (0 : Fin 1) (0 : Fin 1) ⟨j, hj⟩) (fun a => by
    fin_cases a
    · rfl
    · rfl
    · show j = if n = 1 then 0 else j
      split <;> omega)]
  rw [shapeCast_apply _ _ _ (ix2 (0 : Fin 1) ⟨j, hj⟩) (by
    rw [Shape.rowMajor_val_two, Shape.rowMajor_val_three]
    show 0 * n + j = (0 * 1 + 0) * n + j
    omega)]
  exact hx j hj

theorem overMid_row {x : FVec Ideal (P2 B n) .f32} {f : ℕ → ℝ} (hx : Row r x f) : Row3 r (overMid K x) fun _ j => f j := by
  intro k hk j hj
  unfold overMid
  rw [broadcastTo_apply _ _ _ (ix3 r (0 : Fin 1) ⟨j, hj⟩) (fun a => by
    fin_cases a
    · show r.val = if B = 1 then 0 else r.val
      split <;> omega
    · rfl
    · show j = if n = 1 then 0 else j
      split <;> omega)]
  rw [shapeCast_apply _ _ _ (ix2 r ⟨j, hj⟩) (by
    rw [Shape.rowMajor_val_two, Shape.rowMajor_val_three]
    show r.val * n + j = (r.val * 1 + 0) * n + j
    rw [mul_one, add_zero])]
  exact hx j hj

theorem overLast_row {x : FVec Ideal (P2 B K) .f32} {f : ℕ → ℝ} (hx : Row r x f) : Row3 r (overLast n x) fun k _ => f k := by
  intro k hk j hj
  unfold overLast
  rw [broadcastTo_apply _ _ _ (ix3 r ⟨k, hk⟩ (0 : Fin 1)) (fun a => by
    fin_cases a
    · show r.val = if B = 1 then 0 else r.val
      split <;> omega
    · show k = if K = 1 then 0 else k
      split <;> omega
    · rfl)]
  rw [shapeCast_apply _ _ _ (ix2 r ⟨k, hk⟩) (by
    rw [Shape.rowMajor_val_two, Shape.rowMajor_val_three]
    show r.val * K + k = (r.val * K + k) * 1 + 0
    rw [mul_one, add_zero])]
  exact hx k hk

theorem overRows_row {x : FVec Ideal (P2 1 n) .f32} {f : ℕ → ℝ} (hx : Row 0 x f) : Row r (overRows B x) f := by
  intro j hj
  unfold overRows
  rw [broadcastTo_apply _ _ _ (ix2 (0 : Fin 1) ⟨j, hj⟩) (fun a => by
    fin_cases a
    · rfl
    · show j = if n = 1 then 0 else j
      split <;> omega)]
  exact hx j hj

theorem overCols_row {x : FVec Ideal (P2 B 1) .f32} {f : ℕ → ℝ} (hx : Row r x f) : Row r (overCols n x) fun _ => f 0 := by
  intro j hj
  unfold overCols
  rw [broadcastTo_apply _ _ _ (ix2 r (0 : Fin 1)) (fun a => by
    fin_cases a
    · show r.val = if B = 1 then 0 else r.val
      split <;> omega
    · rfl)]
  exact hx 0 one_pos

theorem rowSum_row {x : FVec Ideal (P2 B n) .f32} {f : ℕ → ℝ} (hx : Row r x f) : Row r (rowSum x) fun _ => ∑ j ∈ range n, f j := by
  intro j hj
  unfold rowSum
  rw [show (⟨j, hj⟩ : Fin 1) = 0 from Subsingleton.elim _ _, shapeCast_a_a1_apply]
  refine (Ideal.multiReduction_add_single x _ (sums_row B n) _ _ _).trans (sum_coe fun k => ?_)
  rw [← hx k.val k.isLt]
  congr 1
  funext a
  fin_cases a <;> rfl

theorem lastSum_row {x : FVec Ideal (P3 B K n) .f32} {f : ℕ → ℕ → ℝ} (hx : Row3 r x f) : Row r (lastSum x) fun k => ∑ j ∈ range n, f k j := by
  intro k hk
  unfold lastSum
  refine (Ideal.multiReduction_add_single x _ (sums_last B K n) _ _ _).trans (sum_coe fun j => ?_)
  rw [← hx k hk j.val j.isLt]
  congr 1
  funext a
  fin_cases a <;> rfl

theorem midSum_row {x : FVec Ideal (P3 B K n) .f32} {f : ℕ → ℕ → ℝ} (hx : Row3 r x f) : Row r (midSum x) fun j => ∑ k ∈ range K, f k j := by
  intro j hj
  unfold midSum
  refine (Ideal.multiReduction_add_single x _ (sums_mid B K n) _ _ _).trans (sum_coe fun k => ?_)
  rw [← hx k.val k.isLt j hj]
  congr 1
  funext a
  fin_cases a <;> rfl

/-- The places along the columns, as numbers. -/
def places (B n : ℕ) : FVec F (P2 B n) .f32 := sitofp .f32 (iota .tc (P2 B n) 32 [1] (iotas_cols B n))

/-- The places along the rows, as numbers. -/
def placesDown (B n : ℕ) : FVec F (P2 B n) .f32 := sitofp .f32 (iota .tc (P2 B n) 32 [0] (iotas_rows B n))

theorem places_row (hn : n < 2 ^ 31) : Row r (places (F := Ideal) B n) fun j => (j : ℝ) :=
  fun j hj => iota_val _ _ j rfl (by omega)

/-- The product with the triangle of ones: the running sums of each row. -/
def runSum {B n : ℕ} (x : FVec F (P2 B n) .f32) : FVec F (P2 B n) .f32 :=
  matmul (DotDims.plain B n n) (some .fp32) x
    (sitofp .f32 (extui 32 (cmpf .ole (placesDown (F := F) n n) (places n n)) (by decide))) (constant (P2 B n) .f32 0x00000000#32)

theorem runSum_row (hn : n < 2 ^ 31) {x : FVec Ideal (P2 B n) .f32} {f : ℕ → ℝ} (hx : Row r x f) :
    Row r (runSum x) fun j => ∑ i ∈ range n, f i * ind ((i : ℝ) ≤ (j : ℝ)) := by
  intro j hj
  have e := Ideal.matmul_plain_apply (some .fp32) x
    (sitofp .f32 (extui 32 (cmpf .ole (placesDown (F := Ideal) n n) (places n n)) (by decide))) (constant (P2 B n) .f32 0x00000000#32) r ⟨j, hj⟩
  refine e.trans ?_
  rw [constant_apply, Ideal.ofBits_zero_f32, zero_add]
  refine sum_coe fun k => ?_
  rw [hx k.val k.isLt, EReal.coe_mul]
  congr 1
  exact bit_val ((k.val : ℝ) ≤ (j : ℝ)) (ole_val (x := placesDown n n) (y := places n n) (iota_val _ _ k.val rfl (by omega)) (iota_val _ _ j rfl (by omega))) _

end Lift

end Cert.Proof

end
-- ==== Proof.Stages.lean ====
/- The stages of one round of the block's work, each a function of the planes it reads, for any number of
   samples; and what each leaves in a ray's row when the row it reads holds real numbers. -/
module

public import proofs.«01_k».proof.Proof.Ops

@[expose] public section

noncomputable section

namespace Cert.Proof

open Idealize.ShloMosaic Idealize.ShloMosaic.ValueIdx
open Finset
open scoped BigOperators Classical

variable {F : FTy → Type} [FloatOps F]

/-- What a block of `B` rays holds fixed: the hidden layer at the origins and along the directions, the output
    layer, the squared lengths, and the bounds of the exponentials. -/
structure Scene (F : FTy → Type) (B : ℕ) where
  a : FVec F (P2 B 256) .f32
  e : FVec F (P2 B 256) .f32
  w : FVec F (P2 1 256) .f32
  b : F .f32
  oo : FVec F (P2 B 1) .f32
  od : FVec F (P2 B 1) .f32
  dd : FVec F (P2 B 1) .f32
  lo : F .f32
  hi : F .f32

/-- Softplus of every element. -/
def softS {s : Shape} (h : FVec F s .f32) : FVec F s .f32 :=
  addf (maximumf h (broadcast s (kw 0x00000000#32)))
    (log (addf (broadcast s (kw 0x3F800000#32)) (exp (subf (broadcast s (kw 0x00000000#32)) (absf h)))))

/-- A condition's bits as ones and zeros. -/
def bits {s : Shape} (c : IVec s 1) : FVec F s .f32 := sitofp .f32 (extui 32 c (by decide))

variable {B n m l N : ℕ}

/-- The network at the samples `z`. -/
def sdfS (S : Scene F B) (z : FVec F (P2 B n) .f32) : FVec F (P2 B n) .f32 :=
  addf (lastSum (mulf (softS (addf (overMid n S.a) (mulf (overLast 256 z) (overMid n S.e)))) (overAll B n S.w))) (broadcast (P2 B n) S.b)

/-- The squared distances from the origin. -/
def radS (S : Scene F B) (z : FVec F (P2 B n) .f32) : FVec F (P2 B n) .f32 :=
  addf (addf (overCols n S.oo) (mulf (mulf (broadcast (P2 B n) (kw 0x40000000#32)) z) (overCols n S.od))) (mulf (mulf z z) (overCols n S.dd))

/-- Which intervals touch the unit ball. -/
def insideS (h : 1 + m = n) (S : Scene F B) (z : FVec F (P2 B n) .f32) : FVec F (P2 B m) .f32 :=
  bits (ori (cmpf .olt (cutL m (by omega) (radS S z)) (broadcast (P2 B m) (kw 0x3F800000#32)))
    (cmpf .olt (cutR m (by omega) (radS S z)) (broadcast (P2 B m) (kw 0x3F800000#32))))

/-- The steps of `x` from sample to sample. -/
def stepS (h : 1 + m = n) (x : FVec F (P2 B n) .f32) : FVec F (P2 B m) .f32 :=
  subf (cutR m (by omega) x) (cutL m (by omega) x)

/-- The raw slopes. -/
def cosS (h : 1 + m = n) (z s : FVec F (P2 B n) .f32) : FVec F (P2 B m) .f32 :=
  divf (stepS h s) (addf (stepS h z) (broadcast (P2 B m) (kw 0x3727C5AC#32)))

/-- The clipped slopes. -/
def slopeS (h : 1 + m = n) (k : 1 + l = m) (S : Scene F B) (z s : FVec F (P2 B n) .f32) : FVec F (P2 B m) .f32 :=
  mulf (minimumf (broadcast (P2 B m) (kw 0x00000000#32)) (maximumf (broadcast (P2 B m) (kw 0xC47A0000#32))
    (minimumf (push 1 l k (kw 0x00000000#32) (cosS h z s)) (cosS h z s)))) (insideS h S z)

/-- Half the change of distance along an interval. -/
def riseS (h : 1 + m = n) (k : 1 + l = m) (S : Scene F B) (z s : FVec F (P2 B n) .f32) : FVec F (P2 B m) .f32 :=
  mulf (mulf (slopeS h k S z s) (stepS h z)) (broadcast (P2 B m) (kw 0x3F000000#32))

/-- The distances at the middles of the intervals. -/
def midS (h : 1 + m = n) (s : FVec F (P2 B n) .f32) : FVec F (P2 B m) .f32 :=
  mulf (addf (cutL m (by omega) s) (cutR m (by omega) s)) (broadcast (P2 B m) (kw 0x3F000000#32))

/-- The exponential of minus the scaled distance, the exponent held between two bounds. -/
def expoS (S : Scene F B) (v : F .f32) (x : FVec F (P2 B m) .f32) : FVec F (P2 B m) .f32 :=
  exp (minimumf (broadcast (P2 B m) S.hi) (maximumf (broadcast (P2 B m) S.lo)
    (mulf (subf (broadcast (P2 B m) (kw 0x00000000#32)) x) (broadcast (P2 B m) v))))

/-- The opacity from the two exponentials. -/
def mixS (x y : FVec F (P2 B m) .f32) : FVec F (P2 B m) .f32 :=
  divf (addf (subf y x) (mulf (mulf (broadcast (P2 B m) (kw 0x3727C5AC#32)) (addf (broadcast (P2 B m) (kw 0x3F800000#32)) x))
      (addf (broadcast (P2 B m) (kw 0x3F800000#32)) y)))
    (mulf (addf (broadcast (P2 B m) (kw 0x3F800000#32)) y)
      (addf (broadcast (P2 B m) (kw 0x3F800000#32)) (mulf (broadcast (P2 B m) (kw 0x3727C5AC#32)) (addf (broadcast (P2 B m) (kw 0x3F800000#32)) x))))

/-- The opacities. -/
def alphaS (h : 1 + m = n) (k : 1 + l = m) (S : Scene F B) (v : F .f32) (z s : FVec F (P2 B n) .f32) : FVec F (P2 B m) .f32 :=
  mixS (expoS S v (subf (midS h s) (riseS h k S z s))) (expoS S v (addf (midS h s) (riseS h k S z s)))

/-- One doubling of the running product. -/
def dbl (w : ℕ) (h : w ≤ m) (x : FVec F (P2 B m) .f32) : FVec F (P2 B m) .f32 :=
  mulf x (push w (m - w) (Nat.add_sub_of_le h) (kw 0x3F800000#32) x)

/-- The running product by doubling. -/
def scan : (t : ℕ) → (∀ i, i < t → 2 ^ i ≤ m) → FVec F (P2 B m) .f32 → FVec F (P2 B m) .f32
  | 0, _, x => x
  | t + 1, h, x => dbl (2 ^ t) (h t (Nat.lt_succ_self t)) (scan t (fun i hi => h i (Nat.lt_succ_of_lt hi)) x)

/-- The weights from the opacities. -/
def weighS (k : 1 + l = m) (t : ℕ) (ht : ∀ i, i < t → 2 ^ i ≤ m) (a : FVec F (P2 B m) .f32) : FVec F (P2 B m) .f32 :=
  addf (mulf a (scan t ht (push 1 l k (kw 0x3F800000#32)
    (addf (subf (broadcast (P2 B m) (kw 0x3F800000#32)) a) (broadcast (P2 B m) (kw 0x33D6BF95#32))))))
    (broadcast (P2 B m) (kw 0x3727C5AC#32))

/-- The distribution from the weights. -/
def cdfS (h : 1 + m = n) (w : FVec F (P2 B m) .f32) : FVec F (P2 B n) .f32 :=
  beside h (broadcast (P2 B 1) (kw 0x00000000#32))
    (runSum (mulf w (overCols m (divf (broadcast (P2 B 1) (kw 0x3F800000#32)) (rowSum w)))))

/-- The interval widths of the distribution, one where tiny. -/
def denS (h : 1 + m = n) (c : FVec F (P2 B n) .f32) : FVec F (P2 B m) .f32 :=
  select (cmpf .olt (stepS h c) (broadcast (P2 B m) (kw 0x3727C5AC#32))) (broadcast (P2 B m) (kw 0x3F800000#32)) (stepS h c)

/-- The slopes of the inverse distribution. -/
def bbS (h : 1 + m = n) (c z : FVec F (P2 B n) .f32) : FVec F (P2 B m) .f32 := divf (stepS h z) (denS h c)

/-- The offsets of the inverse distribution. -/
def aaS (h : 1 + m = n) (c z : FVec F (P2 B n) .f32) : FVec F (P2 B m) .f32 :=
  subf (cutL m (by omega) z) (mulf (cutL m (by omega) c) (bbS h c z))

/-- The steps of a plane from column to column, from zero. -/
def difS (k : 1 + l = m) (x : FVec F (P2 B m) .f32) : FVec F (P2 B m) .f32 := subf x (push 1 l k (kw 0x00000000#32) x)

/-- Which values of the distribution lie at or below which of the sixteen levels. -/
def belowS (h : 1 + m = n) (c : FVec F (P2 B n) .f32) : FVec F (P3 B 16 m) .f32 :=
  bits (cmpf .ole (overMid 16 (cutL m (by omega) c))
    (broadcastTo (P3 B 16 m) (addf (broadcast (P3 1 16 1) (kw 0x3D000000#32)) (mulf (broadcast (P3 1 16 1) (kw 0x3D800000#32))
      (sitofp .f32 (iota .tc (P3 1 16 1) 32 [1] (iotas_mid 1 16 1))))) (goes_col3 B 16 m)))

/-- The sixteen new samples from the distribution. -/
def invertS (h : 1 + m = n) (k : 1 + l = m) (c z : FVec F (P2 B n) .f32) : FVec F (P2 B 16) .f32 :=
  addf (lastSum (mulf (belowS h c) (overMid 16 (difS k (aaS h c z)))))
    (mulf (lastSum (mulf (belowS h c) (overMid 16 (difS k (bbS h c z)))))
      (overRows B (addf (broadcast (P2 1 16) (kw 0x3D000000#32)) (mulf (broadcast (P2 1 16) (kw 0x3D800000#32)) (places 1 16)))))

/-- The sixteen new samples of a round. -/
def freshS (h : 1 + m = n) (k : 1 + l = m) (t : ℕ) (ht : ∀ i, i < t → 2 ^ i ≤ m) (S : Scene F B) (v : F .f32)
    (z s : FVec F (P2 B n) .f32) : FVec F (P2 B 16) .f32 :=
  invertS h k (cdfS h (weighS k t ht (alphaS h k S v z s))) z

/-- Which new sample comes to which place. -/
def maskS (N : ℕ) (z : FVec F (P2 B n) .f32) (v : FVec F (P2 B 16) .f32) : FVec F (P3 B 16 N) .f32 :=
  bits (cmpf (F := F) .oeq (overLast N (addf (lastSum (bits (cmpf .ole (overMid 16 z) (overLast n v)))) (overRows B (places 1 16))))
    (overAll B 16 (places 1 N)))

/-- The old samples moved right by the number of new samples before them: the first `t + 1` distances. -/
def moveS (c x : FVec F (P2 B N) .f32) : (t : ℕ) → t ≤ N → FVec F (P2 B N) .f32
  | 0, _ => addf (broadcast (P2 B N) (kw 0x00000000#32)) (mulf (bits (cmpf .oeq c (broadcast (P2 B N) (kw (small 0))))) x)
  | t + 1, h => addf (moveS c x t (by omega)) (mulf (bits (cmpf .oeq c (broadcast (P2 B N) (kw (small (t + 1))))))
      (push (t + 1) (N - (t + 1)) (Nat.add_sub_of_le h) (kw 0x00000000#32) x))

/-- The merged plane of the old values `G` and the new values `H`, placed by the mask. -/
def placeS (h : n + 16 = N) (M : FVec F (P3 B 16 N) .f32) (G : FVec F (P2 B n) .f32) (H : FVec F (P2 B 16) .f32) : FVec F (P2 B N) .f32 :=
  addf (midSum (mulf M (overLast N H)))
    (mulf (subf (broadcast (P2 B N) (kw 0x3F800000#32)) (midSum M))
      (moveS (runSum (midSum M)) (beside h G (broadcast (P2 B 16) (kw 0x00000000#32))) 16 (by omega)))

/-! ## What the stages leave in a row -/

section Rows

variable {r : Fin B}

theorem soft_val {s : Shape} {h : FVec Ideal s .f32} {i : s.Idx} {a : ℝ} (hh : h i = (a : EReal)) :
    softS h i = ((softplus a : ℝ) : EReal) := by
  have hp : (0 : ℝ) < 1 + Real.exp (0 - |a|) := by positivity
  refine (add_val (max_val hh (bc_val wd_0)) (log_val (add_val (bc_val wd_1) (exp_val (sub_val (bc_val wd_0) (abs_val hh)))) hp)).trans ?_
  rw [zero_sub]; rfl

/-- The fixed data of row `r` are those of the ray `R`. -/
structure Scene.Of (S : Scene Ideal B) (r : Fin B) (R : Ray) : Prop where
  a : Row r S.a fun k => (∑ i ∈ range 3, R.o i * R.W i k) + R.b1 k
  e : Row r S.e fun k => ∑ i ∈ range 3, R.d i * R.W i k
  w : Row 0 S.w R.w2
  b : S.b = ((R.b2 : ℝ) : EReal)
  oo : Row r S.oo fun _ => ∑ i ∈ range 3, R.o i * R.o i
  od : Row r S.od fun _ => ∑ i ∈ range 3, R.o i * R.d i
  dd : Row r S.dd fun _ => ∑ i ∈ range 3, R.d i * R.d i
  lo : S.lo = ⊥
  hi : S.hi = ⊤

variable {S : Scene Ideal B} {R : Ray} (hS : S.Of r R)

include hS in
theorem sdf_row {z : FVec Ideal (P2 B n) .f32} {f : ℕ → ℝ} (hz : Row r z f) : Row r (sdfS S z) fun j => R.sdf (f j) := by
  have h3 : Row3 r (mulf (softS (addf (overMid n S.a) (mulf (overLast 256 z) (overMid n S.e)))) (overAll B n S.w)) _ :=
    fun k hk j hj => mul_val (soft_val (add_val (overMid_row hS.a k hk j hj) (mul_val (overLast_row hz k hk j hj) (overMid_row hS.e k hk j hj))))
      (overAll_row hS.w k hk j hj)
  refine Row.congr (fun j hj => add_val (lastSum_row h3 j hj) (bc_val hS.b)) fun j _ => ?_
  unfold Ray.sdf
  congr 1
  refine sum_congr rfl fun k _ => ?_
  congr 2
  rw [mul_sum, add_right_comm, ← sum_add_distrib]
  congr 1
  exact sum_congr rfl fun i _ => by ring

include hS in
theorem rad_row {z : FVec Ideal (P2 B n) .f32} {f : ℕ → ℝ} (hz : Row r z f) : Row r (radS S z) fun j => R.rad2 (f j) := by
  refine Row.congr (fun j hj => add_val (add_val (overCols_row hS.oo j hj) (mul_val (mul_val (bc_val wd_2) (hz j hj)) (overCols_row hS.od j hj)))
    (mul_val (mul_val (hz j hj) (hz j hj)) (overCols_row hS.dd j hj))) fun j _ => ?_
  unfold Ray.rad2
  rw [mul_sum, mul_sum, ← sum_add_distrib, ← sum_add_distrib]
  exact sum_congr rfl fun i _ => by ring

include hS in
theorem inside_row (h : 1 + m = n) {z : FVec Ideal (P2 B n) .f32} {f : ℕ → ℝ} (hz : Row r z f) : Row r (insideS h S z) (R.inside f) :=
  fun j hj => bit_val _ (or_val (olt_val (cutL_row (rad_row hS hz) m (by omega) j hj) (bc_val wd_1))
    (olt_val (cutR_row (rad_row hS hz) m (by omega) j hj) (bc_val wd_1))) _

theorem step_row (h : 1 + m = n) {x : FVec Ideal (P2 B n) .f32} {f : ℕ → ℝ} (hx : Row r x f) : Row r (stepS h x) fun j => f (j + 1) - f j :=
  fun j hj => sub_val (cutR_row hx m (by omega) j hj) (cutL_row hx m (by omega) j hj)

theorem cos_row (h : 1 + m = n) {z s : FVec Ideal (P2 B n) .f32} {f g : ℕ → ℝ} (hz : Row r z f) (hs : Row r s g)
    (hm : ∀ j, j < m → f j ≤ f (j + 1)) : Row r (cosS h z s) (cosr f g) :=
  fun j hj => div_val (step_row h hs j hj) (add_val (step_row h hz j hj) (bc_val wd_eps))
    (by have := hm j hj; have := eps_pos; linarith)

include hS in
theorem slope_row (h : 1 + m = n) (k : 1 + l = m) {z s : FVec Ideal (P2 B n) .f32} {f g : ℕ → ℝ} (hz : Row r z f) (hs : Row r s g)
    (hm : ∀ j, j < m → f j ≤ f (j + 1)) : Row r (slopeS h k S z s) (R.slope f g) :=
  fun j hj => mul_val (min_val (bc_val wd_0) (max_val (bc_val wd_m1000)
    (min_val (push_row k wd_0 (cos_row h hz hs hm) j hj) (cos_row h hz hs hm j hj)))) (inside_row hS h hz j hj)

include hS in
theorem rise_row (h : 1 + m = n) (k : 1 + l = m) {z s : FVec Ideal (P2 B n) .f32} {f g : ℕ → ℝ} (hz : Row r z f) (hs : Row r s g)
    (hm : ∀ j, j < m → f j ≤ f (j + 1)) : Row r (riseS h k S z s) fun j => R.slope f g j * (f (j + 1) - f j) * (1 / 2) :=
  fun j hj => mul_val (mul_val (slope_row hS h k hz hs hm j hj) (step_row h hz j hj)) (bc_val wd_half)

theorem mid_row (h : 1 + m = n) {s : FVec Ideal (P2 B n) .f32} {g : ℕ → ℝ} (hs : Row r s g) :
    Row r (midS h s) fun j => (g j + g (j + 1)) * (1 / 2) :=
  fun j hj => mul_val (add_val (cutL_row hs m (by omega) j hj) (cutR_row hs m (by omega) j hj)) (bc_val wd_half)

include hS in
theorem expo_row {v : Ideal .f32} {c : ℝ} (hv : v = (c : EReal)) {x : FVec Ideal (P2 B m) .f32} {f : ℕ → ℝ} (hx : Row r x f) :
    Row r (expoS S v x) fun j => Real.exp ((0 - f j) * c) :=
  fun j hj => exp_val (min_top_val hS.hi (max_bot_val hS.lo (mul_val (sub_val (bc_val wd_0) (hx j hj)) (bc_val hv))))

theorem mix_row {x y : FVec Ideal (P2 B m) .f32} {f g : ℕ → ℝ} (hx : Row r x fun j => Real.exp (f j)) (hy : Row r y fun j => Real.exp (g j)) :
    Row r (mixS x y) fun j => ((Real.exp (g j) - Real.exp (f j)) + eps * (1 + Real.exp (f j)) * (1 + Real.exp (g j)))
      / ((1 + Real.exp (g j)) * (1 + eps * (1 + Real.exp (f j)))) :=
  fun j hj =>
    have hX := add_val (bc_val (s := P2 B m) (i := ix2 r ⟨j, hj⟩) wd_1) (hx j hj)
    have hY := add_val (bc_val (s := P2 B m) (i := ix2 r ⟨j, hj⟩) wd_1) (hy j hj)
    div_val (add_val (sub_val (hy j hj) (hx j hj)) (mul_val (mul_val (bc_val wd_eps) hX) hY))
      (mul_val hY (add_val (bc_val wd_1) (mul_val (bc_val wd_eps) hX)))
      (by have := eps_pos; positivity)

include hS in
theorem alpha_row (h : 1 + m = n) (k : 1 + l = m) {v : Ideal .f32} {c : ℝ} (hv : v = (c : EReal)) {z s : FVec Ideal (P2 B n) .f32} {f : ℕ → ℝ}
    (hz : Row r z f) (hs : Row r s fun j => R.sdf (f j)) (hm : ∀ j, j < m → f j ≤ f (j + 1)) :
    Row r (alphaS h k S v z s) (R.alpha c f) :=
  (mix_row (expo_row hS hv (fun j hj => sub_val (mid_row h hs j hj) (rise_row hS h k hz hs hm j hj)))
    (expo_row hS hv (fun j hj => add_val (mid_row h hs j hj) (rise_row hS h k hz hs hm j hj)))).congr fun j _ => alphaK_eq _ _ _

theorem dbl_row (w : ℕ) (h : w ≤ m) {x : FVec Ideal (P2 B m) .f32} {f : ℕ → ℝ} (hx : Row r x (win w f)) : Row r (dbl w h x) (win (2 * w) f) :=
  Row.congr (fun j hj => mul_val (hx j hj) (push_row (Nat.add_sub_of_le h) wd_1 hx j hj)) fun j _ => win_double w f j

theorem scan_row {x : FVec Ideal (P2 B m) .f32} {f : ℕ → ℝ} (hx : Row r x f) :
    (t : ℕ) → (h : ∀ i, i < t → 2 ^ i ≤ m) → Row r (scan t h x) (win (2 ^ t) f)
  | 0, _ => by rw [pow_zero, win_one]; exact hx
  | t + 1, h => by
    have := dbl_row (2 ^ t) (h t (Nat.lt_succ_self t)) (scan_row hx t fun i hi => h i (Nat.lt_succ_of_lt hi))
    rw [show 2 ^ (t + 1) = 2 * 2 ^ t by ring]
    exact this

theorem weigh_row (k : 1 + l = m) (t : ℕ) (ht : ∀ i, i < t → 2 ^ i ≤ m) (hm : m ≤ 2 ^ t) {a : FVec Ideal (P2 B m) .f32} {f : ℕ → ℝ} (ha : Row r a f) :
    Row r (weighS k t ht a) fun j => f j * trans f j + eps := by
  refine Row.congr (fun j hj => add_val (mul_val (ha j hj) (scan_row (push_row k wd_1
    (fun j hj => add_val (sub_val (bc_val wd_1) (ha j hj)) (bc_val wd_del))) t ht j hj)) (bc_val wd_eps)) fun j hj => ?_
  rw [win_all _ (lt_of_lt_of_le hj hm), prod_shl]
  rfl

theorem cdf_row (h : 1 + m = n) (hn : n < 2 ^ 31) {w : FVec Ideal (P2 B m) .f32} {f : ℕ → ℝ} (hw : Row r w f) (hp : ∀ j, j < m → 0 < f j) (hm : 0 < m) :
    Row r (cdfS h w) (cdf m f) := by
  have ht := total_pos hp hm
  refine Row.congr (beside_row h (bc_row wd_0) (runSum_row (by omega) (fun j hj => mul_val (hw j hj)
    (overCols_row (f := fun _ => 1 / ∑ i ∈ range m, f i) (fun j hj => div_val (bc_val wd_1) (rowSum_row hw j hj) ht.ne') j hj)))) fun j hj => ?_
  unfold cat cdf
  split
  · next h0 => rw [show j = 0 by omega, range_zero, sum_empty]
  · next h0 =>
    have e : ∀ i ∈ range m, f i * (1 / ∑ i ∈ range m, f i) * ind ((i : ℝ) ≤ ((j - 1 : ℕ) : ℝ)) = if i < j then f i / ∑ i ∈ range m, f i else 0 := by
      intro i _
      unfold ind
      rw [Nat.cast_le]
      by_cases hij : i < j
      · rw [if_pos (by omega), if_pos hij]; ring
      · rw [if_neg (by omega), if_neg hij]; ring
    refine (sum_congr rfl e).trans ?_
    rw [← sum_filter]
    refine sum_congr ?_ fun _ _ => rfl
    ext i
    simp only [mem_filter, mem_range]
    omega

theorem den_row (h : 1 + m = n) {c : FVec Ideal (P2 B n) .f32} {f : ℕ → ℝ} (hc : Row r c (cdf m f)) : Row r (denS h c) (den m f) :=
  fun j hj => select_val (olt_val (step_row h hc j hj) (bc_val wd_eps)) (bc_val wd_1) (step_row h hc j hj)

theorem bb_row (h : 1 + m = n) {c z : FVec Ideal (P2 B n) .f32} {f g : ℕ → ℝ} (hc : Row r c (cdf m f)) (hz : Row r z g) :
    Row r (bbS h c z) (bb m f g) :=
  fun j hj => div_val (step_row h hz j hj) (den_row h hc j hj) (den_pos m f j).ne'

theorem aa_row (h : 1 + m = n) {c z : FVec Ideal (P2 B n) .f32} {f g : ℕ → ℝ} (hc : Row r c (cdf m f)) (hz : Row r z g) :
    Row r (aaS h c z) (aa m f g) :=
  fun j hj => sub_val (cutL_row hz m (by omega) j hj) (mul_val (cutL_row hc m (by omega) j hj) (bb_row h hc hz j hj))

theorem dif_row (k : 1 + l = m) {x : FVec Ideal (P2 B m) .f32} {f : ℕ → ℝ} (hx : Row r x f) : Row r (difS k x) fun j => f j - shl 0 1 f j :=
  fun j hj => sub_val (hx j hj) (push_row k wd_0 hx j hj)

theorem below_row (h : 1 + m = n) {c : FVec Ideal (P2 B n) .f32} {f : ℕ → ℝ} (hc : Row r c f) :
    Row3 r (belowS h c) fun k j => ind (f j ≤ lev k) := by
  intro k hk j hj
  refine bit_val _ (ole_val (overMid_row (cutL_row hc m (by omega)) k hk j hj) ?_) _
  rw [broadcastTo_apply _ _ _ (ix3 (0 : Fin 1) ⟨k, hk⟩ (0 : Fin 1)) (fun a => by fin_cases a <;> rfl)]
  exact add_val (bc_val wd_32nd) (mul_val (bc_val wd_16th) (iota_val _ _ k rfl (by omega)))

theorem invert_row (h : 1 + m = n) (k : 1 + l = m) {c z : FVec Ideal (P2 B n) .f32} {f g : ℕ → ℝ} (hc : Row r c (cdf m f)) (hz : Row r z g) :
    Row r (invertS h k c z) (newK m f g) := by
  intro i hi
  refine add_val (lastSum_row (f := fun i j => ind (cdf m f j ≤ lev i) * (aa m f g j - shl 0 1 (aa m f g) j)) (fun i hi j hj => mul_val (below_row h hc i hi j hj) (overMid_row (dif_row k (aa_row h hc hz)) i hi j hj)) i hi)
    (mul_val (lastSum_row (f := fun i j => ind (cdf m f j ≤ lev i) * (bb m f g j - shl 0 1 (bb m f g) j)) (fun i hi j hj => mul_val (below_row h hc i hi j hj) (overMid_row (dif_row k (bb_row h hc hz)) i hi j hj)) i hi)
      (overRows_row (f := lev) (fun j hj => add_val (bc_val wd_32nd) (mul_val (bc_val wd_16th) (places_row (by norm_num) j hj))) i hi))

include hS in
theorem fresh_row (h : 1 + m = n) (k : 1 + l = m) (t : ℕ) (ht : ∀ i, i < t → 2 ^ i ≤ m) (hmt : m ≤ 2 ^ t) (hn : n < 2 ^ 31) {v : Ideal .f32} {c : ℝ}
    (hv : v = (c : EReal)) (hc : 0 ≤ c) {z s : FVec Ideal (P2 B n) .f32} {f : ℕ → ℝ}
    (hz : Row r z f) (hs : Row r s fun j => R.sdf (f j)) (hm : ∀ j, j < m → f j ≤ f (j + 1)) :
    Row r (freshS h k t ht S v z s) (R.fresh m c f) :=
  (invert_row h k (cdf_row h hn (weigh_row k t ht hmt (alpha_row hS h k hv hz hs hm)) (R.wt_pos hc hm) (by omega)) hz).congr
    fun j _ => newK_eq (R.wt_pos hc hm) (by omega) f j

theorem mask_row (hN : N < 2 ^ 31) {z : FVec Ideal (P2 B n) .f32} {v : FVec Ideal (P2 B 16) .f32} {f g : ℕ → ℝ} (hz : Row r z f) (hv : Row r v g) :
    Row3 r (maskS N z v) fun k p => ind (rnkR n f g k = (p : ℝ)) := by
  have hr : Row r (addf (lastSum (bits (cmpf .ole (overMid 16 z) (overLast n v)))) (overRows B (places 1 16))) (rnkR n f g) :=
    fun k hk => add_val (lastSum_row (f := fun k j => ind (f j ≤ g k)) (fun k hk j hj =>
      bit_val _ (ole_val (overMid_row hz k hk j hj) (overLast_row hv k hk j hj)) _) k hk) (overRows_row (places_row (by norm_num)) k hk)
  exact fun k hk p hp => bit_val (rnkR n f g k = (p : ℝ)) (oeq_val (overLast_row hr k hk p hp) (overAll_row (places_row hN) k hk p hp)) _

theorem move_row {c x : FVec Ideal (P2 B N) .f32} {f g : ℕ → ℝ} (hc : Row r c f) (hx : Row r x g) :
    (t : ℕ) → (h : t ≤ N) → t < 17 → Row r (moveS c x t h) fun p => ∑ s ∈ range (t + 1), ind (f p = (s : ℝ)) * shl 0 s g p
  | 0, _, _ => Row.congr (fun p hp => add_val (bc_val wd_0) (mul_val (bit_val _ (oeq_val (hc p hp) (bc_val (wd_small (by norm_num)))) _) (hx p hp)))
      fun p _ => by rw [zero_add, zero_add, sum_range_one]; rfl
  | t + 1, h, ht => Row.congr (fun p hp => add_val (move_row hc hx t (by omega) (by omega) p hp) (mul_val (bit_val _ (oeq_val (hc p hp) (bc_val (wd_small ht))) _)
      (push_row (Nat.add_sub_of_le h) wd_0 hx p hp))) fun p _ => by rw [sum_range_succ _ (t + 1)]

theorem place_row (h : n + 16 = N) (hN : N < 2 ^ 31) {M : FVec Ideal (P3 B 16 N) .f32} {G : FVec Ideal (P2 B n) .f32} {H : FVec Ideal (P2 B 16) .f32} {f g a b : ℕ → ℝ}
    (hM : Row3 r M fun k p => ind (rnkR n f g k = (p : ℝ))) (hG : Row r G a) (hH : Row r H b) :
    Row r (placeS h M G H) (mergeK n f g a b) := by
  subst h
  exact fun p hp => add_val (midSum_row (f := fun k p => ind (rnkR n f g k = (p : ℝ)) * b k) (fun k hk p hp => mul_val (hM k hk p hp) (overLast_row hH k hk p hp)) p hp)
    (mul_val (sub_val (bc_val wd_1) (midSum_row hM p hp)) (move_row (runSum_row hN (midSum_row hM)) (beside_row rfl hG (bc_row wd_0)) 16 (by omega) (by norm_num) p hp))

end Rows

end Cert.Proof

end
-- ==== Proof.Block.lean ====
/- The body's words as the stages of four rounds. -/
module

public import proofs.«01_k».proof.Proof.Stages
public import proofs.«01_k».proof.Proof.Gen.KernelIdeal.Frame
public import Idealize.ShloMosaic.Lib.Pipeline.ValueKit

@[expose] public section

noncomputable section

namespace Cert.Proof

open Idealize.ShloMosaic hiding ix2 ix3 ix1
open Idealize.ShloMosaic.ValueIdx
open Cert.KernelIdeal Cert.KernelIdeal.Gen
open Finset
open scoped BigOperators Classical

section

variable {F : FTy → Type} [FloatOps F] [Named F]

/-- The evenly spread samples between two columns. -/
def startS {B : ℕ} (near far : FVec F (P2 B 1) .f32) (step : F .f32) : FVec F (P2 B 64) .f32 :=
  addf (mulf (overCols 64 near) (overRows B (subf (broadcast (P2 1 64) (kw 0x3F800000#32)) (mulf (places 1 64) (broadcast (P2 1 64) step)))))
    (mulf (overCols 64 far) (overRows B (mulf (places 1 64) (broadcast (P2 1 64) step))))

theorem casts_self (s : Shape) : s.ShapeCasts s := rfl

/-- What a block of rays holds fixed, from its seven inputs. -/
def sceneS (o d : FVec F (P2 128 8) .f32) (W : FVec F (P2 8 256) .f32) (b1 w2 : FVec F (P2 1 256) .f32) (b2 : F .f32) : Scene F 128 where
  a := addf (matmul (DotDims.plain 128 8 256) (some .fp32) o W (constant (P2 128 256) .f32 0x00000000#32)) (overRows 128 b1)
  e := matmul (DotDims.plain 128 8 256) (some .fp32) d W (constant (P2 128 256) .f32 0x00000000#32)
  w := w2
  b := b2
  oo := rowSum (mulf o o)
  od := rowSum (mulf o d)
  dd := rowSum (mulf d d)
  lo := Named.named κ "exp_lo" 0xC2200000#32
  hi := Named.named κ "exp_hi" 0x42200000#32

end

section Rounds

variable {F : FTy → Type} [FloatOps F]

variable {B n m l N : ℕ}

/-- The samples after a round. -/
def roundZ (h : 1 + m = n) (k : 1 + l = m) (hN : n + 16 = N) (t : ℕ) (ht : ∀ i, i < t → 2 ^ i ≤ m) (S : Scene F B) (v : F .f32)
    (z s : FVec F (P2 B n) .f32) : FVec F (P2 B N) .f32 :=
  placeS hN (maskS N z (freshS h k t ht S v z s)) z (freshS h k t ht S v z s)

/-- The network at the samples after a round. -/
def roundG (h : 1 + m = n) (k : 1 + l = m) (hN : n + 16 = N) (t : ℕ) (ht : ∀ i, i < t → 2 ^ i ≤ m) (S : Scene F B) (v : F .f32)
    (z s : FVec F (P2 B n) .f32) : FVec F (P2 B N) .f32 :=
  placeS hN (maskS N z (freshS h k t ht S v z s)) s (sdfS S (freshS h k t ht S v z s))

section

variable {r : Fin B} {S : Scene Ideal B} {R : Ray} (hS : S.Of r R) (h : 1 + m = n) (k : 1 + l = m) (hN : n + 16 = N) (t : ℕ) (ht : ∀ i, i < t → 2 ^ i ≤ m)
  (hmt : m ≤ 2 ^ t) (hb : N < 2 ^ 31) {v : Ideal .f32} {c : ℝ} (hv : v = (c : EReal)) (hc : 0 ≤ c) {z s : FVec Ideal (P2 B n) .f32} {f : ℕ → ℝ}
  (hz : Row r z f) (hs : Row r s fun j => R.sdf (f j)) (hm : ∀ j, j < m → f j ≤ f (j + 1))

include hS hmt hb hv hc hz hs hm in
theorem roundZ_row : Row r (roundZ h k hN t ht S v z s) (R.round m c f) := by
  have hf := fresh_row hS h k t ht hmt (by omega) hv hc hz hs hm
  refine (place_row hN hb (mask_row hb hz hf) hz hf).congr fun p hp => ?_
  have e : n = m + 1 := by omega
  subst e
  exact Ray.mergeK_round R (by omega) hc hm (by omega)

include hS hmt hb hv hc hz hs hm in
theorem roundG_row : Row r (roundG h k hN t ht S v z s) fun p => R.sdf (R.round m c f p) := by
  have hf := fresh_row hS h k t ht hmt (by omega) hv hc hz hs hm
  refine (place_row hN hb (mask_row hb hz hf) hs (sdf_row hS hf)).congr fun p hp => ?_
  have e : n = m + 1 := by omega
  subst e
  exact Ray.mergeK_sdf R (by omega) hc hm (by omega)

end

end Rounds

section Words

variable {F : FTy → Type} [FloatOps F] [Named F]

/-- The buffers one run of the body reads, and what they hold. -/
structure Mems (F : FTy → Type) where
  c : Dev nD
  arg1 : Memref sig .tc .vmem S128x8 .f32
  harg1 : arg1.IsWhole
  arg2 : Memref sig .tc .vmem S128x8 .f32
  harg2 : arg2.IsWhole
  arg3 : Memref sig .tc .vmem S128x8 .f32
  harg3 : arg3.IsWhole
  arg4 : Memref sig .tc .vmem S8x256 .f32
  harg4 : arg4.IsWhole
  arg5 : Memref sig .tc .vmem S1x256 .f32
  harg5 : arg5.IsWhole
  arg6 : Memref sig .tc .vmem S1x256 .f32
  harg6 : arg6.IsWhole
  arg7 : Memref sig .tc .smem S1x1 .f32
  harg7 : arg7.IsWhole
  x0 : Vec F S128x8 .f32
  x1 : Vec F S128x8 .f32
  x2 : Vec F S128x8 .f32
  x3 : Vec F S8x256 .f32
  x4 : Vec F S1x256 .f32
  x5 : Vec F S1x256 .f32
  x6 : Vec F S1x1 .f32

/-- The block's scene as the body loads it. -/
def Mems.scene (A : Mems F) : Scene F 128 :=
  sceneS
    (shapeCast S128x8 (View.readAt (Elt F) A.arg1.view (Rect.unit (s := S128x8) ![0, 0] S128x8.size inb_S128x8_S128x8_0_0).toLoadRect (A.harg1.unread A.x0)) (casts_self _))
    (shapeCast S128x8 (View.readAt (Elt F) A.arg2.view (Rect.unit (s := S128x8) ![0, 0] S128x8.size inb_S128x8_S128x8_0_0).toLoadRect (A.harg2.unread A.x1)) (casts_self _))
    (shapeCast S8x256 (View.readAt (Elt F) A.arg4.view (Rect.unit (s := S8x256) ![0, 0] S8x256.size inb_S8x256_S8x256_0_0).toLoadRect (A.harg4.unread A.x3)) (casts_self _))
    (shapeCast S1x256 (View.readAt (Elt F) A.arg5.view (Rect.unit (s := S1x256) ![0, 0] S1x256.size inb_S1x256_S1x256_0_0).toLoadRect (A.harg5.unread A.x4)) (casts_self _))
    (shapeCast S1x256 (View.readAt (Elt F) A.arg6.view (Rect.unit (s := S1x256) ![0, 0] S1x256.size inb_S1x256_S1x256_0_0).toLoadRect (A.harg6.unread A.x5)) (casts_self _))
    (View.readAt (Elt F) A.arg7.view (Rect.unit (s := S1x1) ![0, 0] S1x1.size inb_S1x1_S1x1_0_0).toLoadRect (A.harg7.unread A.x6) (Shape.Idx.first (by decide)))

/-- The near ends of the rays as the body loads them. -/
def Mems.near (A : Mems F) : FVec F S128x1 .f32 :=
  shapeCast S128x1 (View.readAt (Elt F) A.arg3.view (Rect.unit (s := S128x8) ![0, 0] S128x1.size inb_S128x8_S128x1_0_0).toLoadRect (A.harg3.unread A.x2)) (casts_self _)

/-- The far ends of the rays as the body loads them. -/
def Mems.far (A : Mems F) : FVec F S128x1 .f32 :=
  shapeCast S128x1 (View.readAt (Elt F) A.arg3.view (Rect.unit (s := S128x8) ![0, 1] S128x1.size inb_S128x8_S128x1_0_1).toLoadRect (A.harg3.unread A.x2)) (casts_self _)

/-- The first samples. -/
abbrev Mems.z0 (A : Mems F) := kernelRun0_A.sl.v43 A.c A.arg3 A.harg3 A.x2
/-- The network at the first samples. -/
abbrev Mems.s0 (A : Mems F) := kernelRun0_A.sl.v64 A.c A.arg1 A.harg1 A.arg2 A.harg2 A.arg3 A.harg3 A.arg4 A.harg4 A.arg5 A.harg5 A.arg6 A.harg6 A.arg7 A.harg7 A.x0 A.x1 A.x2 A.x3 A.x4 A.x5 A.x6
/-- The samples after one round. -/
abbrev Mems.z1 (A : Mems F) := kernelRun0_A.sl.v529 A.c A.arg1 A.harg1 A.arg2 A.harg2 A.arg3 A.harg3 A.arg4 A.harg4 A.arg5 A.harg5 A.arg6 A.harg6 A.arg7 A.harg7 A.x0 A.x1 A.x2 A.x3 A.x4 A.x5 A.x6
/-- The network at them. -/
abbrev Mems.s1 (A : Mems F) := kernelRun0_A.sl.v531 A.c A.arg1 A.harg1 A.arg2 A.harg2 A.arg3 A.harg3 A.arg4 A.harg4 A.arg5 A.harg5 A.arg6 A.harg6 A.arg7 A.harg7 A.x0 A.x1 A.x2 A.x3 A.x4 A.x5 A.x6
/-- The samples after two rounds. -/
abbrev Mems.z2 (A : Mems F) := kernelRun0_A.sl.v1000 A.c A.arg1 A.harg1 A.arg2 A.harg2 A.arg3 A.harg3 A.arg4 A.harg4 A.arg5 A.harg5 A.arg6 A.harg6 A.arg7 A.harg7 A.x0 A.x1 A.x2 A.x3 A.x4 A.x5 A.x6
/-- The network at them. -/
abbrev Mems.s2 (A : Mems F) := kernelRun0_A.sl.v1002 A.c A.arg1 A.harg1 A.arg2 A.harg2 A.arg3 A.harg3 A.arg4 A.harg4 A.arg5 A.harg5 A.arg6 A.harg6 A.arg7 A.harg7 A.x0 A.x1 A.x2 A.x3 A.x4 A.x5 A.x6
/-- The samples after three rounds. -/
abbrev Mems.z3 (A : Mems F) := kernelRun0_A.sl.v1471 A.c A.arg1 A.harg1 A.arg2 A.harg2 A.arg3 A.harg3 A.arg4 A.harg4 A.arg5 A.harg5 A.arg6 A.harg6 A.arg7 A.harg7 A.x0 A.x1 A.x2 A.x3 A.x4 A.x5 A.x6
/-- The network at them. -/
abbrev Mems.s3 (A : Mems F) := kernelRun0_A.sl.v1473 A.c A.arg1 A.harg1 A.arg2 A.harg2 A.arg3 A.harg3 A.arg4 A.harg4 A.arg5 A.harg5 A.arg6 A.harg6 A.arg7 A.harg7 A.x0 A.x1 A.x2 A.x3 A.x4 A.x5 A.x6

theorem word_z0 (A : Mems F) : A.z0 = startS A.near A.far (Named.named κ "step" 0x3C820821#32) := rfl
theorem word_s0 (A : Mems F) : A.s0 = sdfS A.scene A.z0 := rfl
theorem word_z1 (A : Mems F) : A.z1 = roundZ (n := 64) (m := 63) (l := 62) (N := 80) rfl rfl rfl 6 (by decide) A.scene (kw 0x42800000#32) A.z0 A.s0 := rfl
theorem word_s1 (A : Mems F) : A.s1 = roundG (n := 64) (m := 63) (l := 62) (N := 80) rfl rfl rfl 6 (by decide) A.scene (kw 0x42800000#32) A.z0 A.s0 := rfl
theorem word_z2 (A : Mems F) : A.z2 = roundZ (n := 80) (m := 79) (l := 78) (N := 96) rfl rfl rfl 7 (by decide) A.scene (kw 0x43000000#32) A.z1 A.s1 := rfl
theorem word_s2 (A : Mems F) : A.s2 = roundG (n := 80) (m := 79) (l := 78) (N := 96) rfl rfl rfl 7 (by decide) A.scene (kw 0x43000000#32) A.z1 A.s1 := rfl
theorem word_z3 (A : Mems F) : A.z3 = roundZ (n := 96) (m := 95) (l := 94) (N := 112) rfl rfl rfl 7 (by decide) A.scene (kw 0x43800000#32) A.z2 A.s2 := rfl
theorem word_s3 (A : Mems F) : A.s3 = roundG (n := 96) (m := 95) (l := 94) (N := 112) rfl rfl rfl 7 (by decide) A.scene (kw 0x43800000#32) A.z2 A.s2 := rfl

/-- What the body leaves in its output block. -/
theorem word_out (A : Mems F) (i : grid0.Coords) (arg8 : Memref sig .tc .vmem S128x128 .f32) (harg8 : arg8.IsWhole) :
    out0_A_7 A.c i A.arg1 A.harg1 A.arg2 A.harg2 A.arg3 A.harg3 A.arg4 A.harg4 A.arg5 A.harg5 A.arg6 A.harg6 A.arg7 A.harg7 arg8 harg8 A.x0 A.x1 A.x2 A.x3 A.x4 A.x5 A.x6
      = roundZ (n := 112) (m := 111) (l := 110) (N := 128) rfl rfl rfl 7 (by decide) A.scene (kw 0x44000000#32) A.z3 A.s3 := by
  unfold out0_A_7
  rw [View.read_writes_junk_eq_canon]
  unfold kernelRun0_A
  dsimp only
  refine (View.canon_unit_zero (by funext a; fin_cases a <;> rfl) _ _).trans ?_
  rfl

end Words

/-! ## A ray's row of the block -/

section RayRow

theorem matmul_row {B n m : ℕ} {r : Fin B} {x : FVec Ideal (P2 B n) .f32} {W : FVec Ideal (P2 n m) .f32} {f : ℕ → ℝ} {g : ℕ → ℕ → ℝ}
    (hx : Row r x f) (hW : ∀ i (h : i < n), Row ⟨i, h⟩ W (g i)) :
    Row r (matmul (DotDims.plain B n m) (some .fp32) x W (constant (P2 B m) .f32 0x00000000#32)) fun j => ∑ i ∈ range n, f i * g i j := by
  intro j hj
  refine (Ideal.matmul_plain_apply (some .fp32) x W (constant (P2 B m) .f32 0x00000000#32) r ⟨j, hj⟩).trans ?_
  rw [constant_apply, Ideal.ofBits_zero_f32, zero_add]
  refine sum_coe fun k => ?_
  rw [hx k.val k.isLt, hW k.val k.isLt j hj, EReal.coe_mul]

theorem sum8 (f g : ℕ → ℝ) : ∑ i ∈ range 8, (if i < 3 then f i else 0) * (if i < 3 then g i else 0) = ∑ i ∈ range 3, f i * g i := by
  simp only [sum_range_succ, range_zero, sum_empty]
  norm_num

/-- Row `r` of the block's inputs holds the ray `R` and its network. -/
structure Holds (x0 x1 x2 : FVec Ideal (P2 128 8) .f32) (x3 : FVec Ideal (P2 8 256) .f32) (x4 x5 : FVec Ideal (P2 1 256) .f32)
    (x6 : FVec Ideal (P2 1 1) .f32) (r : Fin 128) (R : Ray) : Prop where
  o : Row r x0 fun i => if i < 3 then R.o i else 0
  d : Row r x1 fun i => if i < 3 then R.d i else 0
  near : x2 (ix2 r (0 : Fin 8)) = ((R.near : ℝ) : EReal)
  far : x2 (ix2 r (1 : Fin 8)) = ((R.far : ℝ) : EReal)
  W : ∀ i (h : i < 8), Row ⟨i, h⟩ x3 fun k => if i < 3 then R.W i k else 0
  b1 : Row 0 x4 R.b1
  w2 : Row 0 x5 R.w2
  b2 : x6 (ix2 (0 : Fin 1) (0 : Fin 1)) = ((R.b2 : ℝ) : EReal)

/-- The ray's samples at the end. -/
def Ray.final (R : Ray) : ℕ → ℝ := R.round 111 512 (R.round 95 256 (R.round 79 128 (R.round 63 64 R.start)))

variable {A : Mems Ideal} {r : Fin 128} {R : Ray} (hA : Holds A.x0 A.x1 A.x2 A.x3 A.x4 A.x5 A.x6 r R)

theorem zero2 : (![0, 0] : Fin 2 → ℕ) = fun _ => 0 := by funext a; fin_cases a <;> rfl

theorem load_whole {sp : Space} {s : Shape} (a : Memref sig .tc sp s .f32) (ha : a.IsWhole) (x : Vec Ideal s .f32) {off : Fin s.rank → ℕ}
    (h : off = fun _ => 0) (inb : ∀ a, off a + s.size a ≤ s.size a) :
    View.readAt (Elt Ideal) a.view (Rect.unit (s := s) off s.size inb).toLoadRect (ha.unread x) = x := by
  rw [View.readAt_eq_ld, Memref.IsWhole.read_unread]
  exact View.ld_unit_zero h inb x

include hA in
theorem scene_of : A.scene.Of r R := by
  have e0 : shapeCast S128x8 (View.readAt (Elt Ideal) A.arg1.view (Rect.unit (s := S128x8) ![0, 0] S128x8.size inb_S128x8_S128x8_0_0).toLoadRect (A.harg1.unread A.x0)) (casts_self _) = A.x0 := by
    exact (shapeCast_self _ _).trans (load_whole A.arg1 A.harg1 A.x0 zero2 _)
  have e1 : shapeCast S128x8 (View.readAt (Elt Ideal) A.arg2.view (Rect.unit (s := S128x8) ![0, 0] S128x8.size inb_S128x8_S128x8_0_0).toLoadRect (A.harg2.unread A.x1)) (casts_self _) = A.x1 := by
    exact (shapeCast_self _ _).trans (load_whole A.arg2 A.harg2 A.x1 zero2 _)
  have e3 : shapeCast S8x256 (View.readAt (Elt Ideal) A.arg4.view (Rect.unit (s := S8x256) ![0, 0] S8x256.size inb_S8x256_S8x256_0_0).toLoadRect (A.harg4.unread A.x3)) (casts_self _) = A.x3 := by
    exact (shapeCast_self _ _).trans (load_whole A.arg4 A.harg4 A.x3 zero2 _)
  have e4 : shapeCast S1x256 (View.readAt (Elt Ideal) A.arg5.view (Rect.unit (s := S1x256) ![0, 0] S1x256.size inb_S1x256_S1x256_0_0).toLoadRect (A.harg5.unread A.x4)) (casts_self _) = A.x4 := by
    exact (shapeCast_self _ _).trans (load_whole A.arg5 A.harg5 A.x4 zero2 _)
  have e5 : shapeCast S1x256 (View.readAt (Elt Ideal) A.arg6.view (Rect.unit (s := S1x256) ![0, 0] S1x256.size inb_S1x256_S1x256_0_0).toLoadRect (A.harg6.unread A.x5)) (casts_self _) = A.x5 := by
    exact (shapeCast_self _ _).trans (load_whole A.arg6 A.harg6 A.x5 zero2 _)
  have e6 : View.readAt (Elt Ideal) A.arg7.view (Rect.unit (s := S1x1) ![0, 0] S1x1.size inb_S1x1_S1x1_0_0).toLoadRect (A.harg7.unread A.x6) = A.x6 := by
    exact load_whole A.arg7 A.harg7 A.x6 zero2 _
  unfold Mems.scene
  rw [e0, e1, e3, e4, e5, e6]
  exact {
    a := Row.congr (fun k hk => add_val (matmul_row hA.o hA.W k hk) (overRows_row hA.b1 k hk)) fun k _ => by rw [sum8]
    e := (matmul_row hA.d hA.W).congr fun k _ => by rw [sum8]
    w := hA.w2
    b := by
      show A.x6 (Shape.Idx.first _) = _
      rw [← hA.b2]
      congr 1
      funext a
      fin_cases a <;> rfl
    oo := (rowSum_row fun j hj => mul_val (hA.o j hj) (hA.o j hj)).congr fun _ _ => sum8 _ _
    od := (rowSum_row fun j hj => mul_val (hA.o j hj) (hA.d j hj)).congr fun _ _ => sum8 _ _
    dd := (rowSum_row fun j hj => mul_val (hA.d j hj) (hA.d j hj)).congr fun _ _ => sum8 _ _
    lo := rfl
    hi := rfl }

include hA in
theorem z0_row : Row r A.z0 R.start := by
  have hn : Row r A.near fun _ => R.near := fun j hj => by
    unfold Mems.near
    refine (congrFun (shapeCast_self _ _) _).trans ?_
    rw [View.readAt_eq_ld, Memref.IsWhole.read_unread]
    exact (View.ld_unit_apply_of _ _ _ _ _ (ix2 r (0 : Fin 8)) (fun a => by fin_cases a <;> [exact (Nat.zero_add _).symm; (show 0 = 0 + j; omega)])).trans hA.near
  have hf : Row r A.far fun _ => R.far := fun j hj => by
    unfold Mems.far
    refine (congrFun (shapeCast_self _ _) _).trans ?_
    rw [View.readAt_eq_ld, Memref.IsWhole.read_unread]
    exact (View.ld_unit_apply_of _ _ _ _ _ (ix2 r (1 : Fin 8)) (fun a => by fin_cases a <;> [exact (Nat.zero_add _).symm; (show 1 = 1 + j; omega)])).trans hA.far
  have hs : Named.named (F := Ideal) (φ := .f32) κ "step" 0x3C820821#32 = ((1 / 63 : ℝ) : EReal) := rfl
  have ht : Row 0 (mulf (places 1 64) (broadcast (P2 1 64) (Named.named (F := Ideal) (φ := .f32) κ "step" 0x3C820821#32))) fun j => (j : ℝ) * (1 / 63) :=
    fun j hj => mul_val (places_row (by norm_num) j hj) (bc_val hs)
  rw [word_z0]
  exact fun j hj => add_val (mul_val (overCols_row hn j hj) (overRows_row (f := fun j => 1 - (j : ℝ) * (1 / 63)) (fun j hj => sub_val (bc_val wd_1) (ht j hj)) j hj))
    (mul_val (overCols_row hf j hj) (overRows_row ht j hj))

theorem wd_64 : wd 0x42800000#32 = ((64 : ℝ) : EReal) := by
  show Ideal.ofBits .f32 _ = _; simp [Ideal.ofBits, Ideal.ieee, -EReal.coe_mul]; norm_num
theorem wd_128 : wd 0x43000000#32 = ((128 : ℝ) : EReal) := by
  show Ideal.ofBits .f32 _ = _; simp [Ideal.ofBits, Ideal.ieee, -EReal.coe_mul]; norm_num
theorem wd_256 : wd 0x43800000#32 = ((256 : ℝ) : EReal) := by
  show Ideal.ofBits .f32 _ = _; simp [Ideal.ofBits, Ideal.ieee, -EReal.coe_mul]; norm_num
theorem wd_512 : wd 0x44000000#32 = ((512 : ℝ) : EReal) := by
  show Ideal.ofBits .f32 _ = _; simp [Ideal.ofBits, Ideal.ieee, -EReal.coe_mul]; norm_num

include hA in
/-- The body leaves the ray's final samples in the ray's row. -/
theorem out_row (hnf : R.near ≤ R.far) (i : grid0.Coords) (arg8 : Memref sig .tc .vmem S128x128 .f32) (harg8 : arg8.IsWhole) :
    Row r (out0_A_7 A.c i A.arg1 A.harg1 A.arg2 A.harg2 A.arg3 A.harg3 A.arg4 A.harg4 A.arg5 A.harg5 A.arg6 A.harg6 A.arg7 A.harg7 arg8 harg8
      A.x0 A.x1 A.x2 A.x3 A.x4 A.x5 A.x6) R.final := by
  rw [word_out]
  have hS := scene_of hA
  have hz0 := z0_row hA
  have hs0 : Row r A.s0 fun j => R.sdf (R.start j) := by rw [word_s0]; exact sdf_row hS hz0
  have m0 : ∀ j, j < 63 → R.start j ≤ R.start (j + 1) := fun j _ => R.start_step hnf j
  have hz1 : Row r A.z1 (R.round 63 64 R.start) := by
    rw [word_z1]; exact roundZ_row hS _ _ _ _ _ (by norm_num) (by norm_num) wd_64 (by norm_num) hz0 hs0 m0
  have hs1 : Row r A.s1 fun j => R.sdf (R.round 63 64 R.start j) := by
    rw [word_s1]; exact roundG_row hS _ _ _ _ _ (by norm_num) (by norm_num) wd_64 (by norm_num) hz0 hs0 m0
  have m1 : ∀ j, j < 79 → R.round 63 64 R.start j ≤ R.round 63 64 R.start (j + 1) :=
    fun j hj => R.round_step (by norm_num) (by norm_num) m0 (by omega)
  have hz2 : Row r A.z2 (R.round 79 128 (R.round 63 64 R.start)) := by
    rw [word_z2]; exact roundZ_row hS _ _ _ _ _ (by norm_num) (by norm_num) wd_128 (by norm_num) hz1 hs1 m1
  have hs2 : Row r A.s2 fun j => R.sdf (R.round 79 128 (R.round 63 64 R.start) j) := by
    rw [word_s2]; exact roundG_row hS _ _ _ _ _ (by norm_num) (by norm_num) wd_128 (by norm_num) hz1 hs1 m1
  have m2 : ∀ j, j < 95 → R.round 79 128 (R.round 63 64 R.start) j ≤ R.round 79 128 (R.round 63 64 R.start) (j + 1) :=
    fun j hj => R.round_step (by norm_num) (by norm_num) m1 (by omega)
  have hz3 : Row r A.z3 (R.round 95 256 (R.round 79 128 (R.round 63 64 R.start))) := by
    rw [word_z3]; exact roundZ_row hS _ _ _ _ _ (by norm_num) (by norm_num) wd_256 (by norm_num) hz2 hs2 m2
  have hs3 : Row r A.s3 fun j => R.sdf (R.round 95 256 (R.round 79 128 (R.round 63 64 R.start)) j) := by
    rw [word_s3]; exact roundG_row hS _ _ _ _ _ (by norm_num) (by norm_num) wd_256 (by norm_num) hz2 hs2 m2
  have m3 : ∀ j, j < 111 → R.round 95 256 (R.round 79 128 (R.round 63 64 R.start)) j ≤ R.round 95 256 (R.round 79 128 (R.round 63 64 R.start)) (j + 1) :=
    fun j hj => R.round_step (by norm_num) (by norm_num) m2 (by omega)
  exact roundZ_row hS _ _ _ _ _ (by norm_num) (by norm_num) wd_512 (by norm_num) hz3 hs3 m3

end RayRow

end Cert.Proof

end
-- ==== Proof.Tie.lean ====
/- The arrays the kernel is launched over, read at an index: each block of each window in terms of the program's arguments. -/
module

public import proofs.«01_k».proof.Proof.Block
public import proofs.«01_k».proof.Proof.Gen.KernelIdeal.Value
public import Idealize.ShloMosaic.Lib.Pipeline.ValueKit
public import Idealize.ShloMosaic.Lib.Claim

@[expose] public section

set_option maxRecDepth 16384

noncomputable section

namespace Cert.Proof

open Cert.KernelIdeal Cert.KernelIdeal.Gen
open Idealize.ShloMosaic hiding ix2 ix3 ix1
open Idealize.ShloMosaic.ValueIdx Idealize.ShloMosaic.TcCoe

variable (m : (ℓ : Loc nD τ sig) → Buf (Elt Ideal) ℓ) (c : Dev nD)

/-- The arguments of the program, as arrays. -/
abbrev arg0 : FVec Ideal (P2 16384 3) .f32 := m ((c.tc : Thread nD τ).loc main_arg0)
abbrev arg1 : FVec Ideal (P2 16384 3) .f32 := m ((c.tc : Thread nD τ).loc main_arg1)
abbrev arg2 : FVec Ideal (P2 16384 1) .f32 := m ((c.tc : Thread nD τ).loc main_arg2)
abbrev arg3 : FVec Ideal (P2 16384 1) .f32 := m ((c.tc : Thread nD τ).loc main_arg3)
abbrev arg4 : FVec Ideal (P2 3 256) .f32 := m ((c.tc : Thread nD τ).loc main_arg4)
abbrev arg5 : FVec Ideal (P1 256) .f32 := m ((c.tc : Thread nD τ).loc main_arg5)
abbrev arg6 : FVec Ideal (P2 256 1) .f32 := m ((c.tc : Thread nD τ).loc main_arg6)
abbrev arg7 : FVec Ideal (P1 1) .f32 := m ((c.tc : Thread nD τ).loc main_arg7)

theorem entry_v1 : V m c main_v1 = concatenate S16384x8 1 [⟨S16384x3, arg0 m c⟩, ⟨S16384x5, broadcastInDim S16384x5 ![] bcast_S_S16384x5 (constant S_ .f32 0x00000000#32)⟩]
    concatenates_S16384x3_S16384x5_S16384x8_d1 := by
  entry_read
  rfl

theorem entry_v3 : V m c main_v3 = concatenate S16384x8 1 [⟨S16384x3, arg1 m c⟩, ⟨S16384x5, broadcastInDim S16384x5 ![] bcast_S_S16384x5 (constant S_ .f32 0x00000000#32)⟩]
    concatenates_S16384x3_S16384x5_S16384x8_d1 := by
  entry_read
  rfl

open StableHlo in
/-- The fifth host array is read by hand: its operation takes three operands. -/
theorem entry_v5 : V m c main_v5 = concatenate S16384x8 1 [⟨S16384x1, arg2 m c⟩, ⟨S16384x1, arg3 m c⟩,
    ⟨S16384x6, broadcastInDim S16384x6 ![] bcast_S_S16384x6 (constant S_ .f32 0x00000000#32)⟩] concatenates_S16384x1_S16384x1_S16384x6_S16384x8_d1 := by
  show StableHlo.after hostOps0 (fun b => m (c, b)) (Proc.devRef .tc main_v5) = _
  simp only [hostOps0, after_cons, after_nil]
  refine (reshape_result_ne _ _ _ _ _ _ _ (by decide)).trans ((reshape_result_ne _ _ _ _ _ _ _ (by decide)).trans ((reshape_result_ne _ _ _ _ _ _ _ (by decide)).trans
    ((binary_result_ne _ _ _ _ _ _ _ _ (by decide)).trans ((unary_result_ne _ _ _ _ _ _ (by decide)).trans ((nullary_result_ne _ _ _ _ (by decide)).trans
    ((nary_result _ _ _ _ _ _).trans ?_))))))
  have keep : ∀ W : Valuation τ sig (Elt Ideal), ∀ r : Ref sig .tc, r ≠ main_cst → r ≠ main_v0 → r ≠ main_v1 → r ≠ main_cst_0 → r ≠ main_v2 → r ≠ main_v3 →
      r ≠ main_cst_1 → r ≠ main_v4 → StableHlo.after (hostOps0.take 8) W (Proc.devRef .tc r) = W (Proc.devRef .tc r) := fun W r h1 h2 h3 h4 h5 h6 h7 h8 =>
    (unary_result_ne _ _ _ _ _ _ h8).trans ((nullary_result_ne _ _ _ _ h7).trans ((binary_result_ne _ _ _ _ _ _ _ _ h6).trans ((unary_result_ne _ _ _ _ _ _ h5).trans
      ((nullary_result_ne _ _ _ _ h4).trans ((binary_result_ne _ _ _ _ _ _ _ _ h3).trans ((unary_result_ne _ _ _ _ _ _ h2).trans (nullary_result_ne _ _ _ _ h1)))))))
  have e2 := keep (fun b => m (c, b)) main_arg2 (by decide) (by decide) (by decide) (by decide) (by decide) (by decide) (by decide) (by decide)
  have e3 := keep (fun b => m (c, b)) main_arg3 (by decide) (by decide) (by decide) (by decide) (by decide) (by decide) (by decide) (by decide)
  have e4 : StableHlo.after (hostOps0.take 8) (fun b => m (c, b)) (Proc.devRef .tc main_v4)
      = broadcastInDim S16384x6 ![] bcast_S_S16384x6 (constant (F := Ideal) S_ .f32 0x00000000#32) := by
    simp only [hostOps0, List.take_succ_cons, List.take_zero, after_cons, after_nil]
    rw [unary_result, nullary_result]
  show concatenate S16384x8 1 [⟨S16384x1, StableHlo.after (hostOps0.take 8) (fun b => m (c, b)) (Proc.devRef .tc main_arg2)⟩,
    ⟨S16384x1, StableHlo.after (hostOps0.take 8) (fun b => m (c, b)) (Proc.devRef .tc main_arg3)⟩,
    ⟨S16384x6, StableHlo.after (hostOps0.take 8) (fun b => m (c, b)) (Proc.devRef .tc main_v4)⟩] _ = _
  rw [e2, e3, e4]

theorem entry_v7 : V m c main_v7 = concatenate S8x256 0 [⟨S3x256, arg4 m c⟩, ⟨S5x256, broadcastInDim S5x256 ![] bcast_S_S5x256 (constant S_ .f32 0x00000000#32)⟩]
    concatenates_S3x256_S5x256_S8x256_d0 := by
  entry_read
  rfl

theorem entry_v8 : V m c main_v8 = shapeCast S1x256 (arg5 m c) shapeCasts_S256_S1x256 := by
  entry_read
  rfl

theorem entry_v9 : V m c main_v9 = shapeCast S1x256 (arg6 m c) shapeCasts_S256x1_S1x256 := by
  entry_read
  rfl

theorem entry_v10 : V m c main_v10 = shapeCast S1x1 (arg7 m c) shapeCasts_S1_S1x1 := by
  entry_read
  rfl

/-- The row of the whole arrays that row `r` of block `t` is. -/
def at' (t : Fin cfg0.N) (r : Fin 128) : Fin 16384 := ⟨t.val * 128 + r.val, by have h : t.val < 128 := t.isLt; have := r.isLt; omega⟩

theorem idx_rows0 : ∀ t : Fin grid0.N, win0_0.index t = ![t.val, 0] := by decide +kernel
theorem idx_rows1 : ∀ t : Fin grid0.N, win0_1.index t = ![t.val, 0] := by decide +kernel
theorem idx_rows2 : ∀ t : Fin grid0.N, win0_2.index t = ![t.val, 0] := by decide +kernel
theorem idx_rows7 : ∀ t : Fin grid0.N, win0_7.index t = ![t.val, 0] := by decide +kernel
theorem idx_all3 : ∀ t : Fin grid0.N, win0_3.index t = ![0, 0] := by decide +kernel
theorem idx_all4 : ∀ t : Fin grid0.N, win0_4.index t = ![0, 0] := by decide +kernel
theorem idx_all5 : ∀ t : Fin grid0.N, win0_5.index t = ![0, 0] := by decide +kernel
theorem idx_all6 : ∀ t : Fin grid0.N, win0_6.index t = ![0, 0] := by decide +kernel

theorem blk0 (t : Fin cfg0.N) (r : Fin 128) (k : Fin 8) : iblk m c 0 t (ix2 r k) = V m c main_v1 (ix2 (at' t r) k) := by
  blk_ext [iblk, at', idx_rows0 t]

theorem blk1 (t : Fin cfg0.N) (r : Fin 128) (k : Fin 8) : iblk m c 1 t (ix2 r k) = V m c main_v3 (ix2 (at' t r) k) := by
  blk_ext [iblk, at', idx_rows1 t]

theorem blk2 (t : Fin cfg0.N) (r : Fin 128) (k : Fin 8) : iblk m c 2 t (ix2 r k) = V m c main_v5 (ix2 (at' t r) k) := by
  blk_ext [iblk, at', idx_rows2 t]

theorem blk3 (t : Fin cfg0.N) (r : Fin 8) (k : Fin 256) : iblk m c 3 t (ix2 r k) = V m c main_v7 (ix2 r k) := by
  blk_ext [iblk, idx_all3 t]

theorem blk4 (t : Fin cfg0.N) (r : Fin 1) (k : Fin 256) : iblk m c 4 t (ix2 r k) = V m c main_v8 (ix2 r k) := by
  blk_ext [iblk, idx_all4 t]

theorem blk5 (t : Fin cfg0.N) (r : Fin 1) (k : Fin 256) : iblk m c 5 t (ix2 r k) = V m c main_v9 (ix2 r k) := by
  blk_ext [iblk, idx_all5 t]

theorem blk6 (t : Fin cfg0.N) (r : Fin 1) (k : Fin 1) : iblk m c 6 t (ix2 r k) = V m c main_v10 (ix2 r k) := by
  blk_ext [iblk, idx_all6 t]

theorem emb7 (t : Fin cfg0.N) (r : Fin 128) (k : Fin 128) : ((cfg0.win 7).blk t).view.emb (ix2 r k) = (ix2 (at' t r) k : (P2 16384 128).Idx) := by
  blk_ext [at', idx_rows7 t]

end Cert.Proof

end
-- ==== Proof.RefOps.lean ====
/- The reference's operations on vectors at the ideal values that are real numbers, one lemma an operation, and
   its stable sort. -/
module

public import proofs.«01_k».proof.Proof.Stages
public import proofs.«01_k».proof.ReferenceIdeal
public import Idealize.ShloMosaic.Lib.SortPrefix
public import Idealize.ShloMosaic.Lib.IndicatorCount

@[expose] public section

noncomputable section

namespace Cert.Proof

open Idealize.ShloMosaic Idealize.ShloMosaic.ValueIdx
open Finset
open scoped BigOperators Classical

/-! ## One element -/

section Elem

variable {s : Shape} {x y : FVec Ideal s .f32} {i : s.Idx} {a b : ℝ}

theorem hdiv_val (hx : x i = (a : EReal)) (hy : y i = (b : EReal)) (h : b ≠ 0) : Host.divf x y i = ((a / b : ℝ) : EReal) := by
  show Ideal.div (x i) (y i) = _
  rw [hx, hy, div_coe h]
theorem hexp_val (hx : x i = (a : EReal)) : Host.exp x i = ((Real.exp a : ℝ) : EReal) := by
  show Ideal.exp (x i) = _
  rw [hx]; rfl
theorem hlog_val (hx : x i = (a : EReal)) (h : 0 < a) : Host.log x i = ((Real.log a : ℝ) : EReal) := by
  show Ideal.log (x i) = _
  rw [hx, log_coe h]
theorem hlog1p_val (hx : x i = (a : EReal)) (h : 0 < 1 + a) : Host.log1p x i = ((Real.log (1 + a) : ℝ) : EReal) := by
  show Ideal.log (1 + x i) = _
  rw [hx, ← EReal.coe_one, ← EReal.coe_add, log_coe h]
theorem hneg_val (hx : x i = (a : EReal)) : Host.negf x i = ((-a : ℝ) : EReal) := by
  show -(x i) = _
  rw [hx]; rfl
theorem habs_val (hx : x i = (a : EReal)) : Host.absf x i = ((|a| : ℝ) : EReal) := by
  show max (x i) (-(x i)) = _
  rw [hx, abs_coe]
theorem hsqrt_val (hx : x i = (a : EReal)) (h : 0 ≤ a) : Host.sqrt x i = ((Real.sqrt a : ℝ) : EReal) := by
  show Ideal.sqrt (x i) = _
  rw [hx]
  show (if a < 0 then ⊥ else ((Real.sqrt a : ℝ) : EReal)) = _
  rw [if_neg (not_lt.mpr h)]

/-- No value differs from itself. -/
theorem une_self : cmpf .une x x i = BitVec.ofBool (decide False) := by
  rw [cmpf_apply]
  show Ideal.cmp .une (x i) (x i) = _
  simp [Ideal.cmp]

/-- A condition's bit converted is one or zero. -/
theorem ubit_val (p : Prop) {hd : Decidable p} {c : IVec s 1} (hc : c i = BitVec.ofBool (decide p)) :
    (uitofp .f32 c : FVec Ideal s .f32) i = ((ind p : ℝ) : EReal) := by
  show (((c i).toNat : ℝ) : EReal) = _
  rw [hc]
  unfold ind
  by_cases hp : p
  · rw [if_pos hp, decide_eq_true hp]; simp
  · rw [if_neg hp, decide_eq_false hp]; simp

end Elem

variable {F : FTy → Type} [FloatOps F]

/-- The shape of one value. -/
abbrev P0 : Shape := ⟨0, ![]⟩

theorem fills (s : Shape) : P0.BroadcastsInDim s (![] : Fin 0 → Fin s.rank) := ⟨fun a => a.elim0, fun a => a.elim0⟩
theorem one_pos0 : 0 < P0.numel := by decide

/-- One word everywhere. -/
def fill (s : Shape) (b : BitVec 32) : FVec F s .f32 := broadcastInDim s ![] (fills s) (constant P0 .f32 b)

theorem fill_val {s : Shape} {i : s.Idx} {b : BitVec 32} {a : ℝ} (h : wd b = (a : EReal)) : fill (F := Ideal) s b i = (a : EReal) := h
theorem fill_row {B n : ℕ} {r : Fin B} {b : BitVec 32} {a : ℝ} (h : wd b = (a : EReal)) : Row r (fill (F := Ideal) (P2 B n) b) fun _ => a :=
  fun _ _ => h

/-! ## Spreading -/

section Spread

variable {α : Type} {B K n : ℕ}

theorem inj02 : Function.Injective (![0, 2] : Fin 2 → Fin 3) := by decide
theorem inj01 : Function.Injective (![0, 1] : Fin 2 → Fin 3) := by decide
theorem inj012 : Function.Injective (![0, 1, 2] : Fin 3 → Fin 3) := by decide
theorem inj2 : Function.Injective (![0, 1] : Fin 2 → Fin 2) := by decide
theorem inj1 {k : ℕ} (c : Fin k) : Function.Injective (![c] : Fin 1 → Fin k) := fun _ _ _ => Subsingleton.elim _ _

theorem in_mid (B n : ℕ) : (P2 B n).BroadcastsInDim (P3 B 1 n) (![0, 2] : Fin 2 → Fin 3) := ⟨inj02, fun a => by fin_cases a <;> simp⟩
theorem in_last (B K : ℕ) : (P2 B K).BroadcastsInDim (P3 B K 1) (![0, 1] : Fin 2 → Fin 3) := ⟨inj01, fun a => by fin_cases a <;> simp⟩
theorem in_row (n : ℕ) : (P1 n).BroadcastsInDim (P2 1 n) (![1] : Fin 1 → Fin 2) := ⟨inj1 _, fun a => by fin_cases a; simp⟩
theorem in_col (B : ℕ) : (P1 B).BroadcastsInDim (P2 B 1) (![0] : Fin 1 → Fin 2) := ⟨inj1 _, fun a => by fin_cases a; simp⟩
theorem in_all (n : ℕ) : (P1 n).BroadcastsInDim (P3 1 1 n) (![2] : Fin 1 → Fin 3) := ⟨inj1 _, fun a => by fin_cases a; simp⟩
theorem in_col3 (n : ℕ) : (P1 n).BroadcastsInDim (P3 1 n 1) (![1] : Fin 1 → Fin 3) := ⟨inj1 _, fun a => by fin_cases a; simp⟩
theorem on_mid (B K n : ℕ) : (P3 B 1 n).BroadcastsInDim (P3 B K n) (![0, 1, 2] : Fin 3 → Fin 3) := ⟨inj012, fun a => by fin_cases a <;> simp⟩
theorem on_last (B K n : ℕ) : (P3 B K 1).BroadcastsInDim (P3 B K n) (![0, 1, 2] : Fin 3 → Fin 3) := ⟨inj012, fun a => by fin_cases a <;> simp⟩
theorem on_all (B K n : ℕ) : (P3 1 1 n).BroadcastsInDim (P3 B K n) (![0, 1, 2] : Fin 3 → Fin 3) := ⟨inj012, fun a => by fin_cases a <;> simp⟩
theorem on_col3 (B K n : ℕ) : (P3 1 K 1).BroadcastsInDim (P3 B K n) (![0, 1, 2] : Fin 3 → Fin 3) := ⟨inj012, fun a => by fin_cases a <;> simp⟩
theorem on_rows (B n : ℕ) : (P2 1 n).BroadcastsInDim (P2 B n) (![0, 1] : Fin 2 → Fin 2) := ⟨inj2, fun a => by fin_cases a <;> simp⟩
theorem on_cols (B n : ℕ) : (P2 B 1).BroadcastsInDim (P2 B n) (![0, 1] : Fin 2 → Fin 2) := ⟨inj2, fun a => by fin_cases a <;> simp⟩
theorem on_one (B n : ℕ) : (P2 1 1).BroadcastsInDim (P2 B n) (![0, 1] : Fin 2 → Fin 2) := ⟨inj2, fun a => by fin_cases a <;> simp⟩

/-- A plane over a new middle axis. -/
def midH (K : ℕ) (x : (P2 B n).Idx → α) : (P3 B K n).Idx → α :=
  broadcastInDim (P3 B K n) ![0, 1, 2] (on_mid B K n) (broadcastInDim (P3 B 1 n) ![0, 2] (in_mid B n) x)
/-- A plane over a new last axis. -/
def lastH (n : ℕ) (x : (P2 B K).Idx → α) : (P3 B K n).Idx → α :=
  broadcastInDim (P3 B K n) ![0, 1, 2] (on_last B K n) (broadcastInDim (P3 B K 1) ![0, 1] (in_last B K) x)
/-- A list over two new leading axes. -/
def allH (B K : ℕ) (x : (P1 n).Idx → α) : (P3 B K n).Idx → α :=
  broadcastInDim (P3 B K n) ![0, 1, 2] (on_all B K n) (broadcastInDim (P3 1 1 n) ![2] (in_all n) x)
/-- A list along the middle axis. -/
def col3H (B n : ℕ) (x : (P1 K).Idx → α) : (P3 B K n).Idx → α :=
  broadcastInDim (P3 B K n) ![0, 1, 2] (on_col3 B K n) (broadcastInDim (P3 1 K 1) ![1] (in_col3 K) x)
/-- A list as one row. -/
def rowH (x : (P1 n).Idx → α) : (P2 1 n).Idx → α := broadcastInDim (P2 1 n) ![1] (in_row n) x
/-- One row over `B` rows. -/
def rowsH (B : ℕ) (x : (P2 1 n).Idx → α) : (P2 B n).Idx → α := broadcastInDim (P2 B n) ![0, 1] (on_rows B n) x
/-- One column over `n` columns. -/
def colsH (n : ℕ) (x : (P2 B 1).Idx → α) : (P2 B n).Idx → α := broadcastInDim (P2 B n) ![0, 1] (on_cols B n) x
/-- One value over a plane. -/
def oneH (B n : ℕ) (x : (P1 1).Idx → α) : (P2 B n).Idx → α := broadcastInDim (P2 B n) ![0, 1] (on_one B n) (rowH x)

theorem pick (n : ℕ) (j : Fin n) : j.val = if n = 1 then 0 else j.val := by split <;> omega

theorem midH_at (x : (P2 B n).Idx → α) (r : Fin B) (k : Fin K) (j : Fin n) : midH K x (ix3 r k j) = x (ix2 r j) := by
  unfold midH
  rw [broadcastInDim_apply _ _ _ _ (ix3 r (0 : Fin 1) j) (fun a => by
    fin_cases a
    · exact pick B r
    · rfl
    · exact pick n j)]
  exact broadcastInDim_apply _ _ _ _ (ix2 r j) (fun a => by
    fin_cases a
    · exact pick B r
    · exact pick n j)
theorem lastH_at (x : (P2 B K).Idx → α) (r : Fin B) (k : Fin K) (j : Fin n) : lastH n x (ix3 r k j) = x (ix2 r k) := by
  unfold lastH
  rw [broadcastInDim_apply _ _ _ _ (ix3 r k (0 : Fin 1)) (fun a => by
    fin_cases a
    · exact pick B r
    · exact pick K k
    · rfl)]
  exact broadcastInDim_apply _ _ _ _ (ix2 r k) (fun a => by
    fin_cases a
    · exact pick B r
    · exact pick K k)
theorem allH_at (x : (P1 n).Idx → α) (r : Fin B) (k : Fin K) (j : Fin n) : allH B K x (ix3 r k j) = x (ix1 j) := by
  unfold allH
  rw [broadcastInDim_apply _ _ _ _ (ix3 (0 : Fin 1) (0 : Fin 1) j) (fun a => by
    fin_cases a
    · rfl
    · rfl
    · exact pick n j)]
  exact broadcastInDim_apply _ _ _ _ (ix1 j) (fun a => by
    fin_cases a
    exact pick n j)
theorem col3H_at (x : (P1 K).Idx → α) (r : Fin B) (k : Fin K) (j : Fin n) : col3H B n x (ix3 r k j) = x (ix1 k) := by
  unfold col3H
  rw [broadcastInDim_apply _ _ _ _ (ix3 (0 : Fin 1) k (0 : Fin 1)) (fun a => by
    fin_cases a
    · rfl
    · exact pick K k
    · rfl)]
  exact broadcastInDim_apply _ _ _ _ (ix1 k) (fun a => by
    fin_cases a
    exact pick K k)
theorem rowH_at (x : (P1 n).Idx → α) (r : Fin 1) (j : Fin n) : rowH x (ix2 r j) = x (ix1 j) :=
  broadcastInDim_apply _ _ _ _ (ix1 j) (fun a => by
    fin_cases a
    exact pick n j)
theorem rowsH_at (x : (P2 1 n).Idx → α) (r : Fin B) (j : Fin n) : rowsH B x (ix2 r j) = x (ix2 0 j) :=
  broadcastInDim_apply _ _ _ _ (ix2 (0 : Fin 1) j) (fun a => by
    fin_cases a
    · rfl
    · exact pick n j)
theorem colsH_at (x : (P2 B 1).Idx → α) (r : Fin B) (j : Fin n) : colsH n x (ix2 r j) = x (ix2 r 0) :=
  broadcastInDim_apply _ _ _ _ (ix2 r (0 : Fin 1)) (fun a => by
    fin_cases a
    · exact pick B r
    · rfl)
theorem oneH_at (x : (P1 1).Idx → α) (r : Fin B) (j : Fin n) : oneH B n x (ix2 r j) = x (ix1 0) := by
  unfold oneH
  rw [broadcastInDim_apply _ _ _ _ (ix2 (0 : Fin 1) (0 : Fin 1)) (fun a => by fin_cases a <;> rfl)]
  exact rowH_at x 0 0

end Spread

/-! ## Sums -/

section Sums

variable {B K n : ℕ}

theorem adds_last (B K n : ℕ) : (P3 B K n).ReducesTo [2] (P2 B K) := ⟨rfl, fun b => by fin_cases b <;> rfl⟩
theorem adds_row (B n : ℕ) : (P2 B n).ReducesTo [1] (P1 B) := ⟨rfl, fun b => by fin_cases b; rfl⟩

/-- The sums along the last axis. -/
def lastSumH (x : FVec F (P3 B K n) .f32) : FVec F (P2 B K) .f32 :=
  Host.reduceAdd x (constant P0 .f32 0x00000000#32) (adds_last B K n) one_pos0

/-- The sum of each row, as a column. -/
def rowSumH (x : FVec F (P2 B n) .f32) : FVec F (P2 B 1) .f32 :=
  broadcastInDim (P2 B 1) ![0] (in_col B) (Host.reduceAdd x (constant P0 .f32 0x00000000#32) (adds_row B n) one_pos0)

theorem lift_last (r : Fin B) (k : Fin K) (j : Fin n) : (sums_last B K n).lift (ix2 r k) j = ix3 r k j := by
  funext a; fin_cases a <;> rfl

theorem zero_add_coe {z : EReal} (hz : z = ((0 : ℝ) : EReal)) (y : EReal) : z + y = y := by rw [hz, EReal.coe_zero, zero_add]

theorem lastSumH_row {r : Fin B} {x : FVec Ideal (P3 B K n) .f32} {f : ℕ → ℕ → ℝ} (hx : Row3 r x f) :
    Row r (lastSumH x) fun k => ∑ j ∈ range n, f k j := by
  intro k hk
  refine (Ideal.hostReduceAdd_single (adds_last B K n) (sums_last B K n) x _ _).trans ((zero_add_coe wd_0 _).trans (sum_coe fun j => ?_))
  exact (congrArg x (lift_last r ⟨k, hk⟩ j)).trans (hx k hk j.val j.isLt)

theorem rowSumH_row {r : Fin B} {x : FVec Ideal (P2 B n) .f32} {f : ℕ → ℝ} (hx : Row r x f) :
    Row r (rowSumH x) fun _ => ∑ j ∈ range n, f j := by
  intro k hk
  unfold rowSumH
  rw [broadcastInDim_apply _ _ _ _ (ix1 r) (fun a => by
    fin_cases a
    exact pick B r)]
  refine (Ideal.hostReduceAdd_single (adds_row B n) (sums_row B n) x _ _).trans ((zero_add_coe wd_0 _).trans (sum_coe fun j => ?_))
  rw [← hx j.val j.isLt]
  congr 1
  funext a
  fin_cases a <;> rfl

theorem windows (B m : ℕ) (hB : 0 < B) (hm : 0 < m) : (P2 B m).ReduceWindows (![1, m] : Fin 2 → Nat) ![1, 1] ![0, m - 1] ![0, 0] (P2 B m) :=
  ⟨rfl, fun a => by
    fin_cases a
    · refine ⟨Nat.one_pos, ?_, ?_⟩
      · show 1 ≤ 0 + B + 0; omega
      · show B = (0 + B + 0 - 1) / 1 + 1; rw [Nat.div_one]; omega
    · refine ⟨Nat.one_pos, ?_, ?_⟩
      · show m ≤ m - 1 + m + 0; omega
      · show m = (m - 1 + m + 0 - m) / 1 + 1; rw [Nat.div_one]; omega⟩

/-- The running sums of each row. -/
def runSumH (hB : 0 < B) (hm : 0 < n) (x : FVec F (P2 B n) .f32) : FVec F (P2 B n) .f32 :=
  Host.reduceWindowAdd ![1, n] ![1, 1] ![0, n - 1] ![0, 0] x (broadcastInDim P0 ![] (fills P0) (constant P0 .f32 0x00000000#32))
    (windows B n hB hm) one_pos0

/-- The places of one row. -/
def lineEquiv (n : ℕ) : Fin n ≃ (P2 1 n).Idx where
  toFun j := ix2 0 j
  invFun i := i 1
  left_inv _ := rfl
  right_inv i := by
    funext a
    fin_cases a
    · exact Subsingleton.elim (α := Fin 1) _ _
    · rfl

theorem foldl_sum {N : ℕ} (g : Fin N → EReal) (c : EReal) : (List.finRange N).foldl (fun r k => r + g k) c = c + ∑ k, g k := by
  rw [← List.sum_ofFn, List.ofFn_eq_map]
  generalize List.finRange N = l
  induction l generalizing c with
  | nil => simp
  | cons a l ih => rw [List.foldl_cons, ih, List.map_cons, List.sum_cons, add_assoc]

/-- The window ending at place `j` holds the places up to `j`. -/
theorem window_sum {n j : ℕ} (hj : j < n) (f : ℕ → ℝ) :
    ∑ w ∈ range n, (if n - 1 ≤ j + w then f (j + w - (n - 1)) else 0) = ∑ i ∈ range (j + 1), f i := by
  rw [← sum_filter]
  refine sum_nbij' (fun w => j + w - (n - 1)) (fun i => i + (n - 1) - j) ?_ ?_ ?_ ?_ ?_ <;>
    simp only [mem_filter, mem_range] <;> intros <;> first | omega | trivial

theorem runSumH_row (hB : 0 < B) (hm : 0 < n) {r : Fin B} {x : FVec Ideal (P2 B n) .f32} {f : ℕ → ℝ} (hx : Row r x f) :
    Row r (runSumH hB hm x) fun j => ∑ i ∈ range (j + 1), f i := by
  intro j hj
  show _ = ((∑ i ∈ range (j + 1), f i : ℝ) : EReal)
  unfold runSumH Host.reduceWindowAdd
  rw [Ideal.hostReduceWindowAdd_def]
  unfold Ideal.hostReduceWindowAdd Host.reduceWindow
  refine (foldl_sum _ _).trans ((zero_add_coe wd_0 _).trans ?_)
  rw [← Equiv.sum_comp ((lineEquiv n).trans (P2 1 n).rowMajor), ← window_sum hj]
  refine sum_coe (f := fun w => if n - 1 ≤ j + w then f (j + w - (n - 1)) else 0) fun w => ?_
  have hw := w.isLt
  let Q : (P2 1 n).Idx := (⟨2, ![1, n]⟩ : Shape).rowMajor.symm (((lineEquiv n).trans (P2 1 n).rowMajor) w)
  have e : Q = ix2 0 w := Equiv.symm_apply_apply (P2 1 n).rowMajor (ix2 0 w)
  by_cases hc : n - 1 ≤ j + w.val
  · rw [if_pos hc]
    have hin : ∀ a : Fin 2, (![0, n - 1] : Fin 2 → ℕ) a ≤ ((ix2 r ⟨j, hj⟩ : (P2 B n).Idx) a).val * (![1, 1] : Fin 2 → ℕ) a + (Q a).val
        ∧ ((ix2 r ⟨j, hj⟩ : (P2 B n).Idx) a).val * (![1, 1] : Fin 2 → ℕ) a + (Q a).val - (![0, n - 1] : Fin 2 → ℕ) a < (P2 B n).size a := by
      rw [e]
      intro a
      fin_cases a
      · refine ⟨Nat.zero_le _, ?_⟩
        show r.val * 1 + 0 - 0 < B
        omega
      · refine ⟨?_, ?_⟩
        · show n - 1 ≤ j * 1 + w.val; omega
        · show j * 1 + w.val - (n - 1) < n; omega
    refine Eq.trans ?_ (hx (j + w.val - (n - 1)) (by omega))
    refine (dif_pos hin).trans (congrArg x (funext fun a => ?_))
    apply Fin.ext
    fin_cases a
    · show r.val * 1 + (Q 0).val - 0 = r.val
      rw [e]; show r.val * 1 + 0 - 0 = r.val; omega
    · show j * 1 + (Q 1).val - (n - 1) = j + w.val - (n - 1)
      rw [e, Nat.mul_one]; rfl
  · rw [if_neg hc]
    refine (dif_neg fun hin => hc ?_).trans wd_0
    have h1 : n - 1 ≤ j * 1 + (Q 1).val := (hin (1 : Fin 2)).1
    rw [e] at h1
    have h2 : n - 1 ≤ j * 1 + w.val := h1
    omega

/-- The number of true bits along the last axis. -/
def countH (c : IVec (P3 B K n) 1) : IVec (P2 B K) 32 :=
  Host.reduce IntOp.addi (extui 32 c (by decide)) (constantI P0 32 0#32) (adds_last B K n) one_pos0

theorem countH_at (r : Fin B) (k : Fin K) (c : IVec (P3 B K n) 1) (p : ℕ → Prop) (hc : ∀ j : Fin n, c (ix3 r k j) = BitVec.ofBool (decide (p j.val))) :
    countH c (ix2 r k) = BitVec.ofNat 32 (count n p) := by
  unfold countH
  rw [Host.reduce_eq_fold_single IntOp.addi _ _ (adds_last B K n) (sums_last B K n)]
  have e : extui 32 c (by decide) ∘ (sums_last B K n).lift (ix2 r k) = fun j : Fin n => (c (ix3 r k j)).setWidth 32 :=
    funext fun j => congrArg (fun q => (c q).setWidth 32) (lift_last r k j)
  rw [e]
  refine (IndicatorCount.fold_addi_setWidth_eq_card (w := 32) (fun j : Fin n => c (ix3 r k j)) univ).trans (congrArg (BitVec.ofNat 32) ?_)
  unfold count
  have hb : ∀ j : Fin n, c (ix3 r k j) = 1#1 ↔ p j.val := fun j => by
    rw [hc j]; by_cases h : p j.val <;> simp [h]
  refine card_bij (fun j _ => j.val) (fun j hj => ?_) (fun _ _ _ _ h => Fin.ext h) (fun j hj => ?_)
  · exact mem_filter.mpr ⟨mem_range.mpr j.isLt, (hb j).mp (mem_filter.mp hj).2⟩
  · obtain ⟨h1, h2⟩ := mem_filter.mp hj
    exact ⟨⟨j, mem_range.mp h1⟩, mem_filter.mpr ⟨mem_univ _, (hb _).mpr h2⟩, rfl⟩

end Sums

end Cert.Proof

end
-- ==== Proof.RefSort.lean ====
/- The reference's products, its even spacings, its reads at computed places, and its stable sort, at the ideal
   values that are real numbers. -/
module

public import proofs.«01_k».proof.Proof.RefOps

@[expose] public section

noncomputable section

namespace Cert.Proof

open Idealize.ShloMosaic Idealize.ShloMosaic.ValueIdx
open Finset
open scoped BigOperators Classical

variable {F : FTy → Type} [FloatOps F] {B K n m : ℕ}

/-! ## Products -/

theorem dot_wf (B K n m : ℕ) : DotDims.WF (P3 B K n) (P2 n m) (P3 B K m) [2] [0] [0, 1] [1] [] [] :=
  ⟨rfl, by simp, rfl, by simp, by simp, by simp, by simp [List.finRange], by simpa [List.finRange] using List.Perm.swap 0 1 [],
    rfl, Nat.succ_pos 2, fun b => by fin_cases b <;> rfl⟩

/-- Planes times a matrix. -/
def dims3 (B K n m : ℕ) : DotDims (P3 B K n) (P2 n m) (P3 B K m) where
  lhsContracting := [2]
  rhsContracting := [0]
  lhsNonContracting := [0, 1]
  rhsNonContracting := [1]
  lhsBatch := []
  rhsBatch := []
  wf := dot_wf B K n m

/-- Planes times a matrix. -/
def dotH (x : FVec F (P3 B K n) .f32) (w : FVec F (P2 n m) .f32) : FVec F (P3 B K m) .f32 :=
  Host.dotGeneral (dims3 B K n m) none x w

theorem dotH_row {r : Fin B} {x : FVec Ideal (P3 B K n) .f32} {w : FVec Ideal (P2 n m) .f32} {f g : ℕ → ℕ → ℝ} (hx : Row3 r x f)
    (hw : ∀ i (h : i < n), Row ⟨i, h⟩ w (g i)) : Row3 r (dotH x w) fun k j => ∑ i ∈ range n, f k i * g i j := by
  intro k hk j hj
  unfold dotH
  simp only [Host.dotGeneral]
  rw [Ideal.dotGeneral_apply, ← Equiv.sum_comp (contrEquiv1 (dims3 B K n m) n rfl rfl).symm]
  refine sum_coe (f := fun i => f k i * g i j) fun i => ?_
  have hi := contrEquiv1_symm_val (dims3 B K n m) n rfl rfl i
  have el : (dims3 B K n m).lhsIdx (ix3 r ⟨k, hk⟩ ⟨j, hj⟩) ((contrEquiv1 (dims3 B K n m) n rfl rfl).symm i) = ix3 r ⟨k, hk⟩ i := funext fun a => Fin.ext (by
    fin_cases a
    · rfl
    · rfl
    · exact ((dims3 B K n m).lhsIdx_val_of_single rfl _ _).trans hi)
  have er : (dims3 B K n m).rhsIdx (ix3 r ⟨k, hk⟩ ⟨j, hj⟩) ((contrEquiv1 (dims3 B K n m) n rfl rfl).symm i) = ix2 i ⟨j, hj⟩ := funext fun a => Fin.ext (by
    fin_cases a
    · exact ((dims3 B K n m).rhsIdx_val_of_single rfl _ _).trans hi
    · rfl)
  rw [el, er, EReal.coe_mul]
  exact congrArg₂ (· * ·) (hx k hk i.val i.isLt) (hw i.val i.isLt j hj)

/-! ## Even spacings -/

theorem one_cast : P0.ShapeCasts (P1 1) := by simp [Shape.ShapeCasts, Shape.numel]
theorem on_list (k : ℕ) : (P1 1).BroadcastsInDim (P1 k) (![0] : Fin 1 → Fin 1) := ⟨inj1 _, fun a => by fin_cases a; simp⟩
theorem ends (k : ℕ) : Shape.Concatenates [P1 k, P1 1] (P1 (k + 1)) 0 :=
  ⟨by simp, by
    intro s hs
    simp only [List.mem_cons, List.not_mem_nil, or_false] at hs
    rcases hs with rfl | rfl
    · exact ⟨rfl, fun c hc => by fin_cases c; exact absurd rfl hc⟩
    · exact ⟨rfl, fun c hc => by fin_cases c; exact absurd rfl hc⟩,
   by simp⟩

theorem ends_left {k : ℕ} (x : FVec F (P1 k) .f32) (y : FVec F (P1 1) .f32) (j : ℕ) (hj : j < k) :
    concatenate (P1 (k + 1)) 0 [⟨P1 k, x⟩, ⟨P1 1, y⟩] (ends k) (ix1 ⟨j, by omega⟩) = x (ix1 ⟨j, hj⟩) :=
  concatenate_pair_apply_left (0 : Fin (P1 (k + 1)).rank) x y _ _ rfl (ix1 ⟨j, hj⟩) (fun c => by fin_cases c; rfl)

theorem ends_right {k : ℕ} (x : FVec F (P1 k) .f32) (y : FVec F (P1 1) .f32) :
    concatenate (P1 (k + 1)) 0 [⟨P1 k, x⟩, ⟨P1 1, y⟩] (ends k) (ix1 ⟨k, by omega⟩) = y (ix1 0) :=
  concatenate_pair_apply_right (0 : Fin (P1 (k + 1)).rank) x y _ _ rfl rfl (ix1 (0 : Fin 1))
    (fun c hc => by fin_cases c; exact absurd rfl hc) (show 0 + k = k from Nat.zero_add k)

/-- A word along a list. -/
def listH (k : ℕ) (b : BitVec 32) : FVec F (P1 k) .f32 :=
  broadcastInDim (P1 k) ![0] (on_list k) (shapeCast (P1 1) (constant P0 .f32 b : FVec F P0 .f32) one_cast)

/-- The fractions of the way: places over their number. -/
def fracH (k : ℕ) (c : BitVec 32) : FVec F (P1 k) .f32 := Host.divf (sitofp .f32 (iotaInDim (P1 k) 32 0)) (fill (P1 k) c)

/-- Even spacing of `k` steps from `lo` to `hi`. -/
def linH (k : ℕ) (lo hi c : BitVec 32) : FVec F (P1 (k + 1)) .f32 :=
  concatenate (P1 (k + 1)) 0 [⟨P1 k, addf (mulf (listH k lo) (subf (fill (P1 k) 0x3F800000#32) (fracH k c))) (mulf (listH k hi) (fracH k c))⟩,
    ⟨P1 1, fill (P1 1) hi⟩] (ends k)

theorem lin_val {k : ℕ} (hk : 0 < k) (hk' : k < 2 ^ 31) {lo hi c : BitVec 32} {a b : ℝ} (hlo : wd lo = (a : EReal)) (hhi : wd hi = (b : EReal)) (hc : wd c = ((k : ℝ) : EReal))
    (j : ℕ) (hj : j < k + 1) : linH (F := Ideal) k lo hi c (ix1 ⟨j, hj⟩) = ((a * (1 - (j : ℝ) / k) + b * ((j : ℝ) / k) : ℝ) : EReal) := by
  have k0 : (k : ℝ) ≠ 0 := by exact_mod_cast hk.ne'
  unfold linH
  by_cases hl : j < k
  · have hf : fracH (F := Ideal) k c (ix1 ⟨j, hl⟩) = (((j : ℝ) / k : ℝ) : EReal) := by
      refine hdiv_val ?_ (fill_val hc) k0
      rw [sitofp_apply, iotaInDim_apply]
      show (((BitVec.ofNat 32 j).toInt : ℝ) : EReal) = _
      have : (BitVec.ofNat 32 j).toInt = (j : ℤ) := by
        rw [BitVec.toInt_eq_toNat_of_lt] <;> simp [BitVec.toNat_ofNat] <;> omega
      rw [this]; norm_num
    refine (ends_left _ _ j hl).trans ?_
    exact add_val (mul_val (show listH k lo (ix1 ⟨j, hl⟩) = _ from hlo) (sub_val (fill_val wd_1) hf)) (mul_val (show listH k hi (ix1 ⟨j, hl⟩) = _ from hhi) hf)
  · have ej : j = k := by omega
    subst ej
    refine (ends_right _ _).trans ((fill_val hhi).trans ?_)
    rw [div_self k0]; congr 1; ring

/-! ## Whole numbers and reads at computed places -/

/-- One whole number everywhere. -/
def fillI (s : Shape) (b : BitVec 32) : IVec s 32 := broadcastInDim s ![] (fills s) (constantI P0 32 b)

/-- The entries of each row at the given places, as sums of one entry and zeros. -/
def takeH (p : IVec (P2 B K) 32) (x : FVec F (P2 B n) .f32) : FVec F (P2 B K) .f32 :=
  lastSumH (select (cmpi .eq (broadcastInDim (P3 B K n) ![0, 1, 2] (on_all B K n) (iotaInDim (P3 1 1 n) 32 2)) (lastH n p))
    (midH K x) (fill (P3 B K n) 0x00000000#32))

theorem takeH_row {r : Fin B} {p : IVec (P2 B K) 32} {q : ℕ → ℕ} (hp : ∀ k (h : k < K), p (ix2 r ⟨k, h⟩) = BitVec.ofNat 32 (q k)) (hn : n < 2 ^ 31)
    (hq : ∀ k, k < K → q k < n) {x : FVec Ideal (P2 B n) .f32} {f : ℕ → ℝ} (hx : Row r x f) : Row r (takeH p x) fun k => f (q k) := by
  refine Row.congr (lastSumH_row (f := fun k j => if j = q k then f j else 0) fun k hk j hj => ?_) fun k hk => ?_
  · refine (select_val (p := j = q k) ?_ ((midH_at x r ⟨k, hk⟩ ⟨j, hj⟩).trans (hx j hj)) (fill_val wd_0)).trans (by by_cases h : j = q k <;> simp [h])
    show IntOp.cmpi .eq (broadcastInDim (P3 B K n) ![0, 1, 2] (on_all B K n) (iotaInDim (P3 1 1 n) 32 2) (ix3 r ⟨k, hk⟩ ⟨j, hj⟩)) (lastH n p (ix3 r ⟨k, hk⟩ ⟨j, hj⟩)) = _
    rw [lastH_at, hp k hk, broadcastInDim_apply _ _ _ _ (ix3 (0 : Fin 1) (0 : Fin 1) ⟨j, hj⟩) (fun a => by
      fin_cases a
      · rfl
      · rfl
      · exact pick n ⟨j, hj⟩), iotaInDim_apply]
    show BitVec.ofBool (BitVec.ofNat 32 j == BitVec.ofNat 32 (q k)) = _
    congr 1
    have hqk := hq k hk
    by_cases h : j = q k
    · subst h; simp
    · refine Eq.trans ?_ (show false = @decide (j = q k) (Classical.propDecidable _) by simp [h])
      rw [beq_eq_false_iff_ne]
      intro e
      have := congrArg BitVec.toNat e
      simp only [BitVec.toNat_ofNat] at this
      omega
  · rw [sum_ite_eq' (range n) (q k) f, if_pos (mem_range.mpr (hq k hk))]

/-! ## The stable sort -/

section Order

variable {N : ℕ}

theorem insert_same (before B' : Fin N → Fin N → Bool) (a : Fin N) (l : List (Fin N)) (h : ∀ b ∈ l, before b a = B' b a) :
    insertBefore before a l = insertBefore B' a l := by
  induction l with
  | nil => rfl
  | cons b l ih =>
    unfold insertBefore
    rw [h b List.mem_cons_self, ih fun c hc => h c (List.mem_cons_of_mem _ hc)]

theorem sort_same (before B' : Fin N → Fin N → Bool) (h : ∀ a b : Fin N, a < b → before b a = B' b a) (l : List (Fin N)) (hl : l.Pairwise (· < ·)) :
    stableSort before l = stableSort B' l := by
  induction l with
  | nil => rfl
  | cons a l ih =>
    rw [List.pairwise_cons] at hl
    show insertBefore before a (stableSort before l) = insertBefore B' a (stableSort B' l)
    rw [ih hl.2]
    exact insert_same _ _ _ _ fun b hb => h a b (hl.1 b ((perm_stableSort B' l).mem_iff.mp hb))

/-- A stable sort by a real key puts at each place what an order of keys, then of places, puts there. -/
theorem sorted_at (before : Fin N → Fin N → Bool) (key : ℕ → ℝ) (hb : ∀ k k' : Fin N, before k k' = decide (key k.val < key k'.val)) (σ : ℕ → ℕ)
    (hσ : ∀ p, p < N → σ p < N) (ho : ∀ p q, p < q → q < N → key (σ p) < key (σ q) ∨ (key (σ p) = key (σ q) ∧ σ p < σ q)) (p : Fin N) :
    sortedFrom before p = ⟨σ p.val, hσ p.val p.isLt⟩ := by
  have hB := StrictTotalBefore.of_key_then_position (fun a b : ℝ => decide (a < b)) (fun k : Fin N => key k.val)
    (fun a => by simp) (fun a b c h1 h2 => by simp only [decide_eq_true_eq] at *; exact h1.trans h2)
    (fun a b => by simp only [decide_eq_true_eq]; exact lt_trichotomy a b)
  have e : sortPositions N before = sortPositions N _ := sort_same before
    (fun k k' : Fin N => decide (key k.val < key k'.val) || (decide (key k.val = key k'.val) && decide (k < k')))
    (fun a b hab => by rw [hb, decide_eq_false (not_lt.mpr hab.le), Bool.and_false, Bool.or_false]) _ (List.pairwise_lt_finRange N)
  have e' : sortedFrom before p = sortedFrom (fun k k' : Fin N => decide (key k.val < key k'.val) || (decide (key k.val = key k'.val) && decide (k < k'))) p := by
    unfold sortedFrom
    exact List.get_of_eq e _
  rw [e']
  have ord : ∀ i j : Fin N, i < j → key (σ i.val) < key (σ j.val) ∨ (key (σ i.val) = key (σ j.val) ∧ σ i.val < σ j.val) := fun i j h => ho i.val j.val h j.isLt
  have hinj : Function.Injective fun i : Fin N => (⟨σ i.val, hσ i.val i.isLt⟩ : Fin N) := fun i j hij => by
    have hs : σ i.val = σ j.val := congrArg Fin.val hij
    rcases lt_trichotomy i j with h | h | h
    · rcases ord i j h with h' | h'
      · rw [hs] at h'; exact absurd h' (lt_irrefl _)
      · rw [hs] at h'; exact absurd h'.2 (lt_irrefl _)
    · exact h
    · rcases ord j i h with h' | h'
      · rw [hs] at h'; exact absurd h' (lt_irrefl _)
      · rw [hs] at h'; exact absurd h'.2 (lt_irrefl _)
  refine hB.sortedFrom_eq_of_prefix (le_refl N) (fun i : Fin N => (⟨σ i.val, hσ i.val i.isLt⟩ : Fin N)) hinj (fun i j hij => ?_) (fun i q hq => ?_) p
  · rcases ord i j hij with h | h
    · rw [decide_eq_false (not_lt.mpr h.le), decide_eq_false (ne_of_gt h)]; rfl
    · rw [decide_eq_false (not_lt.mpr h.1.le), Bool.false_or, decide_eq_false (show ¬ ((⟨σ j.val, hσ j.val j.isLt⟩ : Fin N) < ⟨σ i.val, hσ i.val i.isLt⟩) from not_lt.mpr h.2.le), Bool.and_false]
  · obtain ⟨j, hj⟩ := (Finite.injective_iff_surjective.mp hinj) q
    exact absurd hj (hq j)

theorem along_ix2 (r : Fin B) (p q : Fin n) : (ix2 r p : (P2 B n).Idx).along 1 q = ix2 r q := by
  funext a; fin_cases a <;> rfl

/-- The order the reference sorts by, on real numbers. -/
theorem before_val (a b : ℝ) : Cert.ReferenceIdeal.comparator_f32_d1 (F := Ideal) (a : EReal) (b : EReal) = BitVec.ofBool (decide (a < b)) := by
  unfold Cert.ReferenceIdeal.comparator_f32_d1
  have z : (FloatOps.ofBits .f32 0x00000000#32 : Ideal .f32) = ((0 : ℝ) : EReal) := wd_0
  have u : ∀ c : ℝ, FloatOps.cmpf (F := Ideal) (φ := .f32) .une (c : EReal) (c : EReal) = 0#1 := fun c => by
    show Ideal.cmp .une (c : EReal) (c : EReal) = _
    simp [Ideal.cmp]
  have s : ∀ c : ℝ, Scalar.select (FloatOps.cmpf (F := Ideal) (φ := .f32) .oeq (c : EReal) ((0 : ℝ) : EReal)) (((0 : ℝ) : EReal) : Ideal .f32) (c : EReal) = (c : EReal) := fun c => by
    by_cases h : c = 0
    · subst h; unfold Scalar.select; split <;> rfl
    · have : FloatOps.cmpf (F := Ideal) (φ := .f32) .oeq (c : EReal) ((0 : ℝ) : EReal) = 0#1 := by
        show Ideal.cmp .oeq (c : EReal) ((0 : ℝ) : EReal) = _
        have : (c : EReal) ≠ ((0 : ℝ) : EReal) := by exact_mod_cast h
        simp only [Ideal.cmp]
        rw [decide_eq_false this]; rfl
      rw [this]; rfl
  dsimp only
  rw [z, u, u, s, s]
  show Ideal.cmp .olt (a : EReal) (b : EReal) = _
  show BitVec.ofBool (decide ((a : EReal) < b)) = _
  congr 1; simp only [EReal.coe_lt_coe_iff]

theorem before2_val (a b : ℝ) (x y : EReal) :
    Cert.ReferenceIdeal.comparator_f32_f32_d1 (F := Ideal) ((a : EReal), x) ((b : EReal), y) = BitVec.ofBool (decide (a < b)) := before_val a b

theorem ofBool_beq (b : Bool) : (BitVec.ofBool b == 1#1) = b := by cases b <;> rfl

variable {r : Fin B} {x y : FVec Ideal (P2 B N) .f32} {f g : ℕ → ℝ} {σ : ℕ → ℕ}

theorem sort_row (hx : Row r x f) (hσ : ∀ p, p < N → σ p < N) (ho : ∀ p q, p < q → q < N → f (σ p) < f (σ q) ∨ (f (σ p) = f (σ q) ∧ σ p < σ q)) :
    Row r (Host.sort (P2 B N) 1 (Cert.ReferenceIdeal.comparator_f32_d1 (F := Ideal)) x) fun p => f (σ p) := by
  intro p hp
  unfold Host.sort
  rw [dif_pos (show 1 < (P2 B N).rank from Nat.lt_succ_self 1)]
  dsimp only
  have e := sorted_at (N := N) (fun k k' => Cert.ReferenceIdeal.comparator_f32_d1 (F := Ideal) (x ((ix2 r ⟨p, hp⟩ : (P2 B N).Idx).along 1 k)) (x ((ix2 r ⟨p, hp⟩ : (P2 B N).Idx).along 1 k')) == 1#1)
    f (fun k k' => by rw [along_ix2, along_ix2, hx k.val k.isLt, hx k'.val k'.isLt, before_val, ofBool_beq]) σ hσ ho ⟨p, hp⟩
  refine (congrArg x ((congrArg _ e).trans (along_ix2 r _ _))).trans (hx (σ p) (hσ p hp))

theorem sort2_fst_row (hx : Row r x f) (hσ : ∀ p, p < N → σ p < N) (ho : ∀ p q, p < q → q < N → f (σ p) < f (σ q) ∨ (f (σ p) = f (σ q) ∧ σ p < σ q)) :
    Row r (Host.sort2 (P2 B N) 1 (Cert.ReferenceIdeal.comparator_f32_f32_d1 (F := Ideal)) x y).1 fun p => f (σ p) := by
  intro p hp
  unfold Host.sort2
  rw [dif_pos (show 1 < (P2 B N).rank from Nat.lt_succ_self 1)]
  dsimp only
  have e := sorted_at (N := N) (fun k k' => Cert.ReferenceIdeal.comparator_f32_f32_d1 (F := Ideal) (x ((ix2 r ⟨p, hp⟩ : (P2 B N).Idx).along 1 k), y ((ix2 r ⟨p, hp⟩ : (P2 B N).Idx).along 1 k)) (x ((ix2 r ⟨p, hp⟩ : (P2 B N).Idx).along 1 k'), y ((ix2 r ⟨p, hp⟩ : (P2 B N).Idx).along 1 k')) == 1#1)
    f (fun k k' => by rw [along_ix2, along_ix2, hx k.val k.isLt, hx k'.val k'.isLt, before2_val, ofBool_beq]) σ hσ ho ⟨p, hp⟩
  refine (congrArg x ((congrArg _ e).trans (along_ix2 r _ _))).trans (hx (σ p) (hσ p hp))

theorem sort2_snd_row (hx : Row r x f) (hy : Row r y g) (hσ : ∀ p, p < N → σ p < N) (ho : ∀ p q, p < q → q < N → f (σ p) < f (σ q) ∨ (f (σ p) = f (σ q) ∧ σ p < σ q)) :
    Row r (Host.sort2 (P2 B N) 1 (Cert.ReferenceIdeal.comparator_f32_f32_d1 (F := Ideal)) x y).2 fun p => g (σ p) := by
  intro p hp
  unfold Host.sort2
  rw [dif_pos (show 1 < (P2 B N).rank from Nat.lt_succ_self 1)]
  dsimp only
  have e := sorted_at (N := N) (fun k k' => Cert.ReferenceIdeal.comparator_f32_f32_d1 (F := Ideal) (x ((ix2 r ⟨p, hp⟩ : (P2 B N).Idx).along 1 k), y ((ix2 r ⟨p, hp⟩ : (P2 B N).Idx).along 1 k)) (x ((ix2 r ⟨p, hp⟩ : (P2 B N).Idx).along 1 k'), y ((ix2 r ⟨p, hp⟩ : (P2 B N).Idx).along 1 k')) == 1#1)
    f (fun k k' => by rw [along_ix2, along_ix2, hx k.val k.isLt, hx k'.val k'.isLt, before2_val, ofBool_beq]) σ hσ ho ⟨p, hp⟩
  refine (congrArg y ((congrArg _ e).trans (along_ix2 r _ _))).trans (hy (σ p) (hσ p hp))

end Order

end Cert.Proof

end
-- ==== Proof.RefStages.lean ====
/- The stages of one round of the reference, each a function of the arrays it reads, for any number of samples;
   and what each leaves in a ray's row when the row it reads holds real numbers. -/
module

public import proofs.«01_k».proof.Proof.RefSort

@[expose] public section

noncomputable section

namespace Cert.Proof

open Idealize.ShloMosaic Idealize.ShloMosaic.ValueIdx
open Finset
open scoped BigOperators Classical

variable {F : FTy → Type} [FloatOps F] {B n m l N : ℕ}

/-- What the reference reads: the rays and the network. -/
structure Args (F : FTy → Type) (B : ℕ) where
  o : FVec F (P2 B 3) .f32
  d : FVec F (P2 B 3) .f32
  near : FVec F (P2 B 1) .f32
  far : FVec F (P2 B 1) .f32
  W : FVec F (P2 3 256) .f32
  b1 : FVec F (P1 256) .f32
  w2 : FVec F (P2 256 1) .f32
  b2 : FVec F (P1 1) .f32

/-- Softplus of every element. -/
def softH {s : Shape} (h : FVec F s .f32) : FVec F s .f32 :=
  select (cmpf .une (subf h (fill s 0x00000000#32)) (subf h (fill s 0x00000000#32))) (addf h (fill s 0x00000000#32))
    (addf (maximumf h (fill s 0x00000000#32)) (Host.log1p (Host.exp (Host.negf (Host.absf (subf h (fill s 0x00000000#32)))))))

/-- The first samples. -/
def startH (A : Args F B) : FVec F (P2 B 64) .f32 :=
  addf (mulf (colsH 64 A.near) (rowsH B (subf (fill (P2 1 64) 0x3F800000#32) (rowH (linH 63 0x00000000#32 0x3F800000#32 0x427C0000#32)))))
    (mulf (colsH 64 A.far) (rowsH B (rowH (linH 63 0x00000000#32 0x3F800000#32 0x427C0000#32))))

/-- The points of parameters `z`. -/
def pointsH (A : Args F B) (z : FVec F (P2 B n) .f32) : FVec F (P3 B n 3) .f32 :=
  addf (midH n A.o) (mulf (midH n A.d) (lastH 3 z))

theorem flat_cast (B n : ℕ) : (P3 B n 1).ShapeCasts (P2 B n) := by simp [Shape.ShapeCasts, Shape.numel, Fin.prod_univ_succ]

/-- The network at the samples `z`. -/
def sdfH (A : Args F B) (z : FVec F (P2 B n) .f32) : FVec F (P2 B n) .f32 :=
  addf (shapeCast (P2 B n) (dotH (softH (addf (dotH (pointsH A z) A.W) (allH B n A.b1))) A.w2) (flat_cast B n)) (oneH B n A.b2)

/-- The distances from the origin. -/
def radH (A : Args F B) (z : FVec F (P2 B n) .f32) : FVec F (P2 B n) .f32 :=
  Host.sqrt (lastSumH (mulf (pointsH A z) (pointsH A z)))

/-- Which intervals touch the unit ball. -/
def insideH (h : 1 + m = n) (A : Args F B) (z : FVec F (P2 B n) .f32) : FVec F (P2 B m) .f32 :=
  uitofp .f32 (ori (cmpf .olt (cutL m (by omega) (radH A z)) (fill (P2 B m) 0x3F800000#32))
    (cmpf .olt (cutR m (by omega) (radH A z)) (fill (P2 B m) 0x3F800000#32)))

/-- The raw slopes. -/
def cosH (h : 1 + m = n) (z s : FVec F (P2 B n) .f32) : FVec F (P2 B m) .f32 :=
  Host.divf (stepS h s) (addf (stepS h z) (fill (P2 B m) 0x3727C5AC#32))

/-- Columns moved right by one, zero put in front. -/
def pushH (k : 1 + l = m) (x : FVec F (P2 B m) .f32) : FVec F (P2 B m) .f32 :=
  beside k (fill (P2 B 1) 0x00000000#32) (cutL l (by omega) x)

/-- The clipped slopes. -/
def slopeH (h : 1 + m = n) (k : 1 + l = m) (A : Args F B) (z s : FVec F (P2 B n) .f32) : FVec F (P2 B m) .f32 :=
  mulf (minimumf (fill (P2 B m) 0x00000000#32) (maximumf (fill (P2 B m) 0xC47A0000#32) (minimumf (pushH k (cosH h z s)) (cosH h z s)))) (insideH h A z)

/-- Half the change of distance along an interval. -/
def riseH (h : 1 + m = n) (k : 1 + l = m) (A : Args F B) (z s : FVec F (P2 B n) .f32) : FVec F (P2 B m) .f32 :=
  mulf (mulf (slopeH h k A z s) (stepS h z)) (fill (P2 B m) 0x3F000000#32)

/-- The distances at the middles of the intervals. -/
def middleH (h : 1 + m = n) (s : FVec F (P2 B n) .f32) : FVec F (P2 B m) .f32 :=
  mulf (addf (cutL m (by omega) s) (cutR m (by omega) s)) (fill (P2 B m) 0x3F000000#32)

/-- The logistic function of the scaled distance. -/
def sigH (v : BitVec 32) (x : FVec F (P2 B m) .f32) : FVec F (P2 B m) .f32 :=
  Host.divf (fill (P2 B m) 0x3F800000#32) (addf (fill (P2 B m) 0x3F800000#32) (Host.exp (Host.negf (mulf x (fill (P2 B m) v)))))

/-- The opacity from the two logistic values. -/
def mixH (p q : FVec F (P2 B m) .f32) : FVec F (P2 B m) .f32 :=
  Host.divf (addf (subf p q) (fill (P2 B m) 0x3727C5AC#32)) (addf p (fill (P2 B m) 0x3727C5AC#32))

/-- The opacities. -/
def alphaH (h : 1 + m = n) (k : 1 + l = m) (A : Args F B) (v : BitVec 32) (z s : FVec F (P2 B n) .f32) : FVec F (P2 B m) .f32 :=
  mixH (sigH v (subf (middleH h s) (riseH h k A z s))) (sigH v (addf (middleH h s) (riseH h k A z s)))

/-- The weights from the opacities. -/
def weighH (hB : 0 < B) (hm : 0 < m) (k : 1 + l = m) (a : FVec F (P2 B m) .f32) : FVec F (P2 B m) .f32 :=
  addf (mulf a (Host.exp (pushH k (runSumH hB hm (Host.log (addf (subf (fill (P2 B m) 0x3F800000#32) a) (fill (P2 B m) 0x33D6BF95#32)))))))
    (fill (P2 B m) 0x3727C5AC#32)

/-- The distribution from the weights. -/
def cdfH (hB : 0 < B) (hm : 0 < m) (h : 1 + m = n) (w : FVec F (P2 B m) .f32) : FVec F (P2 B n) .f32 :=
  beside h (fill (P2 B 1) 0x00000000#32) (runSumH hB hm (Host.divf w (colsH m (rowSumH w))))

/-- The sixteen levels. -/
def levH : FVec F (P1 16) .f32 := linH 15 0x3D000000#32 0x3F780000#32 0x41700000#32

/-- How many values of the distribution lie at or below each level. -/
def rankH (c : FVec F (P2 B n) .f32) : IVec (P2 B 16) 32 := countH (cmpf .ole (midH 16 c) (col3H B n (levH (F := F))))

/-- The place below each level. -/
def lowH (c : FVec F (P2 B n) .f32) : IVec (P2 B 16) 32 := maxsi (subi (rankH c) (fillI (P2 B 16) 1#32)) (fillI (P2 B 16) 0#32)

/-- The place above each level. -/
def highH (t : BitVec 32) (c : FVec F (P2 B n) .f32) : IVec (P2 B 16) 32 := minsi (rankH c) (fillI (P2 B 16) t)

/-- The width of the distribution between the places, one where tiny. -/
def denH (t : BitVec 32) (c : FVec F (P2 B n) .f32) : FVec F (P2 B 16) .f32 :=
  select (cmpf .olt (subf (takeH (highH t c) c) (takeH (lowH c) c)) (fill (P2 B 16) 0x3727C5AC#32)) (fill (P2 B 16) 0x3F800000#32)
    (subf (takeH (highH t c) c) (takeH (lowH c) c))

/-- The sixteen new samples from the distribution. -/
def invertH (t : BitVec 32) (c z : FVec F (P2 B n) .f32) : FVec F (P2 B 16) .f32 :=
  addf (takeH (lowH c) z) (mulf (Host.divf (subf (rowsH B (rowH levH)) (takeH (lowH c) c)) (denH t c)) (subf (takeH (highH t c) z) (takeH (lowH c) z)))

/-- The sixteen new samples of a round. -/
def freshH (hB : 0 < B) (hm : 0 < m) (h : 1 + m = n) (k : 1 + l = m) (A : Args F B) (v t : BitVec 32) (z s : FVec F (P2 B n) .f32) : FVec F (P2 B 16) .f32 :=
  invertH t (cdfH hB hm h (weighH hB hm k (alphaH h k A v z s))) z

/-! ## What the stages leave in a row -/

section Rows

variable {r : Fin B}

theorem softH_val {s : Shape} {h : FVec Ideal s .f32} {i : s.Idx} {a : ℝ} (hh : h i = (a : EReal)) :
    softH h i = ((softplus a : ℝ) : EReal) := by
  have hs := sub_val hh (fill_val wd_0)
  have hp : (0 : ℝ) < 1 + Real.exp (-|a - 0|) := by positivity
  refine (select_val (p := False) (une_self.trans (by simp)) (add_val hh (fill_val wd_0)) (add_val (max_val hh (fill_val wd_0)) (hlog1p_val (hexp_val (hneg_val (habs_val hs))) hp))).trans ?_
  rw [if_neg not_false, sub_zero]; rfl

/-- Row `r` of the arguments is the ray `R`. -/
structure Args.Of (A : Args Ideal B) (r : Fin B) (R : Ray) : Prop where
  o : Row r A.o R.o
  d : Row r A.d R.d
  near : A.near (ix2 r 0) = ((R.near : ℝ) : EReal)
  far : A.far (ix2 r 0) = ((R.far : ℝ) : EReal)
  W : ∀ i (h : i < 3), Row ⟨i, h⟩ A.W (R.W i)
  b1 : ∀ k (h : k < 256), A.b1 (ix1 ⟨k, h⟩) = ((R.b1 k : ℝ) : EReal)
  w2 : ∀ k (h : k < 256), A.w2 (ix2 ⟨k, h⟩ 0) = ((R.w2 k : ℝ) : EReal)
  b2 : A.b2 (ix1 0) = ((R.b2 : ℝ) : EReal)

variable {A : Args Ideal B} {R : Ray} (hA : A.Of r R)

theorem wd_63 : wd 0x427C0000#32 = (((63 : ℕ) : ℝ) : EReal) := by
  show Ideal.ofBits .f32 _ = _; simp [Ideal.ofBits, Ideal.ieee, -EReal.coe_mul]; norm_num
theorem wd_15 : wd 0x41700000#32 = (((15 : ℕ) : ℝ) : EReal) := by
  show Ideal.ofBits .f32 _ = _; simp [Ideal.ofBits, Ideal.ieee, -EReal.coe_mul]; norm_num
theorem wd_31_32 : wd 0x3F780000#32 = ((31 / 32 : ℝ) : EReal) := by
  show Ideal.ofBits .f32 _ = _; simp [Ideal.ofBits, Ideal.ieee, -EReal.coe_mul]; norm_num

include hA in
theorem start_row : Row r (startH A) R.start := by
  have hl : ∀ j (hj : j < 64), linH (F := Ideal) 63 0x00000000#32 0x3F800000#32 0x427C0000#32 (ix1 ⟨j, hj⟩) = _ :=
    fun j hj => lin_val (k := 63) (by norm_num) (by norm_num) wd_0 wd_1 wd_63 j hj
  refine Row.congr (fun j hj => add_val
    (mul_val ((colsH_at A.near r ⟨j, hj⟩).trans hA.near) ((rowsH_at _ r ⟨j, hj⟩).trans (sub_val (fill_val wd_1) ((rowH_at _ 0 ⟨j, hj⟩).trans (hl j hj)))))
    (mul_val ((colsH_at A.far r ⟨j, hj⟩).trans hA.far) ((rowsH_at _ r ⟨j, hj⟩).trans ((rowH_at _ 0 ⟨j, hj⟩).trans (hl j hj))))) fun j _ => ?_
  unfold Ray.start
  push_cast
  ring

include hA in
theorem points_row {z : FVec Ideal (P2 B n) .f32} {f : ℕ → ℝ} (hz : Row r z f) : Row3 r (pointsH A z) fun k i => R.o i + R.d i * f k :=
  fun k hk i hi => add_val ((midH_at A.o r ⟨k, hk⟩ ⟨i, hi⟩).trans (hA.o i hi))
    (mul_val ((midH_at A.d r ⟨k, hk⟩ ⟨i, hi⟩).trans (hA.d i hi)) ((lastH_at z r ⟨k, hk⟩ ⟨i, hi⟩).trans (hz k hk)))

include hA in
theorem sdfH_row {z : FVec Ideal (P2 B n) .f32} {f : ℕ → ℝ} (hz : Row r z f) : Row r (sdfH A z) fun j => R.sdf (f j) := by
  have h1 := dotH_row (points_row hA hz) hA.W
  have h2 : Row3 r (softH (addf (dotH (pointsH A z) A.W) (allH B n A.b1))) _ := fun k hk j hj =>
    softH_val (add_val (h1 k hk j hj) ((allH_at A.b1 r ⟨k, hk⟩ ⟨j, hj⟩).trans (hA.b1 j hj)))
  have h3 := dotH_row (w := A.w2) (g := fun i _ => R.w2 i) h2 (fun i hi j hj => by
    rw [show (⟨j, hj⟩ : Fin 1) = 0 from Subsingleton.elim _ _]; exact hA.w2 i hi)
  intro j hj
  refine add_val ?_ ((oneH_at A.b2 r ⟨j, hj⟩).trans hA.b2)
  rw [shapeCast_apply _ _ _ (ix3 r ⟨j, hj⟩ (0 : Fin 1)) (by
    rw [Shape.rowMajor_val_two, Shape.rowMajor_val_three]
    show (r.val * n + j) * 1 + 0 = r.val * n + j
    rw [mul_one, add_zero])]
  exact h3 j hj 0 one_pos

include hA in
theorem radH_row {z : FVec Ideal (P2 B n) .f32} {f : ℕ → ℝ} (hz : Row r z f) : Row r (radH A z) fun j => Real.sqrt (R.rad2 (f j)) :=
  have hp := points_row hA hz
  fun j hj => hsqrt_val (lastSumH_row (fun k hk i hi => mul_val (hp k hk i hi) (hp k hk i hi)) j hj) (sum_nonneg fun i _ => mul_self_nonneg _)

theorem sqrt_lt_one (x : ℝ) : (Real.sqrt x < 1) = (x < 1) := propext (by rw [Real.sqrt_lt' one_pos, one_pow])

include hA in
theorem insideH_row (h : 1 + m = n) {z : FVec Ideal (P2 B n) .f32} {f : ℕ → ℝ} (hz : Row r z f) : Row r (insideH h A z) (R.inside f) :=
  Row.congr (fun j hj => ubit_val _ (or_val (olt_val (cutL_row (radH_row hA hz) m (by omega) j hj) (fill_val wd_1))
    (olt_val (cutR_row (radH_row hA hz) m (by omega) j hj) (fill_val wd_1)))) fun j _ => by
      unfold Ray.inside; rw [sqrt_lt_one, sqrt_lt_one]

theorem cosH_row (h : 1 + m = n) {z s : FVec Ideal (P2 B n) .f32} {f g : ℕ → ℝ} (hz : Row r z f) (hs : Row r s g)
    (hm : ∀ j, j < m → f j ≤ f (j + 1)) : Row r (cosH h z s) (cosr f g) :=
  fun j hj => hdiv_val (step_row h hs j hj) (add_val (step_row h hz j hj) (fill_val wd_eps))
    (by have := hm j hj; have := eps_pos; linarith)

theorem pushH_row (k : 1 + l = m) {x : FVec Ideal (P2 B m) .f32} {f : ℕ → ℝ} (hx : Row r x f) : Row r (pushH k x) (shl 0 1 f) :=
  (beside_row k (fill_row wd_0) (cutL_row hx l (by omega))).congr fun j _ => rfl

include hA in
theorem riseH_row (h : 1 + m = n) (k : 1 + l = m) {z s : FVec Ideal (P2 B n) .f32} {f g : ℕ → ℝ} (hz : Row r z f) (hs : Row r s g)
    (hm : ∀ j, j < m → f j ≤ f (j + 1)) : Row r (riseH h k A z s) fun j => R.slope f g j * (f (j + 1) - f j) * (1 / 2) :=
  fun j hj => mul_val (mul_val (mul_val (min_val (fill_val wd_0) (max_val (fill_val wd_m1000)
    (min_val (pushH_row k (cosH_row h hz hs hm) j hj) (cosH_row h hz hs hm j hj)))) (insideH_row hA h hz j hj)) (step_row h hz j hj)) (fill_val wd_half)

theorem middleH_row (h : 1 + m = n) {s : FVec Ideal (P2 B n) .f32} {g : ℕ → ℝ} (hs : Row r s g) :
    Row r (middleH h s) fun j => (g j + g (j + 1)) * (1 / 2) :=
  fun j hj => mul_val (add_val (cutL_row hs m (by omega) j hj) (cutR_row hs m (by omega) j hj)) (fill_val wd_half)

theorem sigH_row {v : BitVec 32} {c : ℝ} (hv : wd v = (c : EReal)) {x : FVec Ideal (P2 B m) .f32} {f : ℕ → ℝ} (hx : Row r x f) :
    Row r (sigH v x) fun j => sg (f j * c) :=
  fun j hj => hdiv_val (fill_val wd_1) (add_val (fill_val wd_1) (hexp_val (hneg_val (mul_val (hx j hj) (fill_val hv)))))
    (by positivity)

include hA in
theorem alphaH_row (h : 1 + m = n) (k : 1 + l = m) {v : BitVec 32} {c : ℝ} (hv : wd v = (c : EReal)) {z s : FVec Ideal (P2 B n) .f32} {f : ℕ → ℝ}
    (hz : Row r z f) (hs : Row r s fun j => R.sdf (f j)) (hm : ∀ j, j < m → f j ≤ f (j + 1)) :
    Row r (alphaH h k A v z s) (R.alpha c f) := fun j hj =>
  have hp := sigH_row hv (fun j hj => sub_val (middleH_row h hs j hj) (riseH_row hA h k hz hs hm j hj)) j hj
  have hq := sigH_row hv (fun j hj => add_val (middleH_row h hs j hj) (riseH_row hA h k hz hs hm j hj)) j hj
  hdiv_val (add_val (sub_val hp hq) (fill_val wd_eps)) (add_val hp (fill_val wd_eps))
    (by have h1 := sg_pos (((R.sdf (f j) + R.sdf (f (j + 1))) * (1 / 2) - R.slope f (fun j => R.sdf (f j)) j * (f (j + 1) - f j) * (1 / 2)) * c)
        have h2 := eps_pos
        exact (add_pos h1 h2).ne')

theorem weighH_row (hB : 0 < B) (hm : 0 < m) (k : 1 + l = m) {a : FVec Ideal (P2 B m) .f32} {f : ℕ → ℝ} (ha : Row r a f) (hf : ∀ j, 0 < 1 - f j + del) :
    Row r (weighH hB hm k a) fun j => f j * trans f j + eps := by
  refine Row.congr (fun j hj => add_val (mul_val (ha j hj) (hexp_val (pushH_row k (runSumH_row hB hm
    (fun j hj => hlog_val (add_val (sub_val (fill_val wd_1) (ha j hj)) (fill_val wd_del)) (hf j))) j hj))) (fill_val wd_eps)) fun j hj => ?_
  rw [← exp_sum_log f hf j]
  congr 3
  unfold shl
  split
  · next h => rw [show j = 0 by omega, range_zero, sum_empty]
  · next h => show ∑ i ∈ range (j - 1 + 1), _ = _; rw [show j - 1 + 1 = j by omega]

theorem cdfH_row (hB : 0 < B) (hm : 0 < m) (h : 1 + m = n) {w : FVec Ideal (P2 B m) .f32} {f : ℕ → ℝ} (hw : Row r w f) (hp : ∀ j, j < m → 0 < f j) :
    Row r (cdfH hB hm h w) (cdf m f) := by
  have ht := total_pos hp hm
  refine Row.congr (beside_row h (fill_row wd_0) (runSumH_row hB hm (fun j hj => hdiv_val (hw j hj)
    ((colsH_at _ r ⟨j, hj⟩).trans (rowSumH_row hw 0 one_pos)) ht.ne'))) fun j hj => ?_
  unfold cat cdf
  split
  · next h0 => rw [show j = 0 by omega, range_zero, sum_empty]
  · next h0 => show ∑ i ∈ range (j - 1 + 1), _ = _; rw [show j - 1 + 1 = j by omega]

theorem levH_at (j : ℕ) (hj : j < 16) : levH (F := Ideal) (ix1 ⟨j, hj⟩) = ((lev j : ℝ) : EReal) := by
  refine (lin_val (k := 15) (by norm_num) (by norm_num) wd_32nd wd_31_32 wd_15 j hj).trans ?_
  congr 1
  unfold lev
  push_cast
  ring

section Invert

variable {w g : ℕ → ℝ} (hw : ∀ j, j < m → 0 < w j) (hm : 0 < m) (h : 1 + m = n) {c z : FVec Ideal (P2 B n) .f32} (hc : Row r c (cdf m w)) (hz : Row r z g)
  (hn : n < 2 ^ 31)

include hw hm h hc in
theorem rank_at (k : ℕ) (hk : k < 16) : rankH c (ix2 r ⟨k, hk⟩) = BitVec.ofNat 32 (bin m w k) := by
  refine (countH_at r ⟨k, hk⟩ _ (fun j => cdf m w j ≤ lev k) fun j => ole_val ((midH_at c r ⟨k, hk⟩ j).trans (hc j.val j.isLt))
    ((col3H_at _ r ⟨k, hk⟩ j).trans (levH_at k hk))).trans (congrArg _ ?_)
  subst h
  unfold bin count
  congr 1
  ext j
  simp only [mem_filter, mem_range]
  refine ⟨fun hj => ⟨?_, hj.2⟩, fun hj => ⟨by omega, hj.2⟩⟩
  by_contra hge
  have : j = m := by omega
  subst this
  have h1 := hj.2
  rw [cdf_last hw hm] at h1
  exact absurd (lev_lt hk) (not_lt.mpr h1)

theorem toInt_small {j : ℕ} (hj : j < 2 ^ 31) : (BitVec.ofNat 32 j).toInt = (j : ℤ) := by
  rw [BitVec.toInt_eq_toNat_of_lt] <;> simp [BitVec.toNat_ofNat] <;> omega

include hw hm h hc hn in
theorem low_at (k : ℕ) (hk : k < 16) : lowH c (ix2 r ⟨k, hk⟩) = BitVec.ofNat 32 (bin m w k - 1) := by
  have h1 := bin_pos hw hm k
  have h2 := bin_le (m := m) (w := w) k
  show IntOp.maxsi (IntOp.subi (rankH c (ix2 r ⟨k, hk⟩)) 1#32) 0#32 = _
  rw [rank_at hw hm h hc k hk]
  have e : IntOp.subi (BitVec.ofNat 32 (bin m w k)) 1#32 = BitVec.ofNat 32 (bin m w k - 1) := by
    obtain ⟨b, hb⟩ := Nat.exists_eq_succ_of_ne_zero h1.ne'
    rw [hb]
    show BitVec.ofNat 32 (b + 1) - 1#32 = BitVec.ofNat 32 (b + 1 - 1)
    rw [BitVec.ofNat_add]
    exact BitVec.add_sub_cancel _ _
  rw [e]
  unfold IntOp.maxsi
  rw [BitVec.slt_eq_decide, toInt_small (by omega)]
  rw [toInt_small (by omega)]
  split
  · rfl
  · next hx =>
    have : ¬ (((0 : ℕ) : ℤ) < ((bin m w k - 1 : ℕ) : ℤ)) := by simpa using hx
    rw [show bin m w k - 1 = 0 by omega]

include hw hm h hc hn in
theorem high_at {t : BitVec 32} (ht : t = BitVec.ofNat 32 m) (k : ℕ) (hk : k < 16) : highH t c (ix2 r ⟨k, hk⟩) = BitVec.ofNat 32 (bin m w k) := by
  have h2 := bin_le (m := m) (w := w) k
  show IntOp.minsi (rankH c (ix2 r ⟨k, hk⟩)) t = _
  rw [rank_at hw hm h hc k hk, ht]
  unfold IntOp.minsi
  rw [BitVec.slt_eq_decide, toInt_small (by omega), toInt_small (by omega)]
  split
  · rfl
  · next hx =>
    have : ¬ ((bin m w k : ℤ) < (m : ℤ)) := by simpa using hx
    rw [show bin m w k = m by omega]

include hw hm h hc hz hn in
theorem invertH_row {t : BitVec 32} (ht : t = BitVec.ofNat 32 m) : Row r (invertH t c z) (newz m w g) := by
  have hb := fun k => bin_le (m := m) (w := w) k
  have hl := low_at hw hm h hc hn
  have hh := high_at hw hm h hc hn ht
  have lo : ∀ {x : FVec Ideal (P2 B n) .f32} {f : ℕ → ℝ}, Row r x f → Row r (takeH (lowH c) x) fun k => f (bin m w k - 1) :=
    fun hx => takeH_row (q := fun k => bin m w k - 1) hl hn (fun k _ => by have := hb k; omega) hx
  have hi : ∀ {x : FVec Ideal (P2 B n) .f32} {f : ℕ → ℝ}, Row r x f → Row r (takeH (highH t c) x) fun k => f (bin m w k) :=
    fun hx => takeH_row (q := fun k => bin m w k) hh hn (fun k _ => by have := hb k; omega) hx
  have hd : Row r (denH t c) fun k => den m w (bin m w k - 1) := fun k hk => by
    have h1 := bin_pos hw hm k
    have hs := sub_val (hi hc k hk) (lo hc k hk)
    refine (select_val (olt_val hs (fill_val wd_eps)) (fill_val wd_1) hs).trans ?_
    unfold den
    show _ = (((if cdf m w (bin m w k - 1 + 1) - _ < eps then _ else _ : ℝ)) : EReal)
    rw [show bin m w k - 1 + 1 = bin m w k by omega]
  exact fun k hk => add_val (lo hz k hk) (mul_val (hdiv_val (sub_val ((rowsH_at _ r ⟨k, hk⟩).trans ((rowH_at _ 0 ⟨k, hk⟩).trans (levH_at k hk))) (lo hc k hk)) (hd k hk)
    (den_pos m w _).ne') (sub_val (hi hz k hk) (lo hz k hk)))

end Invert

include hA in
theorem freshH_row (hB : 0 < B) (hm : 0 < m) (h : 1 + m = n) (k : 1 + l = m) (hn : n < 2 ^ 31) {v t : BitVec 32} {c : ℝ} (hv : wd v = (c : EReal)) (hc : 0 ≤ c)
    (ht : t = BitVec.ofNat 32 m) {z s : FVec Ideal (P2 B n) .f32} {f : ℕ → ℝ} (hz : Row r z f) (hs : Row r s fun j => R.sdf (f j))
    (hf : ∀ j, j < m → f j ≤ f (j + 1)) : Row r (freshH hB hm h k A v t z s) (R.fresh m c f) :=
  invertH_row (R.wt_pos hc hf) hm h (cdfH_row hB hm h (weighH_row hB hm k (alphaH_row hA h k hv hz hs hf) fun j => R.factor_pos j) (R.wt_pos hc hf)) hz hn ht

section Merge

variable (hm : 0 < m) (hN : n + 16 = N) (h : 1 + m = n) {c : ℝ} (hc : 0 ≤ c) {z s : FVec Ideal (P2 B n) .f32} {x : FVec Ideal (P2 B 16) .f32} {f : ℕ → ℝ}
  (hz : Row r z f) (hs : Row r s fun j => R.sdf (f j)) (hf : ∀ j, j < m → f j ≤ f (j + 1)) (hx : Row r x (R.fresh m c f))

include hm hN h hc hf in
theorem src_within (p : ℕ) (hp : p < N) : src n f (R.fresh m c f) p < N := by
  obtain rfl : n = m + 1 := by omega
  subst hN
  exact src_lt (fun _ _ => old_mono hf) (fun _ _ => R.fresh_mono hm hc hf) hp

include hm hN h hc hf in
theorem ordered (p q : ℕ) (hpq : p < q) (hq : q < N) : cat n f (R.fresh m c f) (src n f (R.fresh m c f) p) < cat n f (R.fresh m c f) (src n f (R.fresh m c f) q)
    ∨ (cat n f (R.fresh m c f) (src n f (R.fresh m c f) p) = cat n f (R.fresh m c f) (src n f (R.fresh m c f) q)
      ∧ src n f (R.fresh m c f) p < src n f (R.fresh m c f) q) := by
  obtain rfl : n = m + 1 := by omega
  subst hN
  exact src_before (fun _ _ => old_mono hf) (fun _ _ => R.fresh_mono hm hc hf) hpq hq

theorem round_eq (h : 1 + m = n) (c : ℝ) (f : ℕ → ℝ) (p : ℕ) : cat n f (R.fresh m c f) (src n f (R.fresh m c f) p) = R.round m c f p := by
  obtain rfl : n = m + 1 := by omega
  rfl

include hm h hc hz hf hx in
/-- Sorting the old and the new samples leaves the samples of the next round. -/
theorem sorted_row : Row r (Host.sort (P2 B N) 1 (Cert.ReferenceIdeal.comparator_f32_d1 (F := Ideal)) (beside hN z x)) (R.round m c f) :=
  (sort_row (beside_row hN hz hx) (src_within hm hN h hc hf) (ordered hm hN h hc hf)).congr fun p _ => round_eq h c f p

include hm h hc hz hf hx in
theorem paired_row {y : FVec Ideal (P2 B N) .f32} :
    Row r (Host.sort2 (P2 B N) 1 (Cert.ReferenceIdeal.comparator_f32_f32_d1 (F := Ideal)) (beside hN z x) y).1 (R.round m c f) :=
  (sort2_fst_row (beside_row hN hz hx) (src_within hm hN h hc hf) (ordered hm hN h hc hf)).congr fun p _ => round_eq h c f p

include hA hm h hc hz hs hf hx in
/-- The distances carried along are those at the merged samples. -/
theorem carried_row : Row r (Host.sort2 (P2 B N) 1 (Cert.ReferenceIdeal.comparator_f32_f32_d1 (F := Ideal)) (beside hN z x) (beside hN s (sdfH A x))).2
    fun p => R.sdf (R.round m c f p) :=
  (sort2_snd_row (beside_row hN hz hx) (beside_row hN hs (sdfH_row hA hx)) (src_within hm hN h hc hf) (ordered hm hN h hc hf)).congr fun p _ => by
    rw [← round_eq h c f p]
    unfold cat
    split <;> rfl

end Merge

end Rows

end Cert.Proof

end
-- ==== Proof.RefWords.lean ====
/- What the reference program writes, named by the stages it is made of, and what its last array holds in a ray's row. -/
module

public import proofs.«01_k».proof.Proof.RefStages
public import proofs.«01_k».proof.Proof.Block
public import proofs.«01_k».proof.Proof.Gen.ReferenceIdeal.Read

@[expose] public section

noncomputable section

namespace Cert.Proof.Ref

open Idealize.ShloMosaic Idealize.ShloMosaic.ValueIdx
open Cert.ReferenceIdeal Cert.ReferenceIdeal.Read Cert.Proof

section Words

variable {F : FTy → Type} [FloatOps F]
variable (x0 x1 : FVec F (P2 16384 3) .f32) (x2 x3 : FVec F (P2 16384 1) .f32) (x4 : FVec F (P2 3 256) .f32) (x5 : FVec F (P1 256) .f32)
  (x6 : FVec F (P2 256 1) .f32) (x7 : FVec F (P1 1) .f32)

theorem first_z : val_main_v11 (F := F) x2 x3 = startH ⟨x0, x1, x2, x3, x4, x5, x6, x7⟩ := rfl

theorem first_s : (val_main_v29 (F := F) x0 x1 x2 x3 x4 x5 x6 x7) = sdfH ⟨x0, x1, x2, x3, x4, x5, x6, x7⟩ (val_main_v11 (F := F) x2 x3) := rfl

theorem alpha1 : (val_main_v97 (F := F) x0 x1 x2 x3 x4 x5 x6 x7) = alphaH (n := 64) (m := 63) (l := 62) rfl rfl ⟨x0, x1, x2, x3, x4, x5, x6, x7⟩ 0x42800000#32 (val_main_v11 (F := F) x2 x3) (val_main_v29 (F := F) x0 x1 x2 x3 x4 x5 x6 x7) := rfl

theorem cdf1 : (val_main_v118 (F := F) x0 x1 x2 x3 x4 x5 x6 x7)
    = cdfH (n := 64) (m := 63) (by norm_num) (by norm_num) rfl (weighH (l := 62) (by norm_num) (by norm_num) rfl (val_main_v97 (F := F) x0 x1 x2 x3 x4 x5 x6 x7)) := rfl

theorem fresh1 : (val_main_v172 (F := F) x0 x1 x2 x3 x4 x5 x6 x7) = invertH 63#32 (val_main_v118 (F := F) x0 x1 x2 x3 x4 x5 x6 x7) (val_main_v11 (F := F) x2 x3) := rfl

theorem sdf1 : (val_main_v191 (F := F) x0 x1 x2 x3 x4 x5 x6 x7) = sdfH ⟨x0, x1, x2, x3, x4, x5, x6, x7⟩ (val_main_v172 (F := F) x0 x1 x2 x3 x4 x5 x6 x7) := rfl

theorem next_z1 : (val_main_v193_0 (F := F) x0 x1 x2 x3 x4 x5 x6 x7) = (Host.sort2 (P2 16384 80) 1 comparator_f32_f32_d1
    (beside rfl (val_main_v11 (F := F) x2 x3) (val_main_v172 (F := F) x0 x1 x2 x3 x4 x5 x6 x7))
    (beside rfl (val_main_v29 (F := F) x0 x1 x2 x3 x4 x5 x6 x7) (val_main_v191 (F := F) x0 x1 x2 x3 x4 x5 x6 x7))).1 := rfl

theorem next_s1 : (val_main_v193_1 (F := F) x0 x1 x2 x3 x4 x5 x6 x7) = (Host.sort2 (P2 16384 80) 1 comparator_f32_f32_d1
    (beside rfl (val_main_v11 (F := F) x2 x3) (val_main_v172 (F := F) x0 x1 x2 x3 x4 x5 x6 x7))
    (beside rfl (val_main_v29 (F := F) x0 x1 x2 x3 x4 x5 x6 x7) (val_main_v191 (F := F) x0 x1 x2 x3 x4 x5 x6 x7))).2 := rfl

theorem alpha2 : (val_main_v261 (F := F) x0 x1 x2 x3 x4 x5 x6 x7) = alphaH (n := 80) (m := 79) (l := 78) rfl rfl ⟨x0, x1, x2, x3, x4, x5, x6, x7⟩ 0x43000000#32 (val_main_v193_0 (F := F) x0 x1 x2 x3 x4 x5 x6 x7) (val_main_v193_1 (F := F) x0 x1 x2 x3 x4 x5 x6 x7) := rfl

theorem cdf2 : (val_main_v282 (F := F) x0 x1 x2 x3 x4 x5 x6 x7)
    = cdfH (n := 80) (m := 79) (by norm_num) (by norm_num) rfl (weighH (l := 78) (by norm_num) (by norm_num) rfl (val_main_v261 (F := F) x0 x1 x2 x3 x4 x5 x6 x7)) := rfl

theorem fresh2 : (val_main_v336 (F := F) x0 x1 x2 x3 x4 x5 x6 x7) = invertH 79#32 (val_main_v282 (F := F) x0 x1 x2 x3 x4 x5 x6 x7) (val_main_v193_0 (F := F) x0 x1 x2 x3 x4 x5 x6 x7) := rfl

theorem sdf2 : (val_main_v355 (F := F) x0 x1 x2 x3 x4 x5 x6 x7) = sdfH ⟨x0, x1, x2, x3, x4, x5, x6, x7⟩ (val_main_v336 (F := F) x0 x1 x2 x3 x4 x5 x6 x7) := rfl

theorem next_z2 : (val_main_v357_0 (F := F) x0 x1 x2 x3 x4 x5 x6 x7) = (Host.sort2 (P2 16384 96) 1 comparator_f32_f32_d1
    (beside rfl (val_main_v193_0 (F := F) x0 x1 x2 x3 x4 x5 x6 x7) (val_main_v336 (F := F) x0 x1 x2 x3 x4 x5 x6 x7))
    (beside rfl (val_main_v193_1 (F := F) x0 x1 x2 x3 x4 x5 x6 x7) (val_main_v355 (F := F) x0 x1 x2 x3 x4 x5 x6 x7))).1 := rfl

theorem next_s2 : (val_main_v357_1 (F := F) x0 x1 x2 x3 x4 x5 x6 x7) = (Host.sort2 (P2 16384 96) 1 comparator_f32_f32_d1
    (beside rfl (val_main_v193_0 (F := F) x0 x1 x2 x3 x4 x5 x6 x7) (val_main_v336 (F := F) x0 x1 x2 x3 x4 x5 x6 x7))
    (beside rfl (val_main_v193_1 (F := F) x0 x1 x2 x3 x4 x5 x6 x7) (val_main_v355 (F := F) x0 x1 x2 x3 x4 x5 x6 x7))).2 := rfl

theorem alpha3 : (val_main_v425 (F := F) x0 x1 x2 x3 x4 x5 x6 x7) = alphaH (n := 96) (m := 95) (l := 94) rfl rfl ⟨x0, x1, x2, x3, x4, x5, x6, x7⟩ 0x43800000#32 (val_main_v357_0 (F := F) x0 x1 x2 x3 x4 x5 x6 x7) (val_main_v357_1 (F := F) x0 x1 x2 x3 x4 x5 x6 x7) := rfl

theorem cdf3 : (val_main_v446 (F := F) x0 x1 x2 x3 x4 x5 x6 x7)
    = cdfH (n := 96) (m := 95) (by norm_num) (by norm_num) rfl (weighH (l := 94) (by norm_num) (by norm_num) rfl (val_main_v425 (F := F) x0 x1 x2 x3 x4 x5 x6 x7)) := rfl

theorem fresh3 : (val_main_v500 (F := F) x0 x1 x2 x3 x4 x5 x6 x7) = invertH 95#32 (val_main_v446 (F := F) x0 x1 x2 x3 x4 x5 x6 x7) (val_main_v357_0 (F := F) x0 x1 x2 x3 x4 x5 x6 x7) := rfl

theorem sdf3 : (val_main_v519 (F := F) x0 x1 x2 x3 x4 x5 x6 x7) = sdfH ⟨x0, x1, x2, x3, x4, x5, x6, x7⟩ (val_main_v500 (F := F) x0 x1 x2 x3 x4 x5 x6 x7) := rfl

theorem next_z3 : (val_main_v521_0 (F := F) x0 x1 x2 x3 x4 x5 x6 x7) = (Host.sort2 (P2 16384 112) 1 comparator_f32_f32_d1
    (beside rfl (val_main_v357_0 (F := F) x0 x1 x2 x3 x4 x5 x6 x7) (val_main_v500 (F := F) x0 x1 x2 x3 x4 x5 x6 x7))
    (beside rfl (val_main_v357_1 (F := F) x0 x1 x2 x3 x4 x5 x6 x7) (val_main_v519 (F := F) x0 x1 x2 x3 x4 x5 x6 x7))).1 := rfl

theorem next_s3 : (val_main_v521_1 (F := F) x0 x1 x2 x3 x4 x5 x6 x7) = (Host.sort2 (P2 16384 112) 1 comparator_f32_f32_d1
    (beside rfl (val_main_v357_0 (F := F) x0 x1 x2 x3 x4 x5 x6 x7) (val_main_v500 (F := F) x0 x1 x2 x3 x4 x5 x6 x7))
    (beside rfl (val_main_v357_1 (F := F) x0 x1 x2 x3 x4 x5 x6 x7) (val_main_v519 (F := F) x0 x1 x2 x3 x4 x5 x6 x7))).2 := rfl

theorem alpha4 : (val_main_v589 (F := F) x0 x1 x2 x3 x4 x5 x6 x7) = alphaH (n := 112) (m := 111) (l := 110) rfl rfl ⟨x0, x1, x2, x3, x4, x5, x6, x7⟩ 0x44000000#32 (val_main_v521_0 (F := F) x0 x1 x2 x3 x4 x5 x6 x7) (val_main_v521_1 (F := F) x0 x1 x2 x3 x4 x5 x6 x7) := rfl

theorem cdf4 : (val_main_v610 (F := F) x0 x1 x2 x3 x4 x5 x6 x7)
    = cdfH (n := 112) (m := 111) (by norm_num) (by norm_num) rfl (weighH (l := 110) (by norm_num) (by norm_num) rfl (val_main_v589 (F := F) x0 x1 x2 x3 x4 x5 x6 x7)) := rfl

theorem fresh4 : (val_main_v664 (F := F) x0 x1 x2 x3 x4 x5 x6 x7) = invertH 111#32 (val_main_v610 (F := F) x0 x1 x2 x3 x4 x5 x6 x7) (val_main_v521_0 (F := F) x0 x1 x2 x3 x4 x5 x6 x7) := rfl

theorem last_z : (val_main_v666 (F := F) x0 x1 x2 x3 x4 x5 x6 x7) = Host.sort (P2 16384 128) 1 comparator_f32_d1 (beside rfl (val_main_v521_0 (F := F) x0 x1 x2 x3 x4 x5 x6 x7) (val_main_v664 (F := F) x0 x1 x2 x3 x4 x5 x6 x7)) := rfl

end Words

section Final

variable (x0 x1 : FVec Ideal (P2 16384 3) .f32) (x2 x3 : FVec Ideal (P2 16384 1) .f32) (x4 : FVec Ideal (P2 3 256) .f32) (x5 : FVec Ideal (P1 256) .f32)
  (x6 : FVec Ideal (P2 256 1) .f32) (x7 : FVec Ideal (P1 1) .f32)

/-- The new samples of a round, from the values the program names on the way. -/
theorem fresh_of {B n m l : ℕ} {r : Fin B} {A : Args Ideal B} {R : Ray} (hA : A.Of r R) (hB : 0 < B) (hm : 0 < m) (h : 1 + m = n) (k : 1 + l = m)
    (hn : n < 2 ^ 31) {v t : BitVec 32} {c : ℝ} (hv : wd v = (c : EReal)) (hc : 0 ≤ c) (ht : t = BitVec.ofNat 32 m) {z s : FVec Ideal (P2 B n) .f32} {f : ℕ → ℝ}
    (hz : Row r z f) (hs : Row r s fun j => R.sdf (f j)) (hf : ∀ j, j < m → f j ≤ f (j + 1)) {a : FVec Ideal (P2 B m) .f32} {d : FVec Ideal (P2 B n) .f32}
    {x : FVec Ideal (P2 B 16) .f32} (ea : a = alphaH h k A v z s) (ed : d = cdfH hB hm h (weighH hB hm k a)) (ex : x = invertH t d z) :
    Row r x (R.fresh m c f) := by
  rw [ex, ed, ea]
  exact freshH_row hA hB hm h k hn hv hc ht hz hs hf

/-- The reference's last array holds the ray's samples at the end. -/
theorem final_row {r : Fin 16384} {R : Ray} (hA : Args.Of ⟨x0, x1, x2, x3, x4, x5, x6, x7⟩ r R) (hnf : R.near ≤ R.far) :
    Row r (val_main_v666 (F := Ideal) x0 x1 x2 x3 x4 x5 x6 x7) R.final := by
  have m0 : ∀ j, j < 63 → R.start j ≤ R.start (j + 1) := fun j _ => R.start_step hnf j
  have z0 : Row r (val_main_v11 (F := Ideal) x2 x3) R.start := by rw [first_z x0 x1 x2 x3 x4 x5 x6 x7]; exact start_row hA
  have s0 : Row r (val_main_v29 (F := Ideal) x0 x1 x2 x3 x4 x5 x6 x7) fun j => R.sdf (R.start j) := by rw [first_s]; exact sdfH_row hA z0
  have f1 := fresh_of (n := 64) (m := 63) (l := 62) (t := 63#32) hA (by norm_num) (by norm_num) rfl rfl (by norm_num) wd_64 (by norm_num) rfl z0 s0 m0 (alpha1 x0 x1 x2 x3 x4 x5 x6 x7) (cdf1 x0 x1 x2 x3 x4 x5 x6 x7) (fresh1 x0 x1 x2 x3 x4 x5 x6 x7)
  have m1 : ∀ j, j < 79 → _ := fun j hj => R.round_step (m := 63) (by norm_num) (v := 64) (by norm_num) m0 (p := j) hj
  have z1 := paired_row (n := 64) (m := 63) (N := 80) (y := beside rfl (val_main_v29 (F := Ideal) x0 x1 x2 x3 x4 x5 x6 x7) (val_main_v191 (F := Ideal) x0 x1 x2 x3 x4 x5 x6 x7)) (by norm_num) rfl rfl (by norm_num) z0 m0 f1
  rw [← next_z1 x0 x1 x2 x3 x4 x5 x6 x7] at z1
  have s1 := carried_row (n := 64) (m := 63) (N := 80) hA (by norm_num) rfl rfl (by norm_num) z0 s0 m0 f1
  rw [← sdf1 x0 x1 x2 x3 x4 x5 x6 x7, ← next_s1 x0 x1 x2 x3 x4 x5 x6 x7] at s1
  have f2 := fresh_of (n := 80) (m := 79) (l := 78) (t := 79#32) hA (by norm_num) (by norm_num) rfl rfl (by norm_num) wd_128 (by norm_num) rfl z1 s1 m1 (alpha2 x0 x1 x2 x3 x4 x5 x6 x7) (cdf2 x0 x1 x2 x3 x4 x5 x6 x7) (fresh2 x0 x1 x2 x3 x4 x5 x6 x7)
  have m2 : ∀ j, j < 95 → _ := fun j hj => R.round_step (m := 79) (by norm_num) (v := 128) (by norm_num) m1 (p := j) hj
  have z2 := paired_row (n := 80) (m := 79) (N := 96) (y := beside rfl (val_main_v193_1 (F := Ideal) x0 x1 x2 x3 x4 x5 x6 x7) (val_main_v355 (F := Ideal) x0 x1 x2 x3 x4 x5 x6 x7)) (by norm_num) rfl rfl (by norm_num) z1 m1 f2
  rw [← next_z2 x0 x1 x2 x3 x4 x5 x6 x7] at z2
  have s2 := carried_row (n := 80) (m := 79) (N := 96) hA (by norm_num) rfl rfl (by norm_num) z1 s1 m1 f2
  rw [← sdf2 x0 x1 x2 x3 x4 x5 x6 x7, ← next_s2 x0 x1 x2 x3 x4 x5 x6 x7] at s2
  have f3 := fresh_of (n := 96) (m := 95) (l := 94) (t := 95#32) hA (by norm_num) (by norm_num) rfl rfl (by norm_num) wd_256 (by norm_num) rfl z2 s2 m2 (alpha3 x0 x1 x2 x3 x4 x5 x6 x7) (cdf3 x0 x1 x2 x3 x4 x5 x6 x7) (fresh3 x0 x1 x2 x3 x4 x5 x6 x7)
  have m3 : ∀ j, j < 111 → _ := fun j hj => R.round_step (m := 95) (by norm_num) (v := 256) (by norm_num) m2 (p := j) hj
  have z3 := paired_row (n := 96) (m := 95) (N := 112) (y := beside rfl (val_main_v357_1 (F := Ideal) x0 x1 x2 x3 x4 x5 x6 x7) (val_main_v519 (F := Ideal) x0 x1 x2 x3 x4 x5 x6 x7)) (by norm_num) rfl rfl (by norm_num) z2 m2 f3
  rw [← next_z3 x0 x1 x2 x3 x4 x5 x6 x7] at z3
  have s3 := carried_row (n := 96) (m := 95) (N := 112) hA (by norm_num) rfl rfl (by norm_num) z2 s2 m2 f3
  rw [← sdf3 x0 x1 x2 x3 x4 x5 x6 x7, ← next_s3 x0 x1 x2 x3 x4 x5 x6 x7] at s3
  have f4 := fresh_of (n := 112) (m := 111) (l := 110) (t := 111#32) hA (by norm_num) (by norm_num) rfl rfl (by norm_num) wd_512 (by norm_num) rfl z3 s3 m3 (alpha4 x0 x1 x2 x3 x4 x5 x6 x7) (cdf4 x0 x1 x2 x3 x4 x5 x6 x7) (fresh4 x0 x1 x2 x3 x4 x5 x6 x7)
  rw [last_z x0 x1 x2 x3 x4 x5 x6 x7]
  exact sorted_row (n := 112) (m := 111) (N := 128) (by norm_num) rfl rfl (by norm_num) z3 m3 f4

end Final

end Cert.Proof.Ref

end
-- ==== Proof.Finite.lean ====
/- What the precondition says: every argument is a number, and no ray ends before it starts. -/
module

public import proofs.«01_k».proof.Pre_sorted_finite
public import proofs.«01_k».proof.Proof.Ops
public import Idealize.ShloMosaic.Lib.ReduceAll
public import Idealize.ShloMosaic.Lib.Pointwise.Select

@[expose] public section

noncomputable section

namespace Cert.Proof

open Cert.Pre_sorted_finite Idealize.ShloMosaic

/-- The shape conditions the precondition's operations state. -/
theorem pre_facts : Cert.Pre_sorted_finite.Facts where
  reducesTo_S16384x1_S_d0_1 := by decide
  h_S_ := by decide
  bcast_S_S16384x1 := by decide
  bcast_S_S16384x3 := by decide
  reducesTo_S16384x3_S_d0_1 := by decide
  bcast_S_S3x256 := by decide
  reducesTo_S3x256_S_d0_1 := by decide
  bcast_S_S256 := by decide
  reducesTo_S256_S_d0 := by decide
  bcast_S_S256x1 := by decide
  reducesTo_S256x1_S_d0_1 := by decide
  bcast_S_S1 := by decide
  reducesTo_S1_S_d0 := by decide

/-- Every element is a number. -/
def Numbers {s : Shape} (x : FVec Ideal s .f32) : Prop := ∀ i, x i = ((EReal.toReal (x i) : ℝ) : EReal)

theorem wd_top : wd 0x7F800000#32 = (⊤ : EReal) := by
  show Ideal.ofBits .f32 _ = _; simp [Ideal.ofBits, Ideal.ieee]

/-- What is less than infinity in absolute value is a number. -/
theorem number_of {x t : EReal} (ht : t = ⊤) (h : Ideal.cmp .olt (max x (-x)) t = 1#1) : x = ((x.toReal : ℝ) : EReal) := by
  subst ht
  have h := (Ideal.cmp_olt_eq_one _ _).1 h
  have h1 := (max_lt_iff.1 h).1
  have h2 := (max_lt_iff.1 h).2
  refine (EReal.coe_toReal h1.ne ?_).symm
  rintro rfl
  exact h2.ne EReal.neg_bot

/-- The arguments as the precondition allows them. -/
structure Allowed (x0 x1 : FVec Ideal (P2 16384 3) .f32) (x2 x3 : FVec Ideal (P2 16384 1) .f32) (x4 : FVec Ideal (P2 3 256) .f32)
    (x5 : FVec Ideal (P1 256) .f32) (x6 : FVec Ideal (P2 256 1) .f32) (x7 : FVec Ideal (P1 1) .f32) : Prop where
  n0 : Numbers x0
  n1 : Numbers x1
  n2 : Numbers x2
  n3 : Numbers x3
  n4 : Numbers x4
  n5 : Numbers x5
  n6 : Numbers x6
  n7 : Numbers x7
  le : ∀ i, x2 i ≤ x3 i

theorem allowed_of [Cert.Pre_sorted_finite.Facts] {x0 x1 x2 x3 x4 x5 x6 x7} (h : Cert.Pre_sorted_finite.fn (F := Ideal) x0 x1 x2 x3 x4 x5 x6 x7 = fun _ => 1#1) :
    Allowed x0 x1 x2 x3 x4 x5 x6 x7 := by
  have only : Subsingleton S_.Idx := ⟨fun _ _ => funext fun i : Fin 0 => i.elim0⟩
  have e := congrFun h (fun i : Fin 0 => i.elim0)
  unfold Cert.Pre_sorted_finite.fn Cert.Pre_sorted_finite.fn_part1 Cert.Pre_sorted_finite.fn_part2 at e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h1⟩ := IntOp.andi_eq_one.1 e
  obtain ⟨e, h0⟩ := IntOp.andi_eq_one.1 e
  obtain ⟨e, h2⟩ := IntOp.andi_eq_one.1 e
  exact ⟨fun i => number_of wd_top (Host.reduce_andi_all _ _ _ _ _ h0 i), fun i => number_of wd_top (Host.reduce_andi_all _ _ _ _ _ h1 i),
    fun i => number_of wd_top (Host.reduce_andi_all _ _ _ _ _ h2 i), fun i => number_of wd_top (Host.reduce_andi_all _ _ _ _ _ h3 i),
    fun i => number_of wd_top (Host.reduce_andi_all _ _ _ _ _ h4 i), fun i => number_of wd_top (Host.reduce_andi_all _ _ _ _ _ h5 i),
    fun i => number_of wd_top (Host.reduce_andi_all _ _ _ _ _ h6 i), fun i => number_of wd_top (Host.reduce_andi_all _ _ _ _ _ h7 i),
    fun i => (Ideal.cmp_ole_eq_one _ _).1 (Host.reduce_andi_all _ _ _ _ _ e i)⟩

end Cert.Proof

end
-- ==== Proof.Final.lean ====
/- The array the kernel leaves is the reference's: both hold, row by row, the final samples of the row's ray. -/
module

public import proofs.«01_k».proof.Proof.Tie
public import proofs.«01_k».proof.Proof.RefWords
public import proofs.«01_k».proof.Proof.Finite

@[expose] public section

set_option maxRecDepth 16384

noncomputable section

namespace Cert.Proof

open Cert.KernelIdeal Cert.KernelIdeal.Gen
open Idealize.ShloMosaic hiding ix2 ix3 ix1
open Idealize.ShloMosaic.ValueIdx Idealize.ShloMosaic.TcCoe

/-- A row of a matrix as numbers, zero beyond its end. -/
def nums {B n : ℕ} (x : FVec Ideal (P2 B n) .f32) (r : Fin B) (j : ℕ) : ℝ := if h : j < n then (x (ix2 r ⟨j, h⟩)).toReal else 0

theorem nums_row {B n : ℕ} {x : FVec Ideal (P2 B n) .f32} (h : Numbers x) (r : Fin B) : Row r x (nums x r) := fun j hj => by
  unfold nums; rw [dif_pos hj]; exact h _

variable (m : (ℓ : Loc nD τ sig) → Buf (Elt Ideal) ℓ) (c : Dev nD)

/-- The ray of row `q` of the arguments. -/
def rayAt (q : Fin 16384) : Ray where
  o := nums (arg0 m c) q
  d := nums (arg1 m c) q
  W i := if h : i < 3 then nums (arg4 m c) ⟨i, h⟩ else fun _ => 0
  b1 k := if h : k < 256 then (arg5 m c (ix1 ⟨k, h⟩)).toReal else 0
  w2 k := if h : k < 256 then (arg6 m c (ix2 ⟨k, h⟩ 0)).toReal else 0
  b2 := (arg7 m c (ix1 0)).toReal
  near := (arg2 m c (ix2 q 0)).toReal
  far := (arg3 m c (ix2 q 0)).toReal

/-- What the precondition gives of the arguments. -/
abbrev Fine : Prop := Allowed (arg0 m c) (arg1 m c) (arg2 m c) (arg3 m c) (arg4 m c) (arg5 m c) (arg6 m c) (arg7 m c)

variable {m c}

theorem args_of (hA : Fine m c) (q : Fin 16384) :
    Args.Of ⟨arg0 m c, arg1 m c, arg2 m c, arg3 m c, arg4 m c, arg5 m c, arg6 m c, arg7 m c⟩ q (rayAt m c q) where
  o := nums_row hA.n0 q
  d := nums_row hA.n1 q
  near := hA.n2 _
  far := hA.n3 _
  W i h := by
    show Row _ _ (dite _ _ _)
    rw [dif_pos h]; exact nums_row hA.n4 _
  b1 k h := by
    show _ = (((dite _ _ _ : ℝ)) : EReal)
    rw [dif_pos h]; exact hA.n5 _
  w2 k h := by
    show _ = (((dite _ _ _ : ℝ)) : EReal)
    rw [dif_pos h]; exact hA.n6 _
  b2 := hA.n7 _

theorem near_le (hA : Fine m c) (q : Fin 16384) : (rayAt m c q).near ≤ (rayAt m c q).far := by
  have h := hA.le (ix2 q 0)
  rw [hA.n2, hA.n3] at h
  exact EReal.coe_le_coe_iff.1 h

/-- Three columns and five of zeros. -/
theorem padded_row {x : FVec Ideal (P2 16384 3) .f32} {q : Fin 16384} {f : ℕ → ℝ} (hx : Row q x f) :
    Row q (concatenate S16384x8 1 [⟨S16384x3, x⟩, ⟨S16384x5, broadcastInDim S16384x5 ![] bcast_S_S16384x5 (constant (F := Ideal) S_ .f32 0x00000000#32)⟩]
      concatenates_S16384x3_S16384x5_S16384x8_d1) fun i => if i < 3 then f i else 0 :=
  fun j hj => beside_row (show 3 + 5 = 8 from rfl) (y := broadcastInDim S16384x5 ![] bcast_S_S16384x5 (constant (F := Ideal) S_ .f32 0x00000000#32))
    (g := fun _ => 0) hx (fun _ _ => wd_0) j hj

/-- Three rows and five of zeros: row `i`. -/
theorem padded_rows {x : FVec Ideal (P2 3 256) .f32} {f : ℕ → ℕ → ℝ} (hx : ∀ i (h : i < 3), Row ⟨i, h⟩ x (f i)) (i : ℕ) (h : i < 8) :
    Row ⟨i, h⟩ (concatenate S8x256 0 [⟨S3x256, x⟩, ⟨S5x256, broadcastInDim S5x256 ![] bcast_S_S5x256 (constant (F := Ideal) S_ .f32 0x00000000#32)⟩]
      concatenates_S3x256_S5x256_S8x256_d0) fun k => if i < 3 then f i k else 0 := by
  intro k hk
  show _ = (((if i < 3 then f i k else 0 : ℝ)) : EReal)
  by_cases hi : i < 3
  · rw [if_pos hi]
    exact (concatenate_pair_apply_left (0 : Fin (P2 8 256).rank) x _ _ _ rfl (ix2 (⟨i, hi⟩ : Fin 3) (⟨k, hk⟩ : Fin 256)) (fun c => by fin_cases c <;> rfl)).trans (hx i hi k hk)
  · rw [if_neg hi]
    refine (concatenate_pair_apply_right (0 : Fin (P2 8 256).rank) x
      (broadcastInDim S5x256 ![] bcast_S_S5x256 (constant (F := Ideal) S_ .f32 0x00000000#32)) _ _ rfl rfl (ix2 (⟨i - 3, by omega⟩ : Fin 5) (⟨k, hk⟩ : Fin 256)) (fun c hc => ?_) ?_).trans wd_0
    · fin_cases c
      · exact absurd rfl hc
      · rfl
    · show i - 3 + 3 = i
      omega

/-- Two columns and six of zeros: the first two. -/
theorem ends_first (x y : FVec Ideal (P2 16384 1) .f32) (z : FVec Ideal (P2 16384 6) .f32) (q : Fin 16384) :
    concatenate S16384x8 1 [⟨S16384x1, x⟩, ⟨S16384x1, y⟩, ⟨S16384x6, z⟩] concatenates_S16384x1_S16384x1_S16384x6_S16384x8_d1 (ix2 q (0 : Fin 8)) = x (ix2 q 0) :=
  concatenate_apply_piece (t := S16384x8) 1 _ _ _ 0 (by show 0 < 3; omega) S16384x1 x rfl rfl 0 rfl (ix2 q (0 : Fin 1))
    (fun b hb => by fin_cases b; · rfl
                    · exact absurd rfl hb) rfl

theorem ends_second (x y : FVec Ideal (P2 16384 1) .f32) (z : FVec Ideal (P2 16384 6) .f32) (q : Fin 16384) :
    concatenate S16384x8 1 [⟨S16384x1, x⟩, ⟨S16384x1, y⟩, ⟨S16384x6, z⟩] concatenates_S16384x1_S16384x1_S16384x6_S16384x8_d1 (ix2 q (1 : Fin 8)) = y (ix2 q 0) :=
  concatenate_apply_piece (t := S16384x8) 1 _ _ _ 1 (by show 1 < 3; omega) S16384x1 y rfl rfl 1 rfl (ix2 q (0 : Fin 1))
    (fun b hb => by fin_cases b; · rfl
                    · exact absurd rfl hb) rfl

/-- A block of the launch holds the rays of its rows. -/
theorem holds (hA : Fine m c) (t : Fin cfg0.N) (r : Fin 128) :
    Holds (iblk m c 0 t) (iblk m c 1 t) (iblk m c 2 t) (iblk m c 3 t) (iblk m c 4 t) (iblk m c 5 t) (iblk m c 6 t) r (rayAt m c (at' t r)) where
  o j hj := by
    refine (blk0 m c t r ⟨j, hj⟩).trans ?_
    rw [entry_v1]
    exact padded_row (args_of hA _).o j hj
  d j hj := by
    refine (blk1 m c t r ⟨j, hj⟩).trans ?_
    rw [entry_v3]
    exact padded_row (args_of hA _).d j hj
  near := by
    refine (blk2 m c t r 0).trans ?_
    rw [entry_v5]
    exact (ends_first _ _ _ _).trans (args_of hA _).near
  far := by
    refine (blk2 m c t r 1).trans ?_
    rw [entry_v5]
    exact (ends_second _ _ _ _).trans (args_of hA _).far
  W i h k hk := by
    refine (blk3 m c t ⟨i, h⟩ ⟨k, hk⟩).trans ?_
    rw [entry_v7]
    exact padded_rows (args_of hA (at' t r)).W i h k hk
  b1 k hk := by
    refine (blk4 m c t 0 ⟨k, hk⟩).trans ?_
    rw [entry_v8]
    exact (shapeCast_apply _ _ _ (ix1 (⟨k, hk⟩ : Fin 256)) (by rw [Shape.rowMajor_val_two, Shape.rowMajor_val_one]; simp)).trans ((args_of hA (at' t r)).b1 k hk)
  w2 k hk := by
    refine (blk5 m c t 0 ⟨k, hk⟩).trans ?_
    rw [entry_v9]
    exact (shapeCast_apply _ _ _ (ix2 (⟨k, hk⟩ : Fin 256) (0 : Fin 1)) (by rw [Shape.rowMajor_val_two, Shape.rowMajor_val_two]; simp)).trans ((args_of hA (at' t r)).w2 k hk)
  b2 := by
    refine (blk6 m c t 0 0).trans ?_
    rw [entry_v10]
    exact (shapeCast_apply _ _ _ (ix1 (0 : Fin 1)) (by rw [Shape.rowMajor_val_two, Shape.rowMajor_val_one]; simp)).trans (args_of hA (at' t r)).b2

/-- The kernel's result is the reference's. -/
theorem result_eq (hA : Fine m c) :
    (dats m 0 c).arrAt 7 cfg0.N = Cert.ReferenceIdeal.Read.val_main_v666 (F := Ideal) (arg0 m c) (arg1 m c) (arg2 m c) (arg3 m c) (arg4 m c) (arg5 m c) (arg6 m c) (arg7 m c) := by
  refine (dats m 0 c).arrAt_eq_of_covers 7 _ (by decide +kernel) fun t hf y => ?_
  obtain ⟨r, k, rfl⟩ : ∃ (r : Fin 128) (k : Fin 128), y = (ix2 r k : (P2 128 128).Idx) := ⟨y 0, y 1, by funext a; fin_cases a <;> rfl⟩
  rw [emb7]
  have hk := Cert.Proof.Ref.final_row (arg0 m c) (arg1 m c) (arg2 m c) (arg3 m c) (arg4 m c) (arg5 m c) (arg6 m c) (arg7 m c) (args_of hA (at' t r)) (near_le hA (at' t r)) k.val k.isLt
  refine Eq.trans ?_ hk.symm
  have ho := out_row (A := ⟨c, ms0_0 t, hs0_0 t, ms0_1 t, hs0_1 t, ms0_2 t, hs0_2 t, ms0_3 t, hs0_3 t, ms0_4 t, hs0_4 t, ms0_5 t, hs0_5 t, ms0_6 t, hs0_6 t,
    iblk m c 0 t, iblk m c 1 t, iblk m c 2 t, iblk m c 3 t, iblk m c 4 t, iblk m c 5 t, iblk m c 6 t⟩) (holds hA t r) (near_le hA (at' t r)) (grid0.coords t) (ms0_7 t) (hs0_7 t) k.val k.isLt
  refine Eq.trans ?_ ho
  blk_simp
  rw [after0_7]
  rfl

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Final
public import Idealize.ShloMosaic.Adequacy
public import Idealize.ShloMosaic.Init

@[expose] public section

noncomputable section

namespace Cert.Proof

open Idealize.ShloMosaic Idealize.SL.Sem Cert.Kernel

/-- The reference's frame: its run leaves the arguments alone, and it declares no semaphore. -/
theorem frame_reference : Cert.quiescent_ReferenceIdeal (hReferenceIdeal := Cert.ReferenceIdeal.Gen.facts) := fun m ρ _ =>
  letI := Cert.ReferenceIdeal.Gen.facts
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The results agree: the kernel's array is the reference's, as both hold every ray's final samples. -/
theorem values : Cert.algebraic_KernelIdeal_ReferenceIdeal_pre_sorted_finite (hKernelIdeal := Cert.KernelIdeal.Gen.facts)
    (hReferenceIdeal := Cert.ReferenceIdeal.Gen.facts) (hPre_sorted_finite := pre_facts) := by
  letI := Cert.KernelIdeal.Gen.facts
  letI := Cert.ReferenceIdeal.Gen.facts
  letI := pre_facts
  intro m g m' g' hpre hagree
  refine ⟨fun c => (Cert.KernelIdeal.Gen.dats m 0 c).arrAt 7 Cert.KernelIdeal.cfg0.N, Cert.KernelIdeal.Value.run_blocks m g, ?_⟩
  refine (θ_run Cert.ReferenceIdeal.defs _ _).mono (fun r h c => ⟨(h c).1.trans ?_, (h c).2⟩) (Cert.ReferenceIdeal.Value.run (F := Ideal) m' g')
  obtain ⟨a0, a1, a2, a3, a4, a5, a6, a7⟩ := hagree c
  refine (Cert.ReferenceIdeal.Read.val_main_v666_eq (F := Ideal) (StableHlo.launchContents m' c)).trans (Eq.trans ?_ (result_eq (m := m) (c := c) (allowed_of (hpre c))).symm)
  rw [StableHlo.launchContents_devRef, StableHlo.launchContents_devRef, StableHlo.launchContents_devRef, StableHlo.launchContents_devRef,
    StableHlo.launchContents_devRef, StableHlo.launchContents_devRef, StableHlo.launchContents_devRef, StableHlo.launchContents_devRef, a0, a1, a2, a3, a4, a5, a6, a7]

theorem claim : Cert.Claim := ⟨Cert.Kernel.Gen.facts, Cert.KernelIdeal.Gen.facts, Cert.ReferenceIdeal.Gen.facts, pre_facts, by
  exact ⟨fun m ρ _ => Cert.Kernel.Gen.frame m ρ, fun m ρ _ => Cert.KernelIdeal.Gen.frame m ρ, fun m ρ _ => Cert.KernelIdeal.Gen.frame m ρ, frame_reference,
    fun m ρ _ => frame_reference m ρ trivial,
    ⟨IdealRules.named_const.statement Cert.KernelIdeal.κ "step" .f32 0x3C820821#32 ((1 / 63 : ℝ) : EReal) rfl,
    IdealRules.named_const.statement Cert.KernelIdeal.κ "exp_lo" .f32 0xC2200000#32 ⊥ rfl,
    IdealRules.named_const.statement Cert.KernelIdeal.κ "exp_hi" .f32 0x42200000#32 ⊤ rfl⟩, values⟩⟩

end Cert.Proof

end
